-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_context_qk [hPre_finite_context_qk : Cert.Pre_finite_context_qk.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_context_qk.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite_context_qk.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_context_qk [hPre_finite_context_qk : Cert.Pre_finite_context_qk.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_context_qk.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite_context_qk.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_qk [hPre_finite_qk : Cert.Pre_finite_qk.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_qk.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).1 = (fun _ => 1#1)
    ∧ (Cert.Pre_finite_qk.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_qk [hPre_finite_qk : Cert.Pre_finite_qk.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_qk.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))).1 = (fun _ => 1#1)
    ∧ (Cert.Pre_finite_qk.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite_context_qk [hKernel15Ideal : Cert.Kernel15Ideal.Facts] [hPre_finite_context_qk : Cert.Pre_finite_context_qk.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_context_qk m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite_context_qk [hReference15Ideal : Cert.Reference15Ideal.Facts] [hPre_finite_context_qk : Cert.Pre_finite_context_qk.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_context_qk m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite_qk [hKernel19Ideal : Cert.Kernel19Ideal.Facts] [hPre_finite_qk : Cert.Pre_finite_qk.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_qk m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite_qk [hReference19Ideal : Cert.Reference19Ideal.Facts] [hPre_finite_qk : Cert.Pre_finite_qk.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_qk m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def preserves_Kernel_KernelIdeal : Prop :=
  True

def algebraic_KernelIdeal_ReferenceIdeal_on_latent_rows_pre_finite_qk [hKernelIdeal : Cert.KernelIdeal.Facts] [hReferenceIdeal : Cert.ReferenceIdeal.Facts] [hPre_finite_qk : Cert.Pre_finite_qk.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![17408, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![17408, 4096]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v33) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v54) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v39)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v39) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v91) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v39_0)) (v1 : (c : Dev Cert.Kernel12Ideal.nD) → Buf (Elt Ideal) ((c.tc : Thread Cert.Kernel12Ideal.nD Cert.Kernel12Ideal.τ).loc Cert.Kernel12Ideal.main_v39_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v39_0) = v0 c
          ∧ r.2.mem ((c.tc : Thread Cert.Kernel12Ideal.nD Cert.Kernel12Ideal.τ).loc Cert.Kernel12Ideal.main_v39_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v89) = v0 c
          ∧ r.2.mem ((c.tc : Thread Cert.Reference12Ideal.nD Cert.Reference12Ideal.τ).loc Cert.Reference12Ideal.main_v90) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v35) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_pre_finite_context_qk [hKernel15Ideal : Cert.Kernel15Ideal.Facts] [hReference15Ideal : Cert.Reference15Ideal.Facts] [hPre_finite_context_qk : Cert.Pre_finite_context_qk.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_context_qk m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v27) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v34) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v35) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal_pre_finite_qk [hKernel19Ideal : Cert.Kernel19Ideal.Facts] [hReference19Ideal : Cert.Reference19Ideal.Facts] [hPre_finite_qk : Cert.Pre_finite_qk.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_qk m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v51) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite_qk : Cert.Pre_finite_qk.Facts) (hPre_finite_context_qk : Cert.Pre_finite_context_qk.Facts) (hOn_latent_rows : Cert.On_latent_rows.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_context_qk (hKernel15Ideal := hKernel15Ideal) (hPre_finite_context_qk := hPre_finite_context_qk)
    ∧ quiescent_Reference15Ideal (hReference15Ideal := hReference15Ideal)
    ∧ quiescent_Reference15Ideal_pre_finite_context_qk (hReference15Ideal := hReference15Ideal) (hPre_finite_context_qk := hPre_finite_context_qk)
    ∧ quiescent_Kernel16 (hKernel16 := hKernel16)
    ∧ quiescent_Kernel16Ideal (hKernel16Ideal := hKernel16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_qk (hKernel19Ideal := hKernel19Ideal) (hPre_finite_qk := hPre_finite_qk)
    ∧ quiescent_Reference19Ideal (hReference19Ideal := hReference19Ideal)
    ∧ quiescent_Reference19Ideal_pre_finite_qk (hReference19Ideal := hReference19Ideal) (hPre_finite_qk := hPre_finite_qk)
    ∧ preserves_Kernel_KernelIdeal
    ∧ algebraic_KernelIdeal_ReferenceIdeal_on_latent_rows_pre_finite_qk (hKernelIdeal := hKernelIdeal) (hReferenceIdeal := hReferenceIdeal) (hPre_finite_qk := hPre_finite_qk) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_context_qk (hKernel15Ideal := hKernel15Ideal) (hReference15Ideal := hReference15Ideal) (hPre_finite_context_qk := hPre_finite_context_qk)
    ∧ preserves_Kernel16_Kernel16Ideal
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_qk (hKernel19Ideal := hKernel19Ideal) (hReference19Ideal := hReference19Ideal) (hPre_finite_qk := hPre_finite_qk)
-- ==== On_latent_rows.lean ====
abbrev S17408x4096 : Shape := ⟨2, ![17408, 4096]⟩
abbrev S17408x1024 : Shape := ⟨2, ![17408, 1024]⟩
abbrev S_ : Shape := ⟨0, ![]⟩

class Facts : Prop where
  bcast_S_S17408x4096 : S_.BroadcastsInDim S17408x4096 (![] : Fin 0 → Fin S17408x4096.rank)

variable [Facts]

def fn {F : FTy → Type} [FloatOps F] (main_arg0 : FVec F S17408x4096 .bf16) (main_arg1 : FVec F S17408x1024 .bf16) (main_arg2 : FVec F S17408x1024 .bf16) : IVec S17408x4096 1 :=
  let main_v0 : IVec S17408x4096 32 := iotaInDim S17408x4096 32 0
  let main_c : IVec S_ 32 := constantI S_ 32 16384#32
  let main_v1 : IVec S17408x4096 32 := broadcastInDim S17408x4096 ![] bcast_S_S17408x4096 main_c
  let main_v2 : IVec S17408x4096 1 := cmpi .slt main_v0 main_v1
  main_v2
-- ==== Pre_finite_context_qk.lean ====
abbrev S17408x4096 : Shape := ⟨2, ![17408, 4096]⟩
abbrev S17408x1024 : Shape := ⟨2, ![17408, 1024]⟩
abbrev S_ : Shape := ⟨0, ![]⟩

class Facts : Prop where
  bitsLt_bf16_f32 : FTy.bits .bf16 < FTy.bits .f32
  bcast_S_S17408x4096 : S_.BroadcastsInDim S17408x4096 (![] : Fin 0 → Fin S17408x4096.rank)
  bcast_S_S17408x1024 : S_.BroadcastsInDim S17408x1024 (![] : Fin 0 → Fin S17408x1024.rank)

variable [Facts]

def fn {F : FTy → Type} [FloatOps F] (main_arg0 : FVec F S17408x4096 .bf16) (main_arg1 : FVec F S17408x1024 .bf16) (main_arg2 : FVec F S17408x1024 .bf16) (main_arg3 : FVec F S17408x4096 .bf16) : IVec S17408x4096 1 × IVec S17408x1024 1 :=
  let main_v0 : FVec F S17408x4096 .f32 := (extf .f32 · bitsLt_bf16_f32) main_arg0
  let main_v1 : FVec F S17408x4096 .f32 := Host.absf main_v0
  let main_cst : FVec F S_ .f32 := constant S_ .f32 0x7F800000#32
  let main_v2 : FVec F S17408x4096 .f32 := broadcastInDim S17408x4096 ![] bcast_S_S17408x4096 main_cst
  let main_v3 : IVec S17408x4096 1 := cmpf .olt main_v1 main_v2
  let main_v4 : FVec F S17408x1024 .f32 := (extf .f32 · bitsLt_bf16_f32) main_arg1
  let main_v5 : FVec F S17408x1024 .f32 := Host.absf main_v4
  let main_cst_0 : FVec F S_ .f32 := constant S_ .f32 0x7F800000#32
  let main_v6 : FVec F S17408x1024 .f32 := broadcastInDim S17408x1024 ![] bcast_S_S17408x1024 main_cst_0
  let main_v7 : IVec S17408x1024 1 := cmpf .olt main_v5 main_v6
  (main_v3, main_v7)
-- ==== Pre_finite_qk.lean ====
abbrev S17408x4096 : Shape := ⟨2, ![17408, 4096]⟩
abbrev S17408x1024 : Shape := ⟨2, ![17408, 1024]⟩
abbrev S_ : Shape := ⟨0, ![]⟩

class Facts : Prop where
  bitsLt_bf16_f32 : FTy.bits .bf16 < FTy.bits .f32
  bcast_S_S17408x4096 : S_.BroadcastsInDim S17408x4096 (![] : Fin 0 → Fin S17408x4096.rank)
  bcast_S_S17408x1024 : S_.BroadcastsInDim S17408x1024 (![] : Fin 0 → Fin S17408x1024.rank)

variable [Facts]

def fn {F : FTy → Type} [FloatOps F] (main_arg0 : FVec F S17408x4096 .bf16) (main_arg1 : FVec F S17408x1024 .bf16) (main_arg2 : FVec F S17408x1024 .bf16) : IVec S17408x4096 1 × IVec S17408x1024 1 :=
  let main_v0 : FVec F S17408x4096 .f32 := (extf .f32 · bitsLt_bf16_f32) main_arg0
  let main_v1 : FVec F S17408x4096 .f32 := Host.absf main_v0
  let main_cst : FVec F S_ .f32 := constant S_ .f32 0x7F800000#32
  let main_v2 : FVec F S17408x4096 .f32 := broadcastInDim S17408x4096 ![] bcast_S_S17408x4096 main_cst
  let main_v3 : IVec S17408x4096 1 := cmpf .olt main_v1 main_v2
  let main_v4 : FVec F S17408x1024 .f32 := (extf .f32 · bitsLt_bf16_f32) main_arg1
  let main_v5 : FVec F S17408x1024 .f32 := Host.absf main_v4
  let main_cst_0 : FVec F S_ .f32 := constant S_ .f32 0x7F800000#32
  let main_v6 : FVec F S17408x1024 .f32 := broadcastInDim S17408x1024 ![] bcast_S_S17408x1024 main_cst_0
  let main_v7 : IVec S17408x1024 1 := cmpf .olt main_v5 main_v6
  (main_v3, main_v7)
-- ==== Kernel.lean ====
abbrev S17408x4096 : Shape := ⟨2, ![17408, 4096]⟩
abbrev S17408x1024 : Shape := ⟨2, ![17408, 1024]⟩
abbrev S256x512 : Shape := ⟨2, ![256, 512]⟩
abbrev S4096x128 : Shape := ⟨2, ![4096, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x4096 : Shape := ⟨2, ![256, 4096]⟩

abbrev nBuf : Space → Nat
  | .hbm => 4
  | .vmem => 12
  | .smem => 0
  | _ => 0

abbrev bufTy : (tb : Table) → Fin (tcTables nBuf tb) → BufTy
  | .hbm, ⟨0, _⟩ => ⟨S17408x4096, .bf16⟩
  | .hbm, ⟨1, _⟩ => ⟨S17408x1024, .bf16⟩
  | .hbm, ⟨2, _⟩ => ⟨S17408x1024, .bf16⟩
  | .hbm, ⟨3, _⟩ => ⟨S17408x4096, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S17408x4096 : Shape := ⟨2, ![17408, 4096]⟩
abbrev S17408x1024 : Shape := ⟨2, ![17408, 1024]⟩
abbrev S16384x4096 : Shape := ⟨2, ![16384, 4096]⟩
abbrev S4x4096x8x4x128 : Shape := ⟨5, ![4, 4096, 8, 4, 128]⟩
abbrev S16384x1024 : Shape := ⟨2, ![16384, 1024]⟩
abbrev S4x4096x8x128 : Shape := ⟨4, ![4, 4096, 8, 128]⟩
abbrev S1024x1024 : Shape := ⟨2, ![1024, 1024]⟩
abbrev S4x256x8x128 : Shape := ⟨4, ![4, 256, 8, 128]⟩
abbrev S4x4352x8x128 : Shape := ⟨4, ![4, 4352, 8, 128]⟩
abbrev S4x8x4352x4096x4 : Shape := ⟨5, ![4, 8, 4352, 4096, 4]⟩
abbrev S4x8x4x4096x4352 : Shape := ⟨5, ![4, 8, 4, 4096, 4352]⟩
abbrev S_ : Shape := ⟨0, ![]⟩
abbrev S4x8x4x4096 : Shape := ⟨4, ![4, 8, 4, 4096]⟩
abbrev S4x8x4x4096x1 : Shape := ⟨5, ![4, 8, 4, 4096, 1]⟩
abbrev S4x8x128x4x4096 : Shape := ⟨5, ![4, 8, 128, 4, 4096]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S17408x1024, .bf16⟩
  | .hbm, ⟨2, _⟩ => ⟨S17408x1024, .bf16⟩
  | .hbm, ⟨3, _⟩ => ⟨S17408x4096, .f32⟩
  | .hbm, ⟨4, _⟩ => ⟨S17408x1024, .f32⟩
  | .hbm, ⟨5, _⟩ => ⟨S17408x1024, .f32⟩
  | .hbm, ⟨6, _⟩ => ⟨S16384x4096, .f32⟩
  | .hbm, ⟨7, _⟩ => ⟨S4x4096x8x4x128, .f32⟩
  | .hbm, ⟨8, _⟩ => ⟨S16384x1024, .f32⟩
  | .hbm, ⟨9, _⟩ => ⟨S4x4096x8x128, .f32⟩
  | .hbm, ⟨10, _⟩ => ⟨S1024x1024, .f32⟩
  | .hbm, ⟨11, _⟩ => ⟨S4x256x8x128, .f32⟩
  | .hbm, ⟨12, _⟩ => ⟨S4x4352x8x128, .f32⟩
  | .hbm, ⟨13, _⟩ => ⟨S16384x1024, .f32⟩
  | .hbm, ⟨14, _⟩ => ⟨S4x4096x8x128, .f32⟩
  | .hbm, ⟨15, _⟩ => ⟨S1024x1024, .f32⟩
  | .hbm, ⟨16, _⟩ => ⟨S4x256x8x128, .f32⟩
  | .hbm, ⟨17, _⟩ => ⟨S4x4352x8x128, .f32⟩
  | .hbm, ⟨18, _⟩ => ⟨S4x8x4352x4096x4, .f32⟩
  | .hbm, ⟨19, _⟩ => ⟨S4x8x4x4096x4352, .f32⟩
  | .hbm, ⟨20, _⟩ => ⟨S_, .f32⟩
  | .hbm, ⟨21, _⟩ => ⟨S4x8x4x4096, .f32⟩
  | .hbm, ⟨22, _⟩ => ⟨S_, .f32⟩
  | .hbm, ⟨23, _⟩ => ⟨S4x8x4x4096, .f32⟩
  | .hbm, ⟨24, _⟩ => ⟨S4x8x4x4096, .f32⟩
  | .hbm, ⟨25, _⟩ => ⟨S4x8x4x4096x1, .f32⟩
  | .hbm, ⟨26, _⟩ => ⟨S4x8x4x4096x4352, .f32⟩
  | .hbm, ⟨27, _⟩ => ⟨S4x8x4x4096x4352, .f32⟩
  | .hbm, ⟨28, _⟩ => ⟨S4x8x4x4096x4352, .f32⟩
  | .hbm, ⟨29, _⟩ => ⟨S_, .f32⟩
  | .hbm, ⟨30, _⟩ => ⟨S4x8x4x4096, .f32⟩
  | .hbm, ⟨31, _⟩ => ⟨S4x8x4x4096x1, .f32⟩
  | .hbm, ⟨32, _⟩ => ⟨S4x8x4x4096x4352, .f32⟩
  | .hbm, ⟨33, _⟩ => ⟨S4x8x4x4096x4352, .f32⟩
  | .hbm, ⟨34, _⟩ => ⟨S4x8x128x4x4096, .f32⟩
  | .hbm, ⟨35, _⟩ => ⟨S4x4096x8x4x128, .f32⟩
  | .hbm, ⟨36, _⟩ => ⟨S16384x4096, .f32⟩
  | .hbm, ⟨37, _⟩ => ⟨S16384x4096, .bf16⟩
  | .hbm, ⟨38, _⟩ => ⟨S_, .bf16⟩
  | .hbm, ⟨39, _⟩ => ⟨S1024x4096, .bf16⟩
  | .hbm, ⟨40, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel2.lean ====
abbrev S17408x4096 : Shape := ⟨2, ![17408, 4096]⟩
abbrev S4x4096x16384 : Shape := ⟨3, ![4, 4096, 16384]⟩
abbrev S17408x16384 : Shape := ⟨2, ![17408, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S17408x4096, .bf16⟩
  | .hbm, ⟨1, _⟩ => ⟨S4x4096x16384, .f32⟩
  | .hbm, ⟨2, _⟩ => ⟨S17408x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .f32⟩
  | .local _ .vmem, ⟨3, _⟩ => ⟨S1024x1024, .bf16⟩
  | .local _ .vmem, ⟨4, _⟩ => ⟨S1024x1024, .bf16⟩
  | .local _ .vmem, ⟨5, _⟩ => ⟨S4096x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S17408x4096 : Shape := ⟨2, ![17408, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S17408x16384 : Shape := ⟨2, ![17408, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4x4096x16384, .f32⟩
  | .hbm, ⟨2, _⟩ => ⟨S17408x4096, .f32⟩
  | .hbm, ⟨3, _⟩ => ⟨S1x4096x16384, .f32⟩
  | .hbm, ⟨4, _⟩ => ⟨S4096x16384, .f32⟩
  | .hbm, ⟨5, _⟩ => ⟨S17408x16384, .f32⟩
  | .hbm, ⟨6, _⟩ => ⟨S_, .f32⟩
  | .hbm, ⟨7, _⟩ => ⟨S17408x16384, .f32⟩
  | .hbm, ⟨8, _⟩ => ⟨S17408x16384, .f32⟩
  | .hbm, ⟨9, _⟩ => ⟨S17408x16384, .f32⟩
  | .hbm, ⟨10, _⟩ => ⟨S17408x16384, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x512 : Shape := ⟨4, ![1, 1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c1024_i32_0 : BitVec 32 := 1024#32
  let v2 : BitVec 32 := Scalar.muli arg1 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c5_i32 : BitVec 32 := 5#32
  let c0_i32_5 : BitVec 32 := 0#32
  let c0_i32_6 : BitVec 32 := 0#32
  ![c5_i32.toNat, v20.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x4096 : Shape := ⟨2, ![1, 4096]⟩
abbrev S1x1024x4096 : Shape := ⟨3, ![1, 1024, 4096]⟩
abbrev S1024x4096 : Shape := ⟨2, ![1024, 4096]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S1x4x1x4096, .f32⟩
  | .hbm, ⟨5, _⟩ => ⟨S4x4096, .f32⟩
  | .hbm, ⟨6, _⟩ => ⟨S4x4096x4096, .f32⟩
  | .hbm, ⟨7, _⟩ => ⟨S16384x4096, .f32⟩
  | .hbm, ⟨8, _⟩ => ⟨S1x1x1x4096, .f32⟩
  | .hbm, ⟨9, _⟩ => ⟨S1x4096, .f32⟩
  | .hbm, ⟨10, _⟩ => ⟨S1x1024x4096, .f32⟩
  | .hbm, ⟨11, _⟩ => ⟨S1024x4096, .f32⟩
  | .hbm, ⟨12, _⟩ => ⟨S17408x4096, .f32⟩
  | .hbm, ⟨13, _⟩ => ⟨S17408x4096, .bf16⟩
  | .hbm, ⟨14, _⟩ => ⟨S17408x4096, .f32⟩
  | .hbm, ⟨15, _⟩ => ⟨S1x4096x4096, .f32⟩
  | .hbm, ⟨16, _⟩ => ⟨S4096x4096, .f32⟩
  | .hbm, ⟨17, _⟩ => ⟨S17408x4096, .f32⟩
  | .hbm, ⟨18, _⟩ => ⟨S17408x4096, .f32⟩
  | .hbm, ⟨19, _⟩ => ⟨S17408x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel4.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x512 : Shape := ⟨4, ![1, 1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c1_i32 : BitVec 32 := 1#32
  let c0_i32_1 : BitVec 32 := 0#32
  ![c0_i32_0.toNat, c1_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c1024_i32_0 : BitVec 32 := 1024#32
  let v2 : BitVec 32 := Scalar.muli arg1 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c5_i32 : BitVec 32 := 5#32
  let c0_i32_5 : BitVec 32 := 0#32
  let c0_i32_6 : BitVec 32 := 0#32
  ![c5_i32.toNat, v20.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x4096 : Shape := ⟨2, ![1, 4096]⟩
abbrev S1x1024x4096 : Shape := ⟨3, ![1, 1024, 4096]⟩
abbrev S1024x4096 : Shape := ⟨2, ![1024, 4096]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S1x4x1x4096, .f32⟩
  | .hbm, ⟨5, _⟩ => ⟨S4x4096, .f32⟩
  | .hbm, ⟨6, _⟩ => ⟨S4x4096x4096, .f32⟩
  | .hbm, ⟨7, _⟩ => ⟨S16384x4096, .f32⟩
  | .hbm, ⟨8, _⟩ => ⟨S1x1x1x4096, .f32⟩
  | .hbm, ⟨9, _⟩ => ⟨S1x4096, .f32⟩
  | .hbm, ⟨10, _⟩ => ⟨S1x1024x4096, .f32⟩
  | .hbm, ⟨11, _⟩ => ⟨S1024x4096, .f32⟩
  | .hbm, ⟨12, _⟩ => ⟨S17408x4096, .f32⟩
  | .hbm, ⟨13, _⟩ => ⟨S17408x4096, .bf16⟩
  | .hbm, ⟨14, _⟩ => ⟨S17408x4096, .f32⟩
  | .hbm, ⟨15, _⟩ => ⟨S1x4096x4096, .f32⟩
  | .hbm, ⟨16, _⟩ => ⟨S4096x4096, .f32⟩
  | .hbm, ⟨17, _⟩ => ⟨S17408x4096, .f32⟩
  | .hbm, ⟨18, _⟩ => ⟨S17408x4096, .f32⟩
  | .hbm, ⟨19, _⟩ => ⟨S17408x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel5.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x512 : Shape := ⟨4, ![1, 1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c2_i32 : BitVec 32 := 2#32
  let c0_i32_1 : BitVec 32 := 0#32
  ![c0_i32_0.toNat, c2_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c1024_i32_0 : BitVec 32 := 1024#32
  let v2 : BitVec 32 := Scalar.muli arg1 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c5_i32 : BitVec 32 := 5#32
  let c0_i32_5 : BitVec 32 := 0#32
  let c0_i32_6 : BitVec 32 := 0#32
  ![c5_i32.toNat, v20.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x4096 : Shape := ⟨2, ![1, 4096]⟩
abbrev S1x1024x4096 : Shape := ⟨3, ![1, 1024, 4096]⟩
abbrev S1024x4096 : Shape := ⟨2, ![1024, 4096]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S1x4x1x4096, .f32⟩
  | .hbm, ⟨5, _⟩ => ⟨S4x4096, .f32⟩
  | .hbm, ⟨6, _⟩ => ⟨S4x4096x4096, .f32⟩
  | .hbm, ⟨7, _⟩ => ⟨S16384x4096, .f32⟩
  | .hbm, ⟨8, _⟩ => ⟨S1x1x1x4096, .f32⟩
  | .hbm, ⟨9, _⟩ => ⟨S1x4096, .f32⟩
  | .hbm, ⟨10, _⟩ => ⟨S1x1024x4096, .f32⟩
  | .hbm, ⟨11, _⟩ => ⟨S1024x4096, .f32⟩
  | .hbm, ⟨12, _⟩ => ⟨S17408x4096, .f32⟩
  | .hbm, ⟨13, _⟩ => ⟨S17408x4096, .bf16⟩
  | .hbm, ⟨14, _⟩ => ⟨S17408x4096, .f32⟩
  | .hbm, ⟨15, _⟩ => ⟨S1x4096x4096, .f32⟩
  | .hbm, ⟨16, _⟩ => ⟨S4096x4096, .f32⟩
  | .hbm, ⟨17, _⟩ => ⟨S17408x4096, .f32⟩
  | .hbm, ⟨18, _⟩ => ⟨S17408x4096, .f32⟩
  | .hbm, ⟨19, _⟩ => ⟨S17408x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel6.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x512 : Shape := ⟨4, ![1, 1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c3_i32 : BitVec 32 := 3#32
  let c0_i32_1 : BitVec 32 := 0#32
  ![c0_i32_0.toNat, c3_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c1024_i32_0 : BitVec 32 := 1024#32
  let v2 : BitVec 32 := Scalar.muli arg1 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c5_i32 : BitVec 32 := 5#32
  let c0_i32_5 : BitVec 32 := 0#32
  let c0_i32_6 : BitVec 32 := 0#32
  ![c5_i32.toNat, v20.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S17408x4096 : Shape := ⟨2, ![17408, 4096]⟩
abbrev S17408x16384 : Shape := ⟨2, ![17408, 16384]⟩
abbrev S4x16384x4096 : Shape := ⟨3, ![4, 16384, 4096]⟩
abbrev S6x8x1x4096 : Shape := ⟨4, ![6, 8, 1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x4096 : Shape := ⟨2, ![1, 4096]⟩
abbrev S1x1024x4096 : Shape := ⟨3, ![1, 1024, 4096]⟩
abbrev S1024x4096 : Shape := ⟨2, ![1024, 4096]⟩
abbrev S1x4096x4096 : Shape := ⟨3, ![1, 4096, 4096]⟩
abbrev S4096x4096 : Shape := ⟨2, ![4096, 4096]⟩

abbrev nBuf : Space → Nat
  | .hbm => 20
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x16384, .bf16⟩
  | .hbm, ⟨2, _⟩ => ⟨S4x16384x4096, .f32⟩
  | .hbm, ⟨3, _⟩ => ⟨S6x8x1x4096, .f32⟩
  | .hbm, ⟨4, _⟩ => ⟨S1x4x1x4096, .f32⟩
  | .hbm, ⟨5, _⟩ => ⟨S4x4096, .f32⟩
  | .hbm, ⟨6, _⟩ => ⟨S4x4096x4096, .f32⟩
  | .hbm, ⟨7, _⟩ => ⟨S16384x4096, .f32⟩
  | .hbm, ⟨8, _⟩ => ⟨S1x1x1x4096, .f32⟩
  | .hbm, ⟨9, _⟩ => ⟨S1x4096, .f32⟩
  | .hbm, ⟨10, _⟩ => ⟨S1x1024x4096, .f32⟩
  | .hbm, ⟨11, _⟩ => ⟨S1024x4096, .f32⟩
  | .hbm, ⟨12, _⟩ => ⟨S17408x4096, .f32⟩
  | .hbm, ⟨13, _⟩ => ⟨S17408x4096, .bf16⟩
  | .hbm, ⟨14, _⟩ => ⟨S17408x4096, .f32⟩
  | .hbm, ⟨15, _⟩ => ⟨S1x4096x4096, .f32⟩
  | .hbm, ⟨16, _⟩ => ⟨S4096x4096, .f32⟩
  | .hbm, ⟨17, _⟩ => ⟨S17408x4096, .f32⟩
  | .hbm, ⟨18, _⟩ => ⟨S17408x4096, .f32⟩
  | .hbm, ⟨19, _⟩ => ⟨S17408x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel7.lean ====
abbrev S17408x4096 : Shape := ⟨2, ![17408, 4096]⟩
abbrev S2x4096x8192 : Shape := ⟨3, ![2, 4096, 8192]⟩
abbrev S6x8x1x4096 : Shape := ⟨4, ![6, 8, 1, 4096]⟩
abbrev S1024x4096 : Shape := ⟨2, ![1024, 4096]⟩
abbrev S1x4096x256 : Shape := ⟨3, ![1, 4096, 256]⟩
abbrev S1024x256 : Shape := ⟨2, ![1024, 256]⟩
abbrev S1x1x1x256 : Shape := ⟨4, ![1, 1, 1, 256]⟩
abbrev S4096x256 : Shape := ⟨2, ![4096, 256]⟩
abbrev S1x256 : Shape := ⟨2, ![1, 256]⟩

abbrev nBuf : Space → Nat
  | .hbm => 5
  | .vmem => 14
  | .smem => 0
  | _ => 0

abbrev bufTy : (tb : Table) → Fin (tcTables nBuf tb) → BufTy
  | .hbm, ⟨0, _⟩ => ⟨S17408x4096, .f32⟩
  | .hbm, ⟨1, _⟩ => ⟨S17408x4096, .bf16⟩
  | .hbm, ⟨2, _⟩ => ⟨S2x4096x8192, .f32⟩
  | .hbm, ⟨3, _⟩ => ⟨S6x8x1x4096, .f32⟩
  | .hbm, ⟨4, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .f32⟩
  | .local _ .vmem, ⟨7, _⟩ => ⟨S1024x256, .f32⟩
  | .local _ .vmem, ⟨8, _⟩ => ⟨S1x1x1x256, .f32⟩
  | .local _ .vmem, ⟨9, _⟩ => ⟨S1x1x1x256, .f32⟩
  | .local _ .vmem, ⟨10, _⟩ => ⟨S1024x256, .f32⟩
  | .local _ .vmem, ⟨11, _⟩ => ⟨S1024x256, .f32⟩
  | .local _ .vmem, ⟨12, _⟩ => ⟨S4096x256, .bf16⟩
  | .local _ .vmem, ⟨13, _⟩ => ⟨S4096x256, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c1024_i32_0 : BitVec 32 := 1024#32
  let v2 : BitVec 32 := Scalar.muli arg1 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c2_i32 : BitVec 32 := 2#32
  let c0_i32_5 : BitVec 32 := 0#32
  let c0_i32_6 : BitVec 32 := 0#32
  ![c2_i32.toNat, v20.toNat, c0_i32_5.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S17408x4096 : Shape := ⟨2, ![17408, 4096]⟩
abbrev S2x4096x8192 : Shape := ⟨3, ![2, 4096, 8192]⟩
abbrev S6x8x1x4096 : Shape := ⟨4, ![6, 8, 1, 4096]⟩
abbrev S1x4096x8192 : Shape := ⟨3, ![1, 4096, 8192]⟩
abbrev S4096x8192 : Shape := ⟨2, ![4096, 8192]⟩
abbrev S17408x8192 : Shape := ⟨2, ![17408, 8192]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x4096 : Shape := ⟨2, ![1, 4096]⟩
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x4096, .bf16⟩
  | .hbm, ⟨2, _⟩ => ⟨S2x4096x8192, .f32⟩
  | .hbm, ⟨3, _⟩ => ⟨S6x8x1x4096, .f32⟩
  | .hbm, ⟨4, _⟩ => ⟨S17408x4096, .f32⟩
  | .hbm, ⟨5, _⟩ => ⟨S1x4096x8192, .f32⟩
  | .hbm, ⟨6, _⟩ => ⟨S4096x8192, .f32⟩
  | .hbm, ⟨7, _⟩ => ⟨S17408x8192, .f32⟩
  | .hbm, ⟨8, _⟩ => ⟨S17408x4096, .f32⟩
  | .hbm, ⟨9, _⟩ => ⟨S17408x4096, .f32⟩
  | .hbm, ⟨10, _⟩ => ⟨S1x4x1x4096, .f32⟩
  | .hbm, ⟨11, _⟩ => ⟨S4x4096, .f32⟩
  | .hbm, ⟨12, _⟩ => ⟨S4x4096x4096, .f32⟩
  | .hbm, ⟨13, _⟩ => ⟨S16384x4096, .f32⟩
  | .hbm, ⟨14, _⟩ => ⟨S1x1x1x4096, .f32⟩
  | .hbm, ⟨15, _⟩ => ⟨S1x4096, .f32⟩
  | .hbm, ⟨16, _⟩ => ⟨S1x1024x4096, .f32⟩
  | .hbm, ⟨17, _⟩ => ⟨S1024x4096, .f32⟩
  | .hbm, ⟨18, _⟩ => ⟨S17408x4096, .f32⟩
  | .hbm, ⟨19, _⟩ => ⟨S17408x4096, .f32⟩
  | .hbm, ⟨20, _⟩ => ⟨S17408x4096, .f32⟩
  | .hbm, ⟨21, _⟩ => ⟨S_, .f32⟩
  | .hbm, ⟨22, _⟩ => ⟨S17408x4096, .f32⟩
  | .hbm, ⟨23, _⟩ => ⟨S17408x4096, .f32⟩
  | .hbm, ⟨24, _⟩ => ⟨S_, .f32⟩
  | .hbm, ⟨25, _⟩ => ⟨S17408x4096, .f32⟩
  | .hbm, ⟨26, _⟩ => ⟨S17408x4096, .f32⟩
  | .hbm, ⟨27, _⟩ => ⟨S17408x4096, .f32⟩
  | .hbm, ⟨28, _⟩ => ⟨S17408x4096, .f32⟩
  | .hbm, ⟨29, _⟩ => ⟨S17408x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel8.lean ====
abbrev S17408x4096 : Shape := ⟨2, ![17408, 4096]⟩
abbrev S1x4096x4096 : Shape := ⟨3, ![1, 4096, 4096]⟩
abbrev S6x8x1x4096 : Shape := ⟨4, ![6, 8, 1, 4096]⟩
abbrev S1024x4096 : Shape := ⟨2, ![1024, 4096]⟩
abbrev S1x4096x512 : Shape := ⟨3, ![1, 4096, 512]⟩
abbrev S1024x512 : Shape := ⟨2, ![1024, 512]⟩
abbrev S1x1x1x512 : Shape := ⟨4, ![1, 1, 1, 512]⟩
abbrev S4096x512 : Shape := ⟨2, ![4096, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S17408x4096, .f32⟩
  | .hbm, ⟨1, _⟩ => ⟨S17408x4096, .bf16⟩
  | .hbm, ⟨2, _⟩ => ⟨S1x4096x4096, .f32⟩
  | .hbm, ⟨3, _⟩ => ⟨S6x8x1x4096, .f32⟩
  | .hbm, ⟨4, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c1024_i32_0 : BitVec 32 := 1024#32
  let v2 : BitVec 32 := Scalar.muli arg1 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c2_i32 : BitVec 32 := 2#32
  let c0_i32_5 : BitVec 32 := 0#32
  let c0_i32_6 : BitVec 32 := 0#32
  ![c2_i32.toNat, v20.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S17408x4096 : Shape := ⟨2, ![17408, 4096]⟩
abbrev S1x4096x4096 : Shape := ⟨3, ![1, 4096, 4096]⟩
abbrev S6x8x1x4096 : Shape := ⟨4, ![6, 8, 1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x4096 : Shape := ⟨2, ![1, 4096]⟩
abbrev S1x1024x4096 : Shape := ⟨3, ![1, 1024, 4096]⟩
abbrev S1024x4096 : Shape := ⟨2, ![1024, 4096]⟩
abbrev S4096x4096 : Shape := ⟨2, ![4096, 4096]⟩

abbrev nBuf : Space → Nat
  | .hbm => 18
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x4096, .bf16⟩
  | .hbm, ⟨2, _⟩ => ⟨S1x4096x4096, .f32⟩
  | .hbm, ⟨3, _⟩ => ⟨S6x8x1x4096, .f32⟩
  | .hbm, ⟨4, _⟩ => ⟨S1x4x1x4096, .f32⟩
  | .hbm, ⟨5, _⟩ => ⟨S4x4096, .f32⟩
  | .hbm, ⟨6, _⟩ => ⟨S4x4096x4096, .f32⟩
  | .hbm, ⟨7, _⟩ => ⟨S16384x4096, .f32⟩
  | .hbm, ⟨8, _⟩ => ⟨S1x1x1x4096, .f32⟩
  | .hbm, ⟨9, _⟩ => ⟨S1x4096, .f32⟩
  | .hbm, ⟨10, _⟩ => ⟨S1x1024x4096, .f32⟩
  | .hbm, ⟨11, _⟩ => ⟨S1024x4096, .f32⟩
  | .hbm, ⟨12, _⟩ => ⟨S17408x4096, .f32⟩
  | .hbm, ⟨13, _⟩ => ⟨S17408x4096, .f32⟩
  | .hbm, ⟨14, _⟩ => ⟨S4096x4096, .f32⟩
  | .hbm, ⟨15, _⟩ => ⟨S17408x4096, .f32⟩
  | .hbm, ⟨16, _⟩ => ⟨S17408x4096, .f32⟩
  | .hbm, ⟨17, _⟩ => ⟨S17408x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel9.lean ====
abbrev S17408x4096 : Shape := ⟨2, ![17408, 4096]⟩
abbrev S1x4096x12288 : Shape := ⟨3, ![1, 4096, 12288]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 12
  | .smem => 0
  | _ => 0

abbrev bufTy : (tb : Table) → Fin (tcTables nBuf tb) → BufTy
  | .hbm, ⟨0, _⟩ => ⟨S17408x4096, .bf16⟩
  | .hbm, ⟨1, _⟩ => ⟨S1x4096x12288, .f32⟩
  | .hbm, ⟨2, _⟩ => ⟨S17408x4096, .bf16⟩
  | .hbm, ⟨3, _⟩ => ⟨S17408x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S4096x256, .bf16⟩
  | .local _ .vmem, ⟨10, _⟩ => ⟨S4096x256, .bf16⟩
  | .local _ .vmem, ⟨11, _⟩ => ⟨S4096x256, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S17408x4096 : Shape := ⟨2, ![17408, 4096]⟩
abbrev S1x4096x12288 : Shape := ⟨3, ![1, 4096, 12288]⟩
abbrev S4096x12288 : Shape := ⟨2, ![4096, 12288]⟩
abbrev S17408x12288 : Shape := ⟨2, ![17408, 12288]⟩

abbrev nBuf : Space → Nat
  | .hbm => 11
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x12288, .f32⟩
  | .hbm, ⟨2, _⟩ => ⟨S17408x4096, .f32⟩
  | .hbm, ⟨3, _⟩ => ⟨S4096x12288, .f32⟩
  | .hbm, ⟨4, _⟩ => ⟨S17408x12288, .f32⟩
  | .hbm, ⟨5, _⟩ => ⟨S17408x4096, .f32⟩
  | .hbm, ⟨6, _⟩ => ⟨S17408x4096, .f32⟩
  | .hbm, ⟨7, _⟩ => ⟨S17408x4096, .f32⟩
  | .hbm, ⟨8, _⟩ => ⟨S17408x4096, .bf16⟩
  | .hbm, ⟨9, _⟩ => ⟨S17408x4096, .f32⟩
  | .hbm, ⟨10, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel10.lean ====
abbrev S17408x4096 : Shape := ⟨2, ![17408, 4096]⟩
abbrev S3x4096 : Shape := ⟨2, ![3, 4096]⟩
abbrev S_ : Shape := ⟨0, ![]⟩
abbrev S5x4096 : Shape := ⟨2, ![5, 4096]⟩
abbrev S8x4096 : Shape := ⟨2, ![8, 4096]⟩
abbrev S256x1024 : Shape := ⟨2, ![256, 1024]⟩
abbrev S8x1024 : Shape := ⟨2, ![8, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S17408x4096, .bf16⟩
  | .hbm, ⟨1, _⟩ => ⟨S17408x4096, .bf16⟩
  | .hbm, ⟨2, _⟩ => ⟨S3x4096, .f32⟩
  | .hbm, ⟨3, _⟩ => ⟨S_, .f32⟩
  | .hbm, ⟨4, _⟩ => ⟨S5x4096, .f32⟩
  | .hbm, ⟨5, _⟩ => ⟨S8x4096, .f32⟩
  | .hbm, ⟨6, _⟩ => ⟨S17408x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S8x1024, .bf16⟩
  | .local _ .vmem, ⟨5, _⟩ => ⟨S8x1024, .bf16⟩
  | .local _ .vmem, ⟨6, _⟩ => ⟨S8x1024, .bf16⟩
  | .local _ .vmem, ⟨7, _⟩ => ⟨S8x1024, .bf16⟩
  | .local _ .vmem, ⟨8, _⟩ => ⟨S8x1024, .f32⟩
  | .local _ .vmem, ⟨9, _⟩ => ⟨S8x1024, .f32⟩
  | .local _ .vmem, ⟨10, _⟩ => ⟨S256x1024, .bf16⟩
  | .local _ .vmem, ⟨11, _⟩ => ⟨S256x1024, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![68, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2175_i32 : BitVec 32 := 2175#32
  let v2 : BitVec 32 := Scalar.minsi v1 c2175_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S17408x4096 : Shape := ⟨2, ![17408, 4096]⟩
abbrev S3x4096 : Shape := ⟨2, ![3, 4096]⟩
abbrev S16384x4096 : Shape := ⟨2, ![16384, 4096]⟩
abbrev S4x4096x4096 : Shape := ⟨3, ![4, 4096, 4096]⟩
abbrev S_ : Shape := ⟨0, ![]⟩
abbrev S4x1x4096 : Shape := ⟨3, ![4, 1, 4096]⟩
abbrev S4x4095x4096 : Shape := ⟨3, ![4, 4095, 4096]⟩
abbrev S1x4096 : Shape := ⟨2, ![1, 4096]⟩
abbrev S4096 : Shape := ⟨1, ![4096]⟩
abbrev S1x1x4096 : Shape := ⟨3, ![1, 1, 4096]⟩
abbrev S1024x4096 : Shape := ⟨2, ![1024, 4096]⟩
abbrev S4x256x4096 : Shape := ⟨3, ![4, 256, 4096]⟩
abbrev S4x255x4096 : Shape := ⟨3, ![4, 255, 4096]⟩

abbrev nBuf : Space → Nat
  | .hbm => 60
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S17408x4096, .bf16⟩
  | .hbm, ⟨2, _⟩ => ⟨S3x4096, .f32⟩
  | .hbm, ⟨3, _⟩ => ⟨S17408x4096, .f32⟩
  | .hbm, ⟨4, _⟩ => ⟨S16384x4096, .f32⟩
  | .hbm, ⟨5, _⟩ => ⟨S4x4096x4096, .f32⟩
  | .hbm, ⟨6, _⟩ => ⟨S_, .f32⟩
  | .hbm, ⟨7, _⟩ => ⟨S4x1x4096, .f32⟩
  | .hbm, ⟨8, _⟩ => ⟨S4x4095x4096, .f32⟩
  | .hbm, ⟨9, _⟩ => ⟨S4x4096x4096, .f32⟩
  | .hbm, ⟨10, _⟩ => ⟨S4x4095x4096, .f32⟩
  | .hbm, ⟨11, _⟩ => ⟨S4x4096x4096, .f32⟩
  | .hbm, ⟨12, _⟩ => ⟨S1x4096, .f32⟩
  | .hbm, ⟨13, _⟩ => ⟨S4096, .f32⟩
  | .hbm, ⟨14, _⟩ => ⟨S1x1x4096, .f32⟩
  | .hbm, ⟨15, _⟩ => ⟨S4x4096x4096, .f32⟩
  | .hbm, ⟨16, _⟩ => ⟨S4x4096x4096, .f32⟩
  | .hbm, ⟨17, _⟩ => ⟨S1x4096, .f32⟩
  | .hbm, ⟨18, _⟩ => ⟨S4096, .f32⟩
  | .hbm, ⟨19, _⟩ => ⟨S1x1x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S16384x4096, .f32⟩
  | .hbm, ⟨30, _⟩ => ⟨S1024x4096, .f32⟩
  | .hbm, ⟨31, _⟩ => ⟨S4x256x4096, .f32⟩
  | .hbm, ⟨32, _⟩ => ⟨S_, .f32⟩
  | .hbm, ⟨33, _⟩ => ⟨S4x1x4096, .f32⟩
  | .hbm, ⟨34, _⟩ => ⟨S4x255x4096, .f32⟩
  | .hbm, ⟨35, _⟩ => ⟨S4x256x4096, .f32⟩
  | .hbm, ⟨36, _⟩ => ⟨S4x255x4096, .f32⟩
  | .hbm, ⟨37, _⟩ => ⟨S4x256x4096, .f32⟩
  | .hbm, ⟨38, _⟩ => ⟨S1x4096, .f32⟩
  | .hbm, ⟨39, _⟩ => ⟨S4096, .f32⟩
  | .hbm, ⟨40, _⟩ => ⟨S1x1x4096, .f32⟩
  | .hbm, ⟨41, _⟩ => ⟨S4x256x4096, .f32⟩
  | .hbm, ⟨42, _⟩ => ⟨S4x256x4096, .f32⟩
  | .hbm, ⟨43, _⟩ => ⟨S1x4096, .f32⟩
  | .hbm, ⟨44, _⟩ => ⟨S4096, .f32⟩
  | .hbm, ⟨45, _⟩ => ⟨S1x1x4096, .f32⟩
  | .hbm, ⟨46, _⟩ => ⟨S4x256x4096, .f32⟩
  | .hbm, ⟨47, _⟩ => ⟨S4x256x4096, .f32⟩
  | .hbm, ⟨48, _⟩ => ⟨S4x256x4096, .f32⟩
  | .hbm, ⟨49, _⟩ => ⟨S1x4096, .f32⟩
  | .hbm, ⟨50, _⟩ => ⟨S4096, .f32⟩
  | .hbm, ⟨51, _⟩ => ⟨S1x1x4096, .f32⟩
  | .hbm, ⟨52, _⟩ => ⟨S4x256x4096, .f32⟩
  | .hbm, ⟨53, _⟩ => ⟨S4x256x4096, .f32⟩
  | .hbm, ⟨54, _⟩ => ⟨S4x256x4096, .f32⟩
  | .hbm, ⟨55, _⟩ => ⟨S1024x4096, .f32⟩
  | .hbm, ⟨56, _⟩ => ⟨S17408x4096, .f32⟩
  | .hbm, ⟨57, _⟩ => ⟨S17408x4096, .f32⟩
  | .hbm, ⟨58, _⟩ => ⟨S17408x4096, .f32⟩
  | .hbm, ⟨59, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩

abbrev nD : Nat := 1
abbrev τ : Topo := Topo.v7x

variable {F : FTy → Type} [FloatOps F]
-- ==== Kernel11.lean ====
abbrev S17408x4096 : Shape := ⟨2, ![17408, 4096]⟩
abbrev S1x4096x6144 : Shape := ⟨3, ![1, 4096, 6144]⟩
abbrev S128 : Shape := ⟨1, ![128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1024x128 : Shape := ⟨2, ![1024, 128]⟩
abbrev S5120x128 : Shape := ⟨2, ![5120, 128]⟩
abbrev S1x128 : Shape := ⟨2, ![1, 128]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1024 : Shape := ⟨1, ![1024]⟩
abbrev S1024x1 : Shape := ⟨2, ![1024, 1]⟩

abbrev nBuf : Space → Nat
  | .hbm => 47
  | .vmem => 12
  | .smem => 0
  | _ => 0

abbrev bufTy : (tb : Table) → Fin (tcTables nBuf tb) → BufTy
  | .hbm, ⟨0, _⟩ => ⟨S17408x4096, .bf16⟩
  | .hbm, ⟨1, _⟩ => ⟨S1x4096x6144, .f32⟩
  | .hbm, ⟨2, _⟩ => ⟨S128, .f32⟩
  | .hbm, ⟨3, _⟩ => ⟨S64, .i32⟩
  | .hbm, ⟨4, _⟩ => ⟨S64x1, .i32⟩
  | .hbm, ⟨5, _⟩ => ⟨S64x64, .i32⟩
  | .hbm, ⟨6, _⟩ => ⟨S4096, .i32⟩
  | .hbm, ⟨7, _⟩ => ⟨S64, .i32⟩
  | .hbm, ⟨8, _⟩ => ⟨S1x64, .i32⟩
  | .hbm, ⟨9, _⟩ => ⟨S64x64, .i32⟩
  | .hbm, ⟨10, _⟩ => ⟨S4096, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x128, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S_, .f32⟩
  | .hbm, ⟨40, _⟩ => ⟨S1024x128, .f32⟩
  | .hbm, ⟨41, _⟩ => ⟨S5120x128, .f32⟩
  | .hbm, ⟨42, _⟩ => ⟨S_, .f32⟩
  | .hbm, ⟨43, _⟩ => ⟨S1024x128, .f32⟩
  | .hbm, ⟨44, _⟩ => ⟨S5120x128, .f32⟩
  | .hbm, ⟨45, _⟩ => ⟨S1x128, .f32⟩
  | .hbm, ⟨46, _⟩ => ⟨S17408x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .bf16⟩
  | .local _ .vmem, ⟨10, _⟩ => ⟨S1024x512, .bf16⟩
  | .local _ .vmem, ⟨11, _⟩ => ⟨S4096x512, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c4_i32_3 : BitVec 32 := 4#32
  let v12 : BitVec 32 := Scalar.select v1 v11 c4_i32_3
  let c0_i32_4 : BitVec 32 := 0#32
  let c0_i32_5 : BitVec 32 := 0#32
  ![v12.toNat, c0_i32_4.toNat]

def cc0_transform_4 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c4_i32_3 : BitVec 32 := 4#32
  let v12 : BitVec 32 := Scalar.select v1 v11 c4_i32_3
  let c0_i32_4 : BitVec 32 := 0#32
  let c0_i32_5 : BitVec 32 := 0#32
  ![v12.toNat, c0_i32_4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S17408x4096 : Shape := ⟨2, ![17408, 4096]⟩
abbrev S1x4096x6144 : Shape := ⟨3, ![1, 4096, 6144]⟩
abbrev S128 : Shape := ⟨1, ![128]⟩
abbrev S4096x6144 : Shape := ⟨2, ![4096, 6144]⟩
abbrev S17408x6144 : Shape := ⟨2, ![17408, 6144]⟩
abbrev S17408x1024 : Shape := ⟨2, ![17408, 1024]⟩
abbrev S17408x32x128 : Shape := ⟨3, ![17408, 32, 128]⟩
abbrev S_ : Shape := ⟨0, ![]⟩
abbrev S17408x32 : Shape := ⟨2, ![17408, 32]⟩
abbrev S17408x32x1 : Shape := ⟨3, ![17408, 32, 1]⟩
abbrev S1x1x128 : Shape := ⟨3, ![1, 1, 128]⟩
abbrev S16384x32x128 : Shape := ⟨3, ![16384, 32, 128]⟩
abbrev S4x4096x32x128 : Shape := ⟨4, ![4, 4096, 32, 128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x32x64 : Shape := ⟨4, ![4, 4096, 32, 64]⟩
abbrev S4x4096x32x32 : Shape := ⟨4, ![4, 4096, 32, 32]⟩
abbrev S16384x4096 : Shape := ⟨2, ![16384, 4096]⟩
abbrev S1024x32x128 : Shape := ⟨3, ![1024, 32, 128]⟩
abbrev S1024x4096 : Shape := ⟨2, ![1024, 4096]⟩

abbrev nBuf : Space → Nat
  | .hbm => 101
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x6144, .f32⟩
  | .hbm, ⟨2, _⟩ => ⟨S128, .f32⟩
  | .hbm, ⟨3, _⟩ => ⟨S17408x4096, .f32⟩
  | .hbm, ⟨4, _⟩ => ⟨S4096x6144, .f32⟩
  | .hbm, ⟨5, _⟩ => ⟨S17408x6144, .f32⟩
  | .hbm, ⟨6, _⟩ => ⟨S17408x4096, .f32⟩
  | .hbm, ⟨7, _⟩ => ⟨S17408x1024, .f32⟩
  | .hbm, ⟨8, _⟩ => ⟨S17408x1024, .f32⟩
  | .hbm, ⟨9, _⟩ => ⟨S17408x32x128, .f32⟩
  | .hbm, ⟨10, _⟩ => ⟨S17408x32x128, .f32⟩
  | .hbm, ⟨11, _⟩ => ⟨S_, .f32⟩
  | .hbm, ⟨12, _⟩ => ⟨S17408x32, .f32⟩
  | .hbm, ⟨13, _⟩ => ⟨S17408x32x1, .f32⟩
  | .hbm, ⟨14, _⟩ => ⟨S_, .f32⟩
  | .hbm, ⟨15, _⟩ => ⟨S17408x32x1, .f32⟩
  | .hbm, ⟨16, _⟩ => ⟨S17408x32x1, .f32⟩
  | .hbm, ⟨17, _⟩ => ⟨S_, .f32⟩
  | .hbm, ⟨18, _⟩ => ⟨S17408x32x1, .f32⟩
  | .hbm, ⟨19, _⟩ => ⟨S17408x32x1, .f32⟩
  | .hbm, ⟨20, _⟩ => ⟨S17408x32x1, .f32⟩
  | .hbm, ⟨21, _⟩ => ⟨S17408x32x128, .f32⟩
  | .hbm, ⟨22, _⟩ => ⟨S17408x32x128, .f32⟩
  | .hbm, ⟨23, _⟩ => ⟨S1x1x128, .f32⟩
  | .hbm, ⟨24, _⟩ => ⟨S17408x32x128, .f32⟩
  | .hbm, ⟨25, _⟩ => ⟨S17408x32x128, .f32⟩
  | .hbm, ⟨26, _⟩ => ⟨S16384x32x128, .f32⟩
  | .hbm, ⟨27, _⟩ => ⟨S4x4096x32x128, .f32⟩
  | .hbm, ⟨28, _⟩ => ⟨S64, .i32⟩
  | .hbm, ⟨29, _⟩ => ⟨S64x1, .i32⟩
  | .hbm, ⟨30, _⟩ => ⟨S64x64, .i32⟩
  | .hbm, ⟨31, _⟩ => ⟨S4096, .i32⟩
  | .hbm, ⟨32, _⟩ => ⟨S64, .i32⟩
  | .hbm, ⟨33, _⟩ => ⟨S1x64, .i32⟩
  | .hbm, ⟨34, _⟩ => ⟨S64x64, .i32⟩
  | .hbm, ⟨35, _⟩ => ⟨S4096, .i32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S4096, .f32⟩
  | .hbm, ⟨45, _⟩ => ⟨S4096x1, .f32⟩
  | .hbm, ⟨46, _⟩ => ⟨S1x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096, .f32⟩
  | .hbm, ⟨51, _⟩ => ⟨S4096x1, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S1x4096x1x32, .f32⟩
  | .hbm, ⟨61, _⟩ => ⟨S1x4096x1x32, .f32⟩
  | .hbm, ⟨62, _⟩ => ⟨S1x4096x1x32, .f32⟩
  | .hbm, ⟨63, _⟩ => ⟨S1x4096x1x32, .f32⟩
  | .hbm, ⟨64, _⟩ => ⟨S4x4096x32x64, .f32⟩
  | .hbm, ⟨65, _⟩ => ⟨S4x4096x32x64, .f32⟩
  | .hbm, ⟨66, _⟩ => ⟨S4x4096x32x32, .f32⟩
  | .hbm, ⟨67, _⟩ => ⟨S4x4096x32x32, .f32⟩
  | .hbm, ⟨68, _⟩ => ⟨S4x4096x32x32, .f32⟩
  | .hbm, ⟨69, _⟩ => ⟨S4x4096x32x32, .f32⟩
  | .hbm, ⟨70, _⟩ => ⟨S4x4096x32x32, .f32⟩
  | .hbm, ⟨71, _⟩ => ⟨S4x4096x32x32, .f32⟩
  | .hbm, ⟨72, _⟩ => ⟨S4x4096x32x32, .f32⟩
  | .hbm, ⟨73, _⟩ => ⟨S4x4096x32x32, .f32⟩
  | .hbm, ⟨74, _⟩ => ⟨S4x4096x32x32, .f32⟩
  | .hbm, ⟨75, _⟩ => ⟨S4x4096x32x32, .f32⟩
  | .hbm, ⟨76, _⟩ => ⟨S4x4096x32x32, .f32⟩
  | .hbm, ⟨77, _⟩ => ⟨S4x4096x32x32, .f32⟩
  | .hbm, ⟨78, _⟩ => ⟨S4x4096x32x64, .f32⟩
  | .hbm, ⟨79, _⟩ => ⟨S4x4096x32x32, .f32⟩
  | .hbm, ⟨80, _⟩ => ⟨S4x4096x32x32, .f32⟩
  | .hbm, ⟨81, _⟩ => ⟨S4x4096x32x32, .f32⟩
  | .hbm, ⟨82, _⟩ => ⟨S4x4096x32x32, .f32⟩
  | .hbm, ⟨83, _⟩ => ⟨S4x4096x32x32, .f32⟩
  | .hbm, ⟨84, _⟩ => ⟨S4x4096x32x32, .f32⟩
  | .hbm, ⟨85, _⟩ => ⟨S4x4096x32x32, .f32⟩
  | .hbm, ⟨86, _⟩ => ⟨S4x4096x32x32, .f32⟩
  | .hbm, ⟨87, _⟩ => ⟨S4x4096x32x32, .f32⟩
  | .hbm, ⟨88, _⟩ => ⟨S4x4096x32x32, .f32⟩
  | .hbm, ⟨89, _⟩ => ⟨S4x4096x32x32, .f32⟩
  | .hbm, ⟨90, _⟩ => ⟨S4x4096x32x32, .f32⟩
  | .hbm, ⟨91, _⟩ => ⟨S4x4096x32x64, .f32⟩
  | .hbm, ⟨92, _⟩ => ⟨S4x4096x32x128, .f32⟩
  | .hbm, ⟨93, _⟩ => ⟨S16384x4096, .f32⟩
  | .hbm, ⟨94, _⟩ => ⟨S1024x32x128, .f32⟩
  | .hbm, ⟨95, _⟩ => ⟨S1024x4096, .f32⟩
  | .hbm, ⟨96, _⟩ => ⟨S17408x4096, .f32⟩
  | .hbm, ⟨97, _⟩ => ⟨S_, .f32⟩
  | .hbm, ⟨98, _⟩ => ⟨S17408x4096, .f32⟩
  | .hbm, ⟨99, _⟩ => ⟨S17408x4096, .f32⟩
  | .hbm, ⟨100, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_cst_4 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩

abbrev nD : Nat := 1
abbrev τ : Topo := Topo.v7x

variable {F : FTy → Type} [FloatOps F]
-- ==== Kernel12.lean ====
abbrev S17408x4096 : Shape := ⟨2, ![17408, 4096]⟩
abbrev S1x4096x6144 : Shape := ⟨3, ![1, 4096, 6144]⟩
abbrev S128 : Shape := ⟨1, ![128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1024x128 : Shape := ⟨2, ![1024, 128]⟩
abbrev S5120x128 : Shape := ⟨2, ![5120, 128]⟩
abbrev S1x128 : Shape := ⟨2, ![1, 128]⟩
abbrev S17408x1024 : Shape := ⟨2, ![17408, 1024]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩
abbrev S1024 : Shape := ⟨1, ![1024]⟩
abbrev S1024x1 : Shape := ⟨2, ![1024, 1]⟩

abbrev nBuf : Space → Nat
  | .hbm => 48
  | .vmem => 17
  | .smem => 0
  | _ => 0

abbrev bufTy : (tb : Table) → Fin (tcTables nBuf tb) → BufTy
  | .hbm, ⟨0, _⟩ => ⟨S17408x4096, .bf16⟩
  | .hbm, ⟨1, _⟩ => ⟨S1x4096x6144, .f32⟩
  | .hbm, ⟨2, _⟩ => ⟨S128, .f32⟩
  | .hbm, ⟨3, _⟩ => ⟨S64, .i32⟩
  | .hbm, ⟨4, _⟩ => ⟨S64x1, .i32⟩
  | .hbm, ⟨5, _⟩ => ⟨S64x64, .i32⟩
  | .hbm, ⟨6, _⟩ => ⟨S4096, .i32⟩
  | .hbm, ⟨7, _⟩ => ⟨S64, .i32⟩
  | .hbm, ⟨8, _⟩ => ⟨S1x64, .i32⟩
  | .hbm, ⟨9, _⟩ => ⟨S64x64, .i32⟩
  | .hbm, ⟨10, _⟩ => ⟨S4096, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x128, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S_, .f32⟩
  | .hbm, ⟨40, _⟩ => ⟨S1024x128, .f32⟩
  | .hbm, ⟨41, _⟩ => ⟨S5120x128, .f32⟩
  | .hbm, ⟨42, _⟩ => ⟨S_, .f32⟩
  | .hbm, ⟨43, _⟩ => ⟨S1024x128, .f32⟩
  | .hbm, ⟨44, _⟩ => ⟨S5120x128, .f32⟩
  | .hbm, ⟨45, _⟩ => ⟨S1x128, .f32⟩
  | .hbm, ⟨46, _⟩ => ⟨S17408x1024, .bf16⟩
  | .hbm, ⟨47, _⟩ => ⟨S17408x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S4096x256, .bf16⟩
  | .local _ .vmem, ⟨16, _⟩ => ⟨S4096x256, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c4_i32_3 : BitVec 32 := 4#32
  let v12 : BitVec 32 := Scalar.select v1 v11 c4_i32_3
  let c0_i32_4 : BitVec 32 := 0#32
  let c0_i32_5 : BitVec 32 := 0#32
  ![v12.toNat, c0_i32_4.toNat]

def cc0_transform_5 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16384_i32 : BitVec 32 := 16384#32
  let v1 : BitVec 1 := Scalar.cmpi .slt v0 c16384_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi arg1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c4_i32_3 : BitVec 32 := 4#32
  let v12 : BitVec 32 := Scalar.select v1 v11 c4_i32_3
  let c0_i32_4 : BitVec 32 := 0#32
  let c0_i32_5 : BitVec 32 := 0#32
  ![v12.toNat, c0_i32_4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S17408x4096 : Shape := ⟨2, ![17408, 4096]⟩
abbrev S1x4096x6144 : Shape := ⟨3, ![1, 4096, 6144]⟩
abbrev S128 : Shape := ⟨1, ![128]⟩
abbrev S4096x6144 : Shape := ⟨2, ![4096, 6144]⟩
abbrev S17408x6144 : Shape := ⟨2, ![17408, 6144]⟩
abbrev S17408x1024 : Shape := ⟨2, ![17408, 1024]⟩
abbrev S17408x8x128 : Shape := ⟨3, ![17408, 8, 128]⟩
abbrev S_ : Shape := ⟨0, ![]⟩
abbrev S17408x8 : Shape := ⟨2, ![17408, 8]⟩
abbrev S17408x8x1 : Shape := ⟨3, ![17408, 8, 1]⟩
abbrev S1x1x128 : Shape := ⟨3, ![1, 1, 128]⟩
abbrev S16384x8x128 : Shape := ⟨3, ![16384, 8, 128]⟩
abbrev S4x4096x8x128 : Shape := ⟨4, ![4, 4096, 8, 128]⟩
abbrev S64 : Shape := ⟨1, ![64]⟩
abbrev S64x1 : Shape := ⟨2, ![64, 1]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x64 : Shape := ⟨4, ![4, 4096, 8, 64]⟩
abbrev S4x4096x8x32 : Shape := ⟨4, ![4, 4096, 8, 32]⟩
abbrev S16384x1024 : Shape := ⟨2, ![16384, 1024]⟩
abbrev S1024x8x128 : Shape := ⟨3, ![1024, 8, 128]⟩
abbrev S1024x1024 : Shape := ⟨2, ![1024, 1024]⟩

abbrev nBuf : Space → Nat
  | .hbm => 99
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S1x4096x6144, .f32⟩
  | .hbm, ⟨2, _⟩ => ⟨S128, .f32⟩
  | .hbm, ⟨3, _⟩ => ⟨S17408x4096, .f32⟩
  | .hbm, ⟨4, _⟩ => ⟨S4096x6144, .f32⟩
  | .hbm, ⟨5, _⟩ => ⟨S17408x6144, .f32⟩
  | .hbm, ⟨6, _⟩ => ⟨S17408x4096, .f32⟩
  | .hbm, ⟨7, _⟩ => ⟨S17408x1024, .f32⟩
  | .hbm, ⟨8, _⟩ => ⟨S17408x1024, .f32⟩
  | .hbm, ⟨9, _⟩ => ⟨S17408x8x128, .f32⟩
  | .hbm, ⟨10, _⟩ => ⟨S17408x8x128, .f32⟩
  | .hbm, ⟨11, _⟩ => ⟨S_, .f32⟩
  | .hbm, ⟨12, _⟩ => ⟨S17408x8, .f32⟩
  | .hbm, ⟨13, _⟩ => ⟨S17408x8x1, .f32⟩
  | .hbm, ⟨14, _⟩ => ⟨S_, .f32⟩
  | .hbm, ⟨15, _⟩ => ⟨S17408x8x1, .f32⟩
  | .hbm, ⟨16, _⟩ => ⟨S17408x8x1, .f32⟩
  | .hbm, ⟨17, _⟩ => ⟨S_, .f32⟩
  | .hbm, ⟨18, _⟩ => ⟨S17408x8x1, .f32⟩
  | .hbm, ⟨19, _⟩ => ⟨S17408x8x1, .f32⟩
  | .hbm, ⟨20, _⟩ => ⟨S17408x8x1, .f32⟩
  | .hbm, ⟨21, _⟩ => ⟨S17408x8x128, .f32⟩
  | .hbm, ⟨22, _⟩ => ⟨S17408x8x128, .f32⟩
  | .hbm, ⟨23, _⟩ => ⟨S1x1x128, .f32⟩
  | .hbm, ⟨24, _⟩ => ⟨S17408x8x128, .f32⟩
  | .hbm, ⟨25, _⟩ => ⟨S17408x8x128, .f32⟩
  | .hbm, ⟨26, _⟩ => ⟨S16384x8x128, .f32⟩
  | .hbm, ⟨27, _⟩ => ⟨S4x4096x8x128, .f32⟩
  | .hbm, ⟨28, _⟩ => ⟨S64, .i32⟩
  | .hbm, ⟨29, _⟩ => ⟨S64x1, .i32⟩
  | .hbm, ⟨30, _⟩ => ⟨S64x64, .i32⟩
  | .hbm, ⟨31, _⟩ => ⟨S4096, .i32⟩
  | .hbm, ⟨32, _⟩ => ⟨S64, .i32⟩
  | .hbm, ⟨33, _⟩ => ⟨S1x64, .i32⟩
  | .hbm, ⟨34, _⟩ => ⟨S64x64, .i32⟩
  | .hbm, ⟨35, _⟩ => ⟨S4096, .i32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S4096, .f32⟩
  | .hbm, ⟨45, _⟩ => ⟨S4096x1, .f32⟩
  | .hbm, ⟨46, _⟩ => ⟨S1x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096, .f32⟩
  | .hbm, ⟨51, _⟩ => ⟨S4096x1, .f32⟩
  | .hbm, ⟨52, _⟩ => ⟨S1x32, .f32⟩
  | .hbm, ⟨53, _⟩ => ⟨S4096x32, .f32⟩
  | .hbm, ⟨54, _⟩ => ⟨S4096x32, .f32⟩
  | .hbm, ⟨55, _⟩ => ⟨S4096x32, .f32⟩
  | .hbm, ⟨56, _⟩ => ⟨S4096x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S1x4096x1x32, .f32⟩
  | .hbm, ⟨61, _⟩ => ⟨S1x4096x1x32, .f32⟩
  | .hbm, ⟨62, _⟩ => ⟨S1x4096x1x32, .f32⟩
  | .hbm, ⟨63, _⟩ => ⟨S1x4096x1x32, .f32⟩
  | .hbm, ⟨64, _⟩ => ⟨S4x4096x8x64, .f32⟩
  | .hbm, ⟨65, _⟩ => ⟨S4x4096x8x64, .f32⟩
  | .hbm, ⟨66, _⟩ => ⟨S4x4096x8x32, .f32⟩
  | .hbm, ⟨67, _⟩ => ⟨S4x4096x8x32, .f32⟩
  | .hbm, ⟨68, _⟩ => ⟨S4x4096x8x32, .f32⟩
  | .hbm, ⟨69, _⟩ => ⟨S4x4096x8x32, .f32⟩
  | .hbm, ⟨70, _⟩ => ⟨S4x4096x8x32, .f32⟩
  | .hbm, ⟨71, _⟩ => ⟨S4x4096x8x32, .f32⟩
  | .hbm, ⟨72, _⟩ => ⟨S4x4096x8x32, .f32⟩
  | .hbm, ⟨73, _⟩ => ⟨S4x4096x8x32, .f32⟩
  | .hbm, ⟨74, _⟩ => ⟨S4x4096x8x32, .f32⟩
  | .hbm, ⟨75, _⟩ => ⟨S4x4096x8x32, .f32⟩
  | .hbm, ⟨76, _⟩ => ⟨S4x4096x8x32, .f32⟩
  | .hbm, ⟨77, _⟩ => ⟨S4x4096x8x32, .f32⟩
  | .hbm, ⟨78, _⟩ => ⟨S4x4096x8x64, .f32⟩
  | .hbm, ⟨79, _⟩ => ⟨S4x4096x8x32, .f32⟩
  | .hbm, ⟨80, _⟩ => ⟨S4x4096x8x32, .f32⟩
  | .hbm, ⟨81, _⟩ => ⟨S4x4096x8x32, .f32⟩
  | .hbm, ⟨82, _⟩ => ⟨S4x4096x8x32, .f32⟩
  | .hbm, ⟨83, _⟩ => ⟨S4x4096x8x32, .f32⟩
  | .hbm, ⟨84, _⟩ => ⟨S4x4096x8x32, .f32⟩
  | .hbm, ⟨85, _⟩ => ⟨S4x4096x8x32, .f32⟩
  | .hbm, ⟨86, _⟩ => ⟨S4x4096x8x32, .f32⟩
  | .hbm, ⟨87, _⟩ => ⟨S4x4096x8x32, .f32⟩
  | .hbm, ⟨88, _⟩ => ⟨S4x4096x8x32, .f32⟩
  | .hbm, ⟨89, _⟩ => ⟨S4x4096x8x32, .f32⟩
  | .hbm, ⟨90, _⟩ => ⟨S4x4096x8x32, .f32⟩
  | .hbm, ⟨91, _⟩ => ⟨S4x4096x8x64, .f32⟩
  | .hbm, ⟨92, _⟩ => ⟨S4x4096x8x128, .f32⟩
  | .hbm, ⟨93, _⟩ => ⟨S16384x1024, .f32⟩
  | .hbm, ⟨94, _⟩ => ⟨S1024x8x128, .f32⟩
  | .hbm, ⟨95, _⟩ => ⟨S1024x1024, .f32⟩
  | .hbm, ⟨96, _⟩ => ⟨S17408x1024, .f32⟩
  | .hbm, ⟨97, _⟩ => ⟨S17408x1024, .bf16⟩
  | .hbm, ⟨98, _⟩ => ⟨S17408x1024, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩

abbrev nD : Nat := 1
abbrev τ : Topo := Topo.v7x

variable {F : FTy → Type} [FloatOps F]
-- ==== Kernel13.lean ====
abbrev S17408x4096 : Shape := ⟨2, ![17408, 4096]⟩
abbrev S4096 : Shape := ⟨1, ![4096]⟩
abbrev S6x8x1x4096 : Shape := ⟨4, ![6, 8, 1, 4096]⟩
abbrev S1x4096 : Shape := ⟨2, ![1, 4096]⟩
abbrev S512x4096 : Shape := ⟨2, ![512, 4096]⟩
abbrev S1x1x1x4096 : Shape := ⟨4, ![1, 1, 1, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S6x8x1x4096, .f32⟩
  | .hbm, ⟨3, _⟩ => ⟨S1x4096, .f32⟩
  | .hbm, ⟨4, _⟩ => ⟨S17408x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S512x4096, .bf16⟩
  | .local _ .vmem, ⟨8, _⟩ => ⟨S512x4096, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c3_i32 : BitVec 32 := 3#32
  let c0_i32_5 : BitVec 32 := 0#32
  let c0_i32_6 : BitVec 32 := 0#32
  let c0_i32_7 : BitVec 32 := 0#32
  ![c3_i32.toNat, v20.toNat, c0_i32_5.toNat, c0_i32_6.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c4_i32_5 : BitVec 32 := 4#32
  let c0_i32_6 : BitVec 32 := 0#32
  let c0_i32_7 : BitVec 32 := 0#32
  let c0_i32_8 : BitVec 32 := 0#32
  ![c4_i32_5.toNat, v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S17408x4096 : Shape := ⟨2, ![17408, 4096]⟩
abbrev S4096 : Shape := ⟨1, ![4096]⟩
abbrev S6x8x1x4096 : Shape := ⟨4, ![6, 8, 1, 4096]⟩
abbrev S_ : Shape := ⟨0, ![]⟩
abbrev S17408 : Shape := ⟨1, ![17408]⟩
abbrev S17408x1 : Shape := ⟨2, ![17408, 1]⟩
abbrev S1x4096 : Shape := ⟨2, ![1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x1024x4096 : Shape := ⟨3, ![1, 1024, 4096]⟩
abbrev S1024x4096 : Shape := ⟨2, ![1024, 4096]⟩

abbrev nBuf : Space → Nat
  | .hbm => 43
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S6x8x1x4096, .f32⟩
  | .hbm, ⟨3, _⟩ => ⟨S17408x4096, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x4096, .f32⟩
  | .hbm, ⟨15, _⟩ => ⟨S17408x4096, .f32⟩
  | .hbm, ⟨16, _⟩ => ⟨S1x4096, .f32⟩
  | .hbm, ⟨17, _⟩ => ⟨S17408x4096, .f32⟩
  | .hbm, ⟨18, _⟩ => ⟨S17408x4096, .f32⟩
  | .hbm, ⟨19, _⟩ => ⟨S1x4x1x4096, .f32⟩
  | .hbm, ⟨20, _⟩ => ⟨S4x4096, .f32⟩
  | .hbm, ⟨21, _⟩ => ⟨S4x4096x4096, .f32⟩
  | .hbm, ⟨22, _⟩ => ⟨S16384x4096, .f32⟩
  | .hbm, ⟨23, _⟩ => ⟨S1x1x1x4096, .f32⟩
  | .hbm, ⟨24, _⟩ => ⟨S1x4096, .f32⟩
  | .hbm, ⟨25, _⟩ => ⟨S1x1024x4096, .f32⟩
  | .hbm, ⟨26, _⟩ => ⟨S1024x4096, .f32⟩
  | .hbm, ⟨27, _⟩ => ⟨S17408x4096, .f32⟩
  | .hbm, ⟨28, _⟩ => ⟨S_, .f32⟩
  | .hbm, ⟨29, _⟩ => ⟨S17408x4096, .f32⟩
  | .hbm, ⟨30, _⟩ => ⟨S17408x4096, .f32⟩
  | .hbm, ⟨31, _⟩ => ⟨S17408x4096, .f32⟩
  | .hbm, ⟨32, _⟩ => ⟨S1x4x1x4096, .f32⟩
  | .hbm, ⟨33, _⟩ => ⟨S4x4096, .f32⟩
  | .hbm, ⟨34, _⟩ => ⟨S4x4096x4096, .f32⟩
  | .hbm, ⟨35, _⟩ => ⟨S16384x4096, .f32⟩
  | .hbm, ⟨36, _⟩ => ⟨S1x1x1x4096, .f32⟩
  | .hbm, ⟨37, _⟩ => ⟨S1x4096, .f32⟩
  | .hbm, ⟨38, _⟩ => ⟨S1x1024x4096, .f32⟩
  | .hbm, ⟨39, _⟩ => ⟨S1024x4096, .f32⟩
  | .hbm, ⟨40, _⟩ => ⟨S17408x4096, .f32⟩
  | .hbm, ⟨41, _⟩ => ⟨S17408x4096, .f32⟩
  | .hbm, ⟨42, _⟩ => ⟨S17408x4096, .bf16⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel14.lean ====
abbrev S8x4096 : Shape := ⟨2, ![8, 4096]⟩
abbrev S4x4096x512 : Shape := ⟨3, ![4, 4096, 512]⟩
abbrev S4x512x24576 : Shape := ⟨3, ![4, 512, 24576]⟩
abbrev S4x24576 : Shape := ⟨2, ![4, 24576]⟩
abbrev S4x1x24576 : Shape := ⟨3, ![4, 1, 24576]⟩
abbrev S4x8x24576 : Shape := ⟨3, ![4, 8, 24576]⟩
abbrev S1x4096x512 : Shape := ⟨3, ![1, 4096, 512]⟩
abbrev S1x512x2048 : Shape := ⟨3, ![1, 512, 2048]⟩
abbrev S1x1x2048 : Shape := ⟨3, ![1, 1, 2048]⟩
abbrev S1x8x2048 : Shape := ⟨3, ![1, 8, 2048]⟩
abbrev S8x512 : Shape := ⟨2, ![8, 512]⟩
abbrev S4096x512 : Shape := ⟨2, ![4096, 512]⟩
abbrev S512x2048 : Shape := ⟨2, ![512, 2048]⟩
abbrev S8x2048 : Shape := ⟨2, ![8, 2048]⟩
abbrev S1x2048 : Shape := ⟨2, ![1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8x4096, .f32⟩
  | .hbm, ⟨1, _⟩ => ⟨S4x4096x512, .f32⟩
  | .hbm, ⟨2, _⟩ => ⟨S4x512x24576, .f32⟩
  | .hbm, ⟨3, _⟩ => ⟨S4x24576, .f32⟩
  | .hbm, ⟨4, _⟩ => ⟨S4x1x24576, .f32⟩
  | .hbm, ⟨5, _⟩ => ⟨S4x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x8x2048, .f32⟩
  | .local _ .vmem, ⟨8, _⟩ => ⟨S1x8x2048, .f32⟩
  | .local _ .vmem, ⟨9, _⟩ => ⟨S8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S8x4096 : Shape := ⟨2, ![8, 4096]⟩
abbrev S4x4096x512 : Shape := ⟨3, ![4, 4096, 512]⟩
abbrev S4x512x24576 : Shape := ⟨3, ![4, 512, 24576]⟩
abbrev S4x24576 : Shape := ⟨2, ![4, 24576]⟩
abbrev S_ : Shape := ⟨0, ![]⟩
abbrev S4x512x8 : Shape := ⟨3, ![4, 512, 8]⟩
abbrev S4x8x512 : Shape := ⟨3, ![4, 8, 512]⟩
abbrev S4x8x24576 : Shape := ⟨3, ![4, 8, 24576]⟩
abbrev S4x1x24576 : Shape := ⟨3, ![4, 1, 24576]⟩

abbrev nBuf : Space → Nat
  | .hbm => 19
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4x4096x512, .f32⟩
  | .hbm, ⟨2, _⟩ => ⟨S4x512x24576, .f32⟩
  | .hbm, ⟨3, _⟩ => ⟨S4x24576, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S4x512x8, .f32⟩
  | .hbm, ⟨14, _⟩ => ⟨S4x8x512, .f32⟩
  | .hbm, ⟨15, _⟩ => ⟨S4x8x24576, .f32⟩
  | .hbm, ⟨16, _⟩ => ⟨S4x1x24576, .f32⟩
  | .hbm, ⟨17, _⟩ => ⟨S4x8x24576, .f32⟩
  | .hbm, ⟨18, _⟩ => ⟨S4x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== Kernel15.lean ====
abbrev S17408x4096 : Shape := ⟨2, ![17408, 4096]⟩
abbrev S17408x1024 : Shape := ⟨2, ![17408, 1024]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S17408x4096, .bf16⟩
  | .hbm, ⟨1, _⟩ => ⟨S17408x1024, .bf16⟩
  | .hbm, ⟨2, _⟩ => ⟨S17408x1024, .bf16⟩
  | .hbm, ⟨3, _⟩ => ⟨S17408x4096, .bf16⟩
  | .hbm, ⟨4, _⟩ => ⟨S17408x4096, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S17408x4096 : Shape := ⟨2, ![17408, 4096]⟩
abbrev S17408x1024 : Shape := ⟨2, ![17408, 1024]⟩
abbrev S1024x4096 : Shape := ⟨2, ![1024, 4096]⟩
abbrev S4x256x8x4x128 : Shape := ⟨5, ![4, 256, 8, 4, 128]⟩
abbrev S1024x1024 : Shape := ⟨2, ![1024, 1024]⟩
abbrev S4x256x8x128 : Shape := ⟨4, ![4, 256, 8, 128]⟩
abbrev S4x8x256x256x4 : Shape := ⟨5, ![4, 8, 256, 256, 4]⟩
abbrev S4x8x4x256x256 : Shape := ⟨5, ![4, 8, 4, 256, 256]⟩
abbrev S_ : Shape := ⟨0, ![]⟩
abbrev S4x8x4x256 : Shape := ⟨4, ![4, 8, 4, 256]⟩
abbrev S4x8x4x256x1 : Shape := ⟨5, ![4, 8, 4, 256, 1]⟩
abbrev S4x8x128x4x256 : Shape := ⟨5, ![4, 8, 128, 4, 256]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S17408x1024, .bf16⟩
  | .hbm, ⟨2, _⟩ => ⟨S17408x1024, .bf16⟩
  | .hbm, ⟨3, _⟩ => ⟨S17408x4096, .bf16⟩
  | .hbm, ⟨4, _⟩ => ⟨S17408x4096, .f32⟩
  | .hbm, ⟨5, _⟩ => ⟨S17408x1024, .f32⟩
  | .hbm, ⟨6, _⟩ => ⟨S17408x1024, .f32⟩
  | .hbm, ⟨7, _⟩ => ⟨S1024x4096, .f32⟩
  | .hbm, ⟨8, _⟩ => ⟨S4x256x8x4x128, .f32⟩
  | .hbm, ⟨9, _⟩ => ⟨S1024x1024, .f32⟩
  | .hbm, ⟨10, _⟩ => ⟨S4x256x8x128, .f32⟩
  | .hbm, ⟨11, _⟩ => ⟨S1024x1024, .f32⟩
  | .hbm, ⟨12, _⟩ => ⟨S4x256x8x128, .f32⟩
  | .hbm, ⟨13, _⟩ => ⟨S4x8x256x256x4, .f32⟩
  | .hbm, ⟨14, _⟩ => ⟨S4x8x4x256x256, .f32⟩
  | .hbm, ⟨15, _⟩ => ⟨S_, .f32⟩
  | .hbm, ⟨16, _⟩ => ⟨S4x8x4x256, .f32⟩
  | .hbm, ⟨17, _⟩ => ⟨S_, .f32⟩
  | .hbm, ⟨18, _⟩ => ⟨S4x8x4x256, .f32⟩
  | .hbm, ⟨19, _⟩ => ⟨S4x8x4x256, .f32⟩
  | .hbm, ⟨20, _⟩ => ⟨S4x8x4x256x1, .f32⟩
  | .hbm, ⟨21, _⟩ => ⟨S4x8x4x256x256, .f32⟩
  | .hbm, ⟨22, _⟩ => ⟨S4x8x4x256x256, .f32⟩
  | .hbm, ⟨23, _⟩ => ⟨S4x8x4x256x256, .f32⟩
  | .hbm, ⟨24, _⟩ => ⟨S_, .f32⟩
  | .hbm, ⟨25, _⟩ => ⟨S4x8x4x256, .f32⟩
  | .hbm, ⟨26, _⟩ => ⟨S4x8x4x256x1, .f32⟩
  | .hbm, ⟨27, _⟩ => ⟨S4x8x4x256x256, .f32⟩
  | .hbm, ⟨28, _⟩ => ⟨S4x8x4x256x256, .f32⟩
  | .hbm, ⟨29, _⟩ => ⟨S4x8x128x4x256, .f32⟩
  | .hbm, ⟨30, _⟩ => ⟨S4x256x8x4x128, .f32⟩
  | .hbm, ⟨31, _⟩ => ⟨S1024x4096, .f32⟩
  | .hbm, ⟨32, _⟩ => ⟨S1024x4096, .bf16⟩
  | .hbm, ⟨33, _⟩ => ⟨S16384x4096, .bf16⟩
  | .hbm, ⟨34, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel16.lean ====
abbrev S17408x4096 : Shape := ⟨2, ![17408, 4096]⟩
abbrev S32x2048x2048 : Shape := ⟨3, ![32, 2048, 2048]⟩
abbrev S32x48x512 : Shape := ⟨3, ![32, 48, 512]⟩
abbrev S16384x4096 : Shape := ⟨2, ![16384, 4096]⟩
abbrev S1024x4096 : Shape := ⟨2, ![1024, 4096]⟩
abbrev S1x2048x2048 : Shape := ⟨3, ![1, 2048, 2048]⟩
abbrev S4096x128 : Shape := ⟨2, ![4096, 128]⟩
abbrev S256x128 : Shape := ⟨2, ![256, 128]⟩
abbrev S1x48x512 : Shape := ⟨3, ![1, 48, 512]⟩
abbrev S272x2048 : Shape := ⟨2, ![272, 2048]⟩
abbrev S16x128 : Shape := ⟨2, ![16, 128]⟩
abbrev S2048x2048 : Shape := ⟨2, ![2048, 2048]⟩
abbrev S8x512 : Shape := ⟨2, ![8, 512]⟩
abbrev S1x512 : Shape := ⟨2, ![1, 512]⟩
abbrev S1x8x512 : Shape := ⟨3, ![1, 8, 512]⟩
abbrev S1x1x512 : Shape := ⟨3, ![1, 1, 512]⟩

abbrev nBuf : Space → Nat
  | .hbm => 9
  | .vmem => 15
  | .smem => 0
  | _ => 0

abbrev bufTy : (tb : Table) → Fin (tcTables nBuf tb) → BufTy
  | .hbm, ⟨0, _⟩ => ⟨S17408x4096, .f32⟩
  | .hbm, ⟨1, _⟩ => ⟨S32x2048x2048, .bf16⟩
  | .hbm, ⟨2, _⟩ => ⟨S32x2048x2048, .bf16⟩
  | .hbm, ⟨3, _⟩ => ⟨S32x2048x2048, .bf16⟩
  | .hbm, ⟨4, _⟩ => ⟨S32x48x512, .f32⟩
  | .hbm, ⟨5, _⟩ => ⟨S16384x4096, .f32⟩
  | .hbm, ⟨6, _⟩ => ⟨S1024x4096, .f32⟩
  | .hbm, ⟨7, _⟩ => ⟨S17408x4096, .f32⟩
  | .hbm, ⟨8, _⟩ => ⟨S17408x4096, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x2048, .bf16⟩
  | .local _ .vmem, ⟨3, _⟩ => ⟨S4096x128, .f32⟩
  | .local _ .vmem, ⟨4, _⟩ => ⟨S4096x128, .f32⟩
  | .local _ .vmem, ⟨5, _⟩ => ⟨S256x128, .f32⟩
  | .local _ .vmem, ⟨6, _⟩ => ⟨S256x128, .f32⟩
  | .local _ .vmem, ⟨7, _⟩ => ⟨S1x48x512, .f32⟩
  | .local _ .vmem, ⟨8, _⟩ => ⟨S1x48x512, .f32⟩
  | .local _ .vmem, ⟨9, _⟩ => ⟨S4096x128, .f32⟩
  | .local _ .vmem, ⟨10, _⟩ => ⟨S4096x128, .f32⟩
  | .local _ .vmem, ⟨11, _⟩ => ⟨S256x128, .f32⟩
  | .local _ .vmem, ⟨12, _⟩ => ⟨S256x128, .f32⟩
  | .local _ .vmem, ⟨13, _⟩ => ⟨S272x2048, .bf16⟩
  | .local _ .vmem, ⟨14, _⟩ => ⟨S272x2048, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

@[reducible] def k0_t1_loop : Scf.Loop 32 :=
  let c0_i32 : BitVec 32 := 0#32
  let c2_i32 : BitVec 32 := 2#32
  let v169 : BitVec 32 := Scalar.addi c0_i32 c2_i32
  let c1_i32 : BitVec 32 := 1#32
  ⟨c0_i32, v169, c1_i32⟩
def k0_mult1 (k0_t1 : Fin k0_t1_loop.trips) : BitVec 32 :=
  let c256_i32 : BitVec 32 := 256#32
  let c0_i32 : BitVec 32 := 0#32
  let c1_i32 : BitVec 32 := 1#32
  let arg12 : BitVec 32 := Scf.iv c0_i32 c1_i32 k0_t1
  let c8_i32 : BitVec 32 := 8#32
  let v260 : BitVec 32 := Scalar.muli arg12 c8_i32
  let v261 : BitVec 32 := Scalar.addi c256_i32 v260
  v261
def k0_mult2 (k0_t1 : Fin k0_t1_loop.trips) : BitVec 32 :=
  let c256_i32_191 : BitVec 32 := 256#32
  let c1_i32_189 : BitVec 32 := 1#32
  let c0_i32 : BitVec 32 := 0#32
  let c1_i32 : BitVec 32 := 1#32
  let arg12 : BitVec 32 := Scf.iv c0_i32 c1_i32 k0_t1
  let v263 : BitVec 32 := Scalar.subi c1_i32_189 arg12
  let c8_i32_190 : BitVec 32 := 8#32
  let v264 : BitVec 32 := Scalar.muli v263 c8_i32_190
  let v265 : BitVec 32 := Scalar.addi c256_i32_191 v264
  v265
def k0_off1 (k0_t1 : Fin k0_t1_loop.trips) : Fin 2 → Nat :=
  let c256_i32 : BitVec 32 := 256#32
  let c0_i32 : BitVec 32 := 0#32
  let c1_i32 : BitVec 32 := 1#32
  let arg12 : BitVec 32 := Scf.iv c0_i32 c1_i32 k0_t1
  let c8_i32 : BitVec 32 := 8#32
  let v260 : BitVec 32 := Scalar.muli arg12 c8_i32
  let v261 : BitVec 32 := Scalar.addi c256_i32 v260
  let v262 : BitVec 32 := v261
  let v267 : Index := Scalar.indexCast v262
  let c0_192 : Index := 0#32
  ![v267.toNat, 0]
def k0_off2 (k0_t1 : Fin k0_t1_loop.trips) : Fin 2 → Nat :=
  let c256_i32 : BitVec 32 := 256#32
  let c0_i32 : BitVec 32 := 0#32
  let c1_i32 : BitVec 32 := 1#32
  let arg12 : BitVec 32 := Scf.iv c0_i32 c1_i32 k0_t1
  let c8_i32 : BitVec 32 := 8#32
  let v260 : BitVec 32 := Scalar.muli arg12 c8_i32
  let v261 : BitVec 32 := Scalar.addi c256_i32 v260
  let v262 : BitVec 32 := v261
  let v269 : Index := Scalar.indexCast v262
  let c512_193 : Index := 512#32
  ![v269.toNat, 512]
def k0_off3 (k0_t1 : Fin k0_t1_loop.trips) : Fin 2 → Nat :=
  let c256_i32_191 : BitVec 32 := 256#32
  let c1_i32_189 : BitVec 32 := 1#32
  let c0_i32 : BitVec 32 := 0#32
  let c1_i32 : BitVec 32 := 1#32
  let arg12 : BitVec 32 := Scf.iv c0_i32 c1_i32 k0_t1
  let v263 : BitVec 32 := Scalar.subi c1_i32_189 arg12
  let c8_i32_190 : BitVec 32 := 8#32
  let v264 : BitVec 32 := Scalar.muli v263 c8_i32_190
  let v265 : BitVec 32 := Scalar.addi c256_i32_191 v264
  let v266 : BitVec 32 := v265
  let v389 : Index := Scalar.indexCast v266
  let c1024_239 : Index := 1024#32
  ![v389.toNat, 1024]
def k0_off4 (k0_t1 : Fin k0_t1_loop.trips) : Fin 2 → Nat :=
  let c256_i32_191 : BitVec 32 := 256#32
  let c1_i32_189 : BitVec 32 := 1#32
  let c0_i32 : BitVec 32 := 0#32
  let c1_i32 : BitVec 32 := 1#32
  let arg12 : BitVec 32 := Scf.iv c0_i32 c1_i32 k0_t1
  let v263 : BitVec 32 := Scalar.subi c1_i32_189 arg12
  let c8_i32_190 : BitVec 32 := 8#32
  let v264 : BitVec 32 := Scalar.muli v263 c8_i32_190
  let v265 : BitVec 32 := Scalar.addi c256_i32_191 v264
  let v266 : BitVec 32 := v265
  let v391 : Index := Scalar.indexCast v266
  let c1536_240 : Index := 1536#32
  ![v391.toNat, 1536]
@[reducible] def k0_t2_loop : Scf.Loop 32 :=
  let c0_i32_106 : BitVec 32 := 0#32
  let c32_i32 : BitVec 32 := 32#32
  let v171 : BitVec 32 := Scalar.addi c0_i32_106 c32_i32
  let c1_i32_107 : BitVec 32 := 1#32
  ⟨c0_i32_106, v171, c1_i32_107⟩
def k0_mult3 (k0_t2 : Fin k0_t2_loop.trips) : BitVec 32 :=
  let c0_i32_189 : BitVec 32 := 0#32
  let c0_i32_106 : BitVec 32 := 0#32
  let c1_i32_107 : BitVec 32 := 1#32
  let arg12 : BitVec 32 := Scf.iv c0_i32_106 c1_i32_107 k0_t2
  let c8_i32 : BitVec 32 := 8#32
  let v260 : BitVec 32 := Scalar.muli arg12 c8_i32
  let v261 : BitVec 32 := Scalar.addi c0_i32_189 v260
  v261
def k0_mult4 (k0_t2 : Fin k0_t2_loop.trips) : BitVec 32 :=
  let c0_i32_191 : BitVec 32 := 0#32
  let c31_i32 : BitVec 32 := 31#32
  let c0_i32_106 : BitVec 32 := 0#32
  let c1_i32_107 : BitVec 32 := 1#32
  let arg12 : BitVec 32 := Scf.iv c0_i32_106 c1_i32_107 k0_t2
  let v263 : BitVec 32 := Scalar.subi c31_i32 arg12
  let c8_i32_190 : BitVec 32 := 8#32
  let v264 : BitVec 32 := Scalar.muli v263 c8_i32_190
  let v265 : BitVec 32 := Scalar.addi c0_i32_191 v264
  v265
def k0_off5 (k0_t2 : Fin k0_t2_loop.trips) : Fin 2 → Nat :=
  let c0_i32_189 : BitVec 32 := 0#32
  let c0_i32_106 : BitVec 32 := 0#32
  let c1_i32_107 : BitVec 32 := 1#32
  let arg12 : BitVec 32 := Scf.iv c0_i32_106 c1_i32_107 k0_t2
  let c8_i32 : BitVec 32 := 8#32
  let v260 : BitVec 32 := Scalar.muli arg12 c8_i32
  let v261 : BitVec 32 := Scalar.addi c0_i32_189 v260
  let v262 : BitVec 32 := v261
  let v267 : Index := Scalar.indexCast v262
  let c0_192 : Index := 0#32
  ![v267.toNat, 0]
def k0_off6 (k0_t2 : Fin k0_t2_loop.trips) : Fin 2 → Nat :=
  let c0_i32_189 : BitVec 32 := 0#32
  let c0_i32_106 : BitVec 32 := 0#32
  let c1_i32_107 : BitVec 32 := 1#32
  let arg12 : BitVec 32 := Scf.iv c0_i32_106 c1_i32_107 k0_t2
  let c8_i32 : BitVec 32 := 8#32
  let v260 : BitVec 32 := Scalar.muli arg12 c8_i32
  let v261 : BitVec 32 := Scalar.addi c0_i32_189 v260
  let v262 : BitVec 32 := v261
  let v269 : Index := Scalar.indexCast v262
  let c512_193 : Index := 512#32
  ![v269.toNat, 512]
def k0_off7 (k0_t2 : Fin k0_t2_loop.trips) : Fin 2 → Nat :=
  let c0_i32_191 : BitVec 32 := 0#32
  let c31_i32 : BitVec 32 := 31#32
  let c0_i32_106 : BitVec 32 := 0#32
  let c1_i32_107 : BitVec 32 := 1#32
  let arg12 : BitVec 32 := Scf.iv c0_i32_106 c1_i32_107 k0_t2
  let v263 : BitVec 32 := Scalar.subi c31_i32 arg12
  let c8_i32_190 : BitVec 32 := 8#32
  let v264 : BitVec 32 := Scalar.muli v263 c8_i32_190
  let v265 : BitVec 32 := Scalar.addi c0_i32_191 v264
  let v266 : BitVec 32 := v265
  let v389 : Index := Scalar.indexCast v266
  let c1024_239 : Index := 1024#32
  ![v389.toNat, 1024]
def k0_off8 (k0_t2 : Fin k0_t2_loop.trips) : Fin 2 → Nat :=
  let c0_i32_191 : BitVec 32 := 0#32
  let c31_i32 : BitVec 32 := 31#32
  let c0_i32_106 : BitVec 32 := 0#32
  let c1_i32_107 : BitVec 32 := 1#32
  let arg12 : BitVec 32 := Scf.iv c0_i32_106 c1_i32_107 k0_t2
  let v263 : BitVec 32 := Scalar.subi c31_i32 arg12
  let c8_i32_190 : BitVec 32 := 8#32
  let v264 : BitVec 32 := Scalar.muli v263 c8_i32_190
  let v265 : BitVec 32 := Scalar.addi c0_i32_191 v264
  let v266 : BitVec 32 := v265
  let v391 : Index := Scalar.indexCast v266
  let c1536_240 : Index := 1536#32
  ![v391.toNat, 1536]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![v0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x48x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel17.lean ====
abbrev S17408x4096 : Shape := ⟨2, ![17408, 4096]⟩
abbrev S4096 : Shape := ⟨1, ![4096]⟩
abbrev S6x8x1x4096 : Shape := ⟨4, ![6, 8, 1, 4096]⟩
abbrev S1x4096 : Shape := ⟨2, ![1, 4096]⟩
abbrev S512x4096 : Shape := ⟨2, ![512, 4096]⟩
abbrev S1x1x1x4096 : Shape := ⟨4, ![1, 1, 1, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S6x8x1x4096, .f32⟩
  | .hbm, ⟨3, _⟩ => ⟨S1x4096, .f32⟩
  | .hbm, ⟨4, _⟩ => ⟨S17408x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S512x4096, .f32⟩
  | .local _ .vmem, ⟨8, _⟩ => ⟨S512x4096, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c0_i32_5 : BitVec 32 := 0#32
  let c0_i32_6 : BitVec 32 := 0#32
  let c0_i32_7 : BitVec 32 := 0#32
  let c0_i32_8 : BitVec 32 := 0#32
  ![c0_i32_5.toNat, v20.toNat, c0_i32_6.toNat, c0_i32_7.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c1_i32_5 : BitVec 32 := 1#32
  let c0_i32_6 : BitVec 32 := 0#32
  let c0_i32_7 : BitVec 32 := 0#32
  let c0_i32_8 : BitVec 32 := 0#32
  ![c1_i32_5.toNat, v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S17408x4096 : Shape := ⟨2, ![17408, 4096]⟩
abbrev S4096 : Shape := ⟨1, ![4096]⟩
abbrev S6x8x1x4096 : Shape := ⟨4, ![6, 8, 1, 4096]⟩
abbrev S_ : Shape := ⟨0, ![]⟩
abbrev S17408 : Shape := ⟨1, ![17408]⟩
abbrev S17408x1 : Shape := ⟨2, ![17408, 1]⟩
abbrev S1x4096 : Shape := ⟨2, ![1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x1024x4096 : Shape := ⟨3, ![1, 1024, 4096]⟩
abbrev S1024x4096 : Shape := ⟨2, ![1024, 4096]⟩

abbrev nBuf : Space → Nat
  | .hbm => 42
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S6x8x1x4096, .f32⟩
  | .hbm, ⟨3, _⟩ => ⟨S17408x4096, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x4096, .f32⟩
  | .hbm, ⟨15, _⟩ => ⟨S17408x4096, .f32⟩
  | .hbm, ⟨16, _⟩ => ⟨S1x4096, .f32⟩
  | .hbm, ⟨17, _⟩ => ⟨S17408x4096, .f32⟩
  | .hbm, ⟨18, _⟩ => ⟨S17408x4096, .f32⟩
  | .hbm, ⟨19, _⟩ => ⟨S1x4x1x4096, .f32⟩
  | .hbm, ⟨20, _⟩ => ⟨S4x4096, .f32⟩
  | .hbm, ⟨21, _⟩ => ⟨S4x4096x4096, .f32⟩
  | .hbm, ⟨22, _⟩ => ⟨S16384x4096, .f32⟩
  | .hbm, ⟨23, _⟩ => ⟨S1x1x1x4096, .f32⟩
  | .hbm, ⟨24, _⟩ => ⟨S1x4096, .f32⟩
  | .hbm, ⟨25, _⟩ => ⟨S1x1024x4096, .f32⟩
  | .hbm, ⟨26, _⟩ => ⟨S1024x4096, .f32⟩
  | .hbm, ⟨27, _⟩ => ⟨S17408x4096, .f32⟩
  | .hbm, ⟨28, _⟩ => ⟨S_, .f32⟩
  | .hbm, ⟨29, _⟩ => ⟨S17408x4096, .f32⟩
  | .hbm, ⟨30, _⟩ => ⟨S17408x4096, .f32⟩
  | .hbm, ⟨31, _⟩ => ⟨S17408x4096, .f32⟩
  | .hbm, ⟨32, _⟩ => ⟨S1x4x1x4096, .f32⟩
  | .hbm, ⟨33, _⟩ => ⟨S4x4096, .f32⟩
  | .hbm, ⟨34, _⟩ => ⟨S4x4096x4096, .f32⟩
  | .hbm, ⟨35, _⟩ => ⟨S16384x4096, .f32⟩
  | .hbm, ⟨36, _⟩ => ⟨S1x1x1x4096, .f32⟩
  | .hbm, ⟨37, _⟩ => ⟨S1x4096, .f32⟩
  | .hbm, ⟨38, _⟩ => ⟨S1x1024x4096, .f32⟩
  | .hbm, ⟨39, _⟩ => ⟨S1024x4096, .f32⟩
  | .hbm, ⟨40, _⟩ => ⟨S17408x4096, .f32⟩
  | .hbm, ⟨41, _⟩ => ⟨S17408x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Kernel18.lean ====
abbrev S17408x4096 : Shape := ⟨2, ![17408, 4096]⟩
abbrev S4096 : Shape := ⟨1, ![4096]⟩
abbrev S6x8x1x4096 : Shape := ⟨4, ![6, 8, 1, 4096]⟩
abbrev S1x4096 : Shape := ⟨2, ![1, 4096]⟩
abbrev S512x4096 : Shape := ⟨2, ![512, 4096]⟩
abbrev S1x1x1x4096 : Shape := ⟨4, ![1, 1, 1, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S6x8x1x4096, .f32⟩
  | .hbm, ⟨3, _⟩ => ⟨S1x4096, .f32⟩
  | .hbm, ⟨4, _⟩ => ⟨S17408x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x4096, .f32⟩
  | .local _ .vmem, ⟨4, _⟩ => ⟨S1x1x1x4096, .f32⟩
  | .local _ .vmem, ⟨5, _⟩ => ⟨S1x1x1x4096, .f32⟩
  | .local _ .vmem, ⟨6, _⟩ => ⟨S1x1x1x4096, .f32⟩
  | .local _ .vmem, ⟨7, _⟩ => ⟨S512x4096, .bf16⟩
  | .local _ .vmem, ⟨8, _⟩ => ⟨S512x4096, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c0_i32_5 : BitVec 32 := 0#32
  let c0_i32_6 : BitVec 32 := 0#32
  let c0_i32_7 : BitVec 32 := 0#32
  let c0_i32_8 : BitVec 32 := 0#32
  ![c0_i32_5.toNat, v20.toNat, c0_i32_6.toNat, c0_i32_7.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c4_i32 : BitVec 32 := 4#32
  let v20 : BitVec 32 := Scalar.select v1 v19 c4_i32
  let c1_i32_5 : BitVec 32 := 1#32
  let c0_i32_6 : BitVec 32 := 0#32
  let c0_i32_7 : BitVec 32 := 0#32
  let c0_i32_8 : BitVec 32 := 0#32
  ![c1_i32_5.toNat, v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S17408x4096 : Shape := ⟨2, ![17408, 4096]⟩
abbrev S4096 : Shape := ⟨1, ![4096]⟩
abbrev S6x8x1x4096 : Shape := ⟨4, ![6, 8, 1, 4096]⟩
abbrev S_ : Shape := ⟨0, ![]⟩
abbrev S17408 : Shape := ⟨1, ![17408]⟩
abbrev S17408x1 : Shape := ⟨2, ![17408, 1]⟩
abbrev S1x4096 : Shape := ⟨2, ![1, 4096]⟩
abbrev S1x4x1x4096 : Shape := ⟨4, ![1, 4, 1, 4096]⟩
abbrev S4x4096 : Shape := ⟨2, ![4, 4096]⟩
abbrev S4x4096x4096 : Shape := ⟨3, ![4, 4096, 4096]⟩
abbrev S16384x4096 : Shape := ⟨2, ![16384, 4096]⟩
abbrev S1x1x1x4096 : Shape := ⟨4, ![1, 1, 1, 4096]⟩
abbrev S1x1024x4096 : Shape := ⟨3, ![1, 1024, 4096]⟩
abbrev S1024x4096 : Shape := ⟨2, ![1024, 4096]⟩

abbrev nBuf : Space → Nat
  | .hbm => 43
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S6x8x1x4096, .f32⟩
  | .hbm, ⟨3, _⟩ => ⟨S17408x4096, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x4096, .f32⟩
  | .hbm, ⟨15, _⟩ => ⟨S17408x4096, .f32⟩
  | .hbm, ⟨16, _⟩ => ⟨S1x4096, .f32⟩
  | .hbm, ⟨17, _⟩ => ⟨S17408x4096, .f32⟩
  | .hbm, ⟨18, _⟩ => ⟨S17408x4096, .f32⟩
  | .hbm, ⟨19, _⟩ => ⟨S1x4x1x4096, .f32⟩
  | .hbm, ⟨20, _⟩ => ⟨S4x4096, .f32⟩
  | .hbm, ⟨21, _⟩ => ⟨S4x4096x4096, .f32⟩
  | .hbm, ⟨22, _⟩ => ⟨S16384x4096, .f32⟩
  | .hbm, ⟨23, _⟩ => ⟨S1x1x1x4096, .f32⟩
  | .hbm, ⟨24, _⟩ => ⟨S1x4096, .f32⟩
  | .hbm, ⟨25, _⟩ => ⟨S1x1024x4096, .f32⟩
  | .hbm, ⟨26, _⟩ => ⟨S1024x4096, .f32⟩
  | .hbm, ⟨27, _⟩ => ⟨S17408x4096, .f32⟩
  | .hbm, ⟨28, _⟩ => ⟨S_, .f32⟩
  | .hbm, ⟨29, _⟩ => ⟨S17408x4096, .f32⟩
  | .hbm, ⟨30, _⟩ => ⟨S17408x4096, .f32⟩
  | .hbm, ⟨31, _⟩ => ⟨S17408x4096, .f32⟩
  | .hbm, ⟨32, _⟩ => ⟨S1x4x1x4096, .f32⟩
  | .hbm, ⟨33, _⟩ => ⟨S4x4096, .f32⟩
  | .hbm, ⟨34, _⟩ => ⟨S4x4096x4096, .f32⟩
  | .hbm, ⟨35, _⟩ => ⟨S16384x4096, .f32⟩
  | .hbm, ⟨36, _⟩ => ⟨S1x1x1x4096, .f32⟩
  | .hbm, ⟨37, _⟩ => ⟨S1x4096, .f32⟩
  | .hbm, ⟨38, _⟩ => ⟨S1x1024x4096, .f32⟩
  | .hbm, ⟨39, _⟩ => ⟨S1024x4096, .f32⟩
  | .hbm, ⟨40, _⟩ => ⟨S17408x4096, .f32⟩
  | .hbm, ⟨41, _⟩ => ⟨S17408x4096, .f32⟩
  | .hbm, ⟨42, _⟩ => ⟨S17408x4096, .bf16⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel19.lean ====
abbrev S17408x4096 : Shape := ⟨2, ![17408, 4096]⟩
abbrev S17408x1024 : Shape := ⟨2, ![17408, 1024]⟩
abbrev S256x512 : Shape := ⟨2, ![256, 512]⟩
abbrev S4096x128 : Shape := ⟨2, ![4096, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x4096 : Shape := ⟨2, ![256, 4096]⟩

abbrev nBuf : Space → Nat
  | .hbm => 5
  | .vmem => 20
  | .smem => 0
  | _ => 0

abbrev bufTy : (tb : Table) → Fin (tcTables nBuf tb) → BufTy
  | .hbm, ⟨0, _⟩ => ⟨S17408x4096, .bf16⟩
  | .hbm, ⟨1, _⟩ => ⟨S17408x1024, .bf16⟩
  | .hbm, ⟨2, _⟩ => ⟨S17408x1024, .bf16⟩
  | .hbm, ⟨3, _⟩ => ⟨S17408x4096, .bf16⟩
  | .hbm, ⟨4, _⟩ => ⟨S17408x4096, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x512, .bf16⟩
  | .local _ .vmem, ⟨19, _⟩ => ⟨S256x512, .bf16⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc1_transform_4 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference19Ideal.lean ====
abbrev S17408x4096 : Shape := ⟨2, ![17408, 4096]⟩
abbrev S17408x1024 : Shape := ⟨2, ![17408, 1024]⟩
abbrev S16384x4096 : Shape := ⟨2, ![16384, 4096]⟩
abbrev S4x4096x8x4x128 : Shape := ⟨5, ![4, 4096, 8, 4, 128]⟩
abbrev S1024x4096 : Shape := ⟨2, ![1024, 4096]⟩
abbrev S4x256x8x4x128 : Shape := ⟨5, ![4, 256, 8, 4, 128]⟩
abbrev S1024x1024 : Shape := ⟨2, ![1024, 1024]⟩
abbrev S4x256x8x128 : Shape := ⟨4, ![4, 256, 8, 128]⟩
abbrev S16384x1024 : Shape := ⟨2, ![16384, 1024]⟩
abbrev S4x4096x8x128 : Shape := ⟨4, ![4, 4096, 8, 128]⟩
abbrev S4x4352x8x128 : Shape := ⟨4, ![4, 4352, 8, 128]⟩
abbrev S4x8x4352x4096x4 : Shape := ⟨5, ![4, 8, 4352, 4096, 4]⟩
abbrev S4x8x4x4096x4352 : Shape := ⟨5, ![4, 8, 4, 4096, 4352]⟩
abbrev S_ : Shape := ⟨0, ![]⟩
abbrev S4x8x4x4096 : Shape := ⟨4, ![4, 8, 4, 4096]⟩
abbrev S4x8x4x4096x1 : Shape := ⟨5, ![4, 8, 4, 4096, 1]⟩
abbrev S4x8x128x4x4096 : Shape := ⟨5, ![4, 8, 128, 4, 4096]⟩
abbrev S4x8x256x256x4 : Shape := ⟨5, ![4, 8, 256, 256, 4]⟩
abbrev S4x8x4x256x256 : Shape := ⟨5, ![4, 8, 4, 256, 256]⟩
abbrev S4x8x4x256 : Shape := ⟨4, ![4, 8, 4, 256]⟩
abbrev S4x8x4x256x1 : Shape := ⟨5, ![4, 8, 4, 256, 1]⟩
abbrev S4x8x128x4x256 : Shape := ⟨5, ![4, 8, 128, 4, 256]⟩

abbrev nBuf : Space → Nat
  | .hbm => 61
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S17408x1024, .bf16⟩
  | .hbm, ⟨2, _⟩ => ⟨S17408x1024, .bf16⟩
  | .hbm, ⟨3, _⟩ => ⟨S17408x4096, .f32⟩
  | .hbm, ⟨4, _⟩ => ⟨S17408x1024, .f32⟩
  | .hbm, ⟨5, _⟩ => ⟨S17408x1024, .f32⟩
  | .hbm, ⟨6, _⟩ => ⟨S16384x4096, .f32⟩
  | .hbm, ⟨7, _⟩ => ⟨S4x4096x8x4x128, .f32⟩
  | .hbm, ⟨8, _⟩ => ⟨S1024x4096, .f32⟩
  | .hbm, ⟨9, _⟩ => ⟨S4x256x8x4x128, .f32⟩
  | .hbm, ⟨10, _⟩ => ⟨S1024x1024, .f32⟩
  | .hbm, ⟨11, _⟩ => ⟨S4x256x8x128, .f32⟩
  | .hbm, ⟨12, _⟩ => ⟨S1024x1024, .f32⟩
  | .hbm, ⟨13, _⟩ => ⟨S4x256x8x128, .f32⟩
  | .hbm, ⟨14, _⟩ => ⟨S16384x1024, .f32⟩
  | .hbm, ⟨15, _⟩ => ⟨S4x4096x8x128, .f32⟩
  | .hbm, ⟨16, _⟩ => ⟨S4x4352x8x128, .f32⟩
  | .hbm, ⟨17, _⟩ => ⟨S16384x1024, .f32⟩
  | .hbm, ⟨18, _⟩ => ⟨S4x4096x8x128, .f32⟩
  | .hbm, ⟨19, _⟩ => ⟨S4x4352x8x128, .f32⟩
  | .hbm, ⟨20, _⟩ => ⟨S4x8x4352x4096x4, .f32⟩
  | .hbm, ⟨21, _⟩ => ⟨S4x8x4x4096x4352, .f32⟩
  | .hbm, ⟨22, _⟩ => ⟨S_, .f32⟩
  | .hbm, ⟨23, _⟩ => ⟨S4x8x4x4096, .f32⟩
  | .hbm, ⟨24, _⟩ => ⟨S_, .f32⟩
  | .hbm, ⟨25, _⟩ => ⟨S4x8x4x4096, .f32⟩
  | .hbm, ⟨26, _⟩ => ⟨S4x8x4x4096, .f32⟩
  | .hbm, ⟨27, _⟩ => ⟨S4x8x4x4096x1, .f32⟩
  | .hbm, ⟨28, _⟩ => ⟨S4x8x4x4096x4352, .f32⟩
  | .hbm, ⟨29, _⟩ => ⟨S4x8x4x4096x4352, .f32⟩
  | .hbm, ⟨30, _⟩ => ⟨S4x8x4x4096x4352, .f32⟩
  | .hbm, ⟨31, _⟩ => ⟨S_, .f32⟩
  | .hbm, ⟨32, _⟩ => ⟨S4x8x4x4096, .f32⟩
  | .hbm, ⟨33, _⟩ => ⟨S4x8x4x4096x1, .f32⟩
  | .hbm, ⟨34, _⟩ => ⟨S4x8x4x4096x4352, .f32⟩
  | .hbm, ⟨35, _⟩ => ⟨S4x8x4x4096x4352, .f32⟩
  | .hbm, ⟨36, _⟩ => ⟨S4x8x128x4x4096, .f32⟩
  | .hbm, ⟨37, _⟩ => ⟨S4x4096x8x4x128, .f32⟩
  | .hbm, ⟨38, _⟩ => ⟨S16384x4096, .f32⟩
  | .hbm, ⟨39, _⟩ => ⟨S16384x4096, .bf16⟩
  | .hbm, ⟨40, _⟩ => ⟨S4x8x256x256x4, .f32⟩
  | .hbm, ⟨41, _⟩ => ⟨S4x8x4x256x256, .f32⟩
  | .hbm, ⟨42, _⟩ => ⟨S_, .f32⟩
  | .hbm, ⟨43, _⟩ => ⟨S4x8x4x256, .f32⟩
  | .hbm, ⟨44, _⟩ => ⟨S_, .f32⟩
  | .hbm, ⟨45, _⟩ => ⟨S4x8x4x256, .f32⟩
  | .hbm, ⟨46, _⟩ => ⟨S4x8x4x256, .f32⟩
  | .hbm, ⟨47, _⟩ => ⟨S4x8x4x256x1, .f32⟩
  | .hbm, ⟨48, _⟩ => ⟨S4x8x4x256x256, .f32⟩
  | .hbm, ⟨49, _⟩ => ⟨S4x8x4x256x256, .f32⟩
  | .hbm, ⟨50, _⟩ => ⟨S4x8x4x256x256, .f32⟩
  | .hbm, ⟨51, _⟩ => ⟨S_, .f32⟩
  | .hbm, ⟨52, _⟩ => ⟨S4x8x4x256, .f32⟩
  | .hbm, ⟨53, _⟩ => ⟨S4x8x4x256x1, .f32⟩
  | .hbm, ⟨54, _⟩ => ⟨S4x8x4x256x256, .f32⟩
  | .hbm, ⟨55, _⟩ => ⟨S4x8x4x256x256, .f32⟩
  | .hbm, ⟨56, _⟩ => ⟨S4x8x128x4x256, .f32⟩
  | .hbm, ⟨57, _⟩ => ⟨S4x256x8x4x128, .f32⟩
  | .hbm, ⟨58, _⟩ => ⟨S1024x4096, .f32⟩
  | .hbm, ⟨59, _⟩ => ⟨S1024x4096, .bf16⟩
  | .hbm, ⟨60, _⟩ => ⟨S17408x4096, .bf16⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩

abbrev nD : Nat := 1
abbrev τ : Topo := Topo.v7x

variable {F : FTy → Type} [FloatOps F]
-- ==== Proof.SoftmaxMath.lean ====
/- The arithmetic of the attention claim, free of programs: over the extended reals, a softmax computed over two
   pieces of a row and divided once at the end is the softmax of the joined row, divided term by term. -/
module

public import Idealize.ShloMosaic.PureOps.Ideal.Laws
public import Idealize.ShloMosaic.Lib.Pointwise

@[expose] public section

noncomputable section

open Idealize.ShloMosaic
open scoped BigOperators

namespace SoftmaxMath

/-- The accumulator word of the printed maxima is minus infinity. -/
theorem ofBits_negInf : Ideal.ofBits .f32 0xFF800000#32 = (⊥ : EReal) := by
  simp [Ideal.ofBits, Ideal.ieee]

/-- The maximum of a nonempty row of reals, folded from minus infinity, is a real number. -/
theorem fold_max_coe {n : ℕ} (hn : 0 < n) (f : Fin n → ℝ) :
    ∃ M : ℝ, Finset.fold max (⊥ : EReal) (fun x => (f x : EReal)) Finset.univ = M := by
  haveI : Nonempty (Fin n) := ⟨⟨0, hn⟩⟩
  obtain ⟨i, -, hi⟩ := Finset.exists_mem_eq_sup (Finset.univ : Finset (Fin n)) Finset.univ_nonempty (fun x => (f x : EReal))
  exact ⟨f i, hi⟩

/-- The maximum over a row that joins two pieces is the larger of the two pieces' maxima. -/
theorem fold_max_join {a b n : ℕ} (hn : a + b = n) (s : Fin n → EReal) (sl : Fin a → EReal) (sc : Fin b → EReal)
    (hl : ∀ x : Fin a, s ⟨x, by omega⟩ = sl x) (hc : ∀ x : Fin b, s ⟨a + x, by omega⟩ = sc x) :
    Finset.fold max (⊥ : EReal) s Finset.univ
      = max (Finset.fold max (⊥ : EReal) sc Finset.univ) (Finset.fold max (⊥ : EReal) sl Finset.univ) := by
  apply le_antisymm
  · refine (Finset.fold_max_le _).2 ⟨bot_le, fun k _ => ?_⟩
    by_cases h : (k : ℕ) < a
    · refine le_max_of_le_right ((Finset.le_fold_max _).2 (.inr ⟨⟨k, h⟩, Finset.mem_univ _, le_of_eq ?_⟩))
      rw [← hl]
    · have hk := k.isLt
      refine le_max_of_le_left ((Finset.le_fold_max _).2 (.inr ⟨⟨k - a, by omega⟩, Finset.mem_univ _, le_of_eq ?_⟩))
      rw [← hc]
      exact congrArg s (Fin.ext (by show (k : ℕ) = a + (k - a); omega))
  · refine max_le ((Finset.fold_max_le _).2 ⟨bot_le, fun k _ => ?_⟩) ((Finset.fold_max_le _).2 ⟨bot_le, fun k _ => ?_⟩)
    · exact (Finset.le_fold_max _).2 (.inr ⟨⟨a + k, by omega⟩, Finset.mem_univ _, le_of_eq (hc k).symm⟩)
    · exact (Finset.le_fold_max _).2 (.inr ⟨⟨k, by omega⟩, Finset.mem_univ _, le_of_eq (hl k).symm⟩)

/-- A sum of coerced reals is the coerced sum. -/
theorem sum_coe {n : ℕ} (f : Fin n → ℝ) : ∑ x, (f x : EReal) = ((∑ x, f x : ℝ) : EReal) := by
  induction n with
  | zero => simp
  | succ n ih => rw [Fin.sum_univ_succ, Fin.sum_univ_succ, ih, EReal.coe_add]

/-- A product with a nonnegative real distributes over a sum, whatever infinities the terms hold. -/
theorem sum_mul_coe {n : ℕ} (f : Fin n → EReal) {r : ℝ} (hr : 0 ≤ r) : (∑ x, f x) * (r : EReal) = ∑ x, f x * (r : EReal) := by
  induction n with
  | zero => simp
  | succ n ih =>
    rw [Fin.sum_univ_succ, Fin.sum_univ_succ,
      EReal.right_distrib_of_nonneg_of_ne_top (EReal.coe_nonneg.2 hr) (EReal.coe_ne_top r), ih]

/-- What one head of the kernel computes for one query row and one value column: from the scores `sc`, `sl` against the
    context and the latent keys, the maximum of both, the exponentials' two weighted sums added, divided once by the
    exponentials' sum. -/
def tile {a b : ℕ} (sl : Fin a → EReal) (sc : Fin b → EReal) (vl : Fin a → EReal) (vc : Fin b → EReal) : EReal :=
  Ideal.div
    (∑ x, Ideal.exp (sc x - max (Finset.fold max ⊥ sc Finset.univ) (Finset.fold max ⊥ sl Finset.univ)) * vc x
      + ∑ x, Ideal.exp (sl x - max (Finset.fold max ⊥ sc Finset.univ) (Finset.fold max ⊥ sl Finset.univ)) * vl x)
    (∑ x, Ideal.exp (sc x - max (Finset.fold max ⊥ sc Finset.univ) (Finset.fold max ⊥ sl Finset.univ))
      + ∑ x, Ideal.exp (sl x - max (Finset.fold max ⊥ sc Finset.univ) (Finset.fold max ⊥ sl Finset.univ)))

/-- The textbook form over the joined row: every weight divided by the weights' sum, then the weighted sum of the values. -/
def softmaxSum {n : ℕ} (s v : Fin n → EReal) : EReal :=
  ∑ k, v k * Ideal.div (Ideal.exp (s k - Finset.fold max ⊥ s Finset.univ))
    (∑ j, Ideal.exp (s j - Finset.fold max ⊥ s Finset.univ))

/-- With finite scores the two are equal, whatever the values are. -/
theorem tile_eq_softmaxSum {a b n : ℕ} (hn : a + b = n) (ha : 0 < a) (hb : 0 < b) (s v : Fin n → EReal)
    (sl : Fin a → EReal) (sc : Fin b → EReal) (vl : Fin a → EReal) (vc : Fin b → EReal)
    (hl : ∀ x : Fin a, s ⟨x, by omega⟩ = sl x) (hc : ∀ x : Fin b, s ⟨a + x, by omega⟩ = sc x)
    (hvl : ∀ x : Fin a, v ⟨x, by omega⟩ = vl x) (hvc : ∀ x : Fin b, v ⟨a + x, by omega⟩ = vc x)
    (fl : ∀ x, ∃ r : ℝ, sl x = r) (fc : ∀ x, ∃ r : ℝ, sc x = r) :
    tile sl sc vl vc = softmaxSum s v := by
  obtain ⟨M, hM⟩ : ∃ M : ℝ, max (Finset.fold max ⊥ sc Finset.univ) (Finset.fold max ⊥ sl Finset.univ) = (M : EReal) := by
    choose rl hrl using fl
    choose rc hrc using fc
    obtain ⟨Ml, hMl⟩ := fold_max_coe ha rl
    obtain ⟨Mc, hMc⟩ := fold_max_coe hb rc
    refine ⟨max Mc Ml, ?_⟩
    rw [funext hrl, funext hrc, hMl, hMc]
    exact (EReal.coe_strictMono.monotone.map_max).symm
  have el : ∀ x, ∃ r : ℝ, Ideal.exp (sl x - (M : EReal)) = r ∧ 0 < r := fun x => by
    obtain ⟨r, hr⟩ := fl x
    exact ⟨Real.exp (r - M), by rw [hr, ← EReal.coe_sub]; rfl, Real.exp_pos _⟩
  have ec : ∀ x, ∃ r : ℝ, Ideal.exp (sc x - (M : EReal)) = r ∧ 0 < r := fun x => by
    obtain ⟨r, hr⟩ := fc x
    exact ⟨Real.exp (r - M), by rw [hr, ← EReal.coe_sub]; rfl, Real.exp_pos _⟩
  choose wl hwl wlpos using el
  choose wc hwc wcpos using ec
  haveI : Nonempty (Fin b) := ⟨⟨0, hb⟩⟩
  have hD : 0 < ∑ x, wc x + ∑ x, wl x :=
    add_pos_of_pos_of_nonneg (Finset.sum_pos (fun x _ => wcpos x) Finset.univ_nonempty)
      (Finset.sum_nonneg fun x _ => (wlpos x).le)
  unfold tile softmaxSum
  rw [fold_max_join hn s sl sc hl hc, hM]
  simp only [Fin.sum_univ_two_halves a b hn, hl, hc, hvl, hvc, hwl, hwc, sum_coe]
  rw [add_comm ((∑ x, wl x : ℝ) : EReal), ← EReal.coe_add]
  simp only [Ideal.div_coe hD.ne']
  have hinv : 0 ≤ 1 / (∑ x, wc x + ∑ x, wl x) := by positivity
  rw [EReal.right_distrib_of_nonneg_of_ne_top (EReal.coe_nonneg.2 hinv) (EReal.coe_ne_top _), sum_mul_coe _ hinv,
    sum_mul_coe _ hinv, add_comm]
  refine congrArg₂ (· + ·) (Finset.sum_congr rfl fun x _ => ?_) (Finset.sum_congr rfl fun x _ => ?_)
  · rw [mul_comm (wl x : EReal), mul_assoc]
  · rw [mul_comm (wc x : EReal), mul_assoc]

/-- The same over a row in one piece: dividing the weighted sum once is dividing every weight. -/
theorem div_eq_softmaxSum {n : ℕ} (hn : 0 < n) (s v : Fin n → EReal) (fs : ∀ x, ∃ r : ℝ, s x = r) :
    Ideal.div (∑ x, Ideal.exp (s x - Finset.fold max ⊥ s Finset.univ) * v x) (∑ x, Ideal.exp (s x - Finset.fold max ⊥ s Finset.univ))
      = softmaxSum s v := by
  obtain ⟨M, hM⟩ : ∃ M : ℝ, Finset.fold max ⊥ s Finset.univ = (M : EReal) := by
    choose rs hrs using fs
    rw [funext hrs]
    exact fold_max_coe hn rs
  have es : ∀ x, ∃ r : ℝ, Ideal.exp (s x - (M : EReal)) = r ∧ 0 < r := fun x => by
    obtain ⟨r, hr⟩ := fs x
    exact ⟨Real.exp (r - M), by rw [hr, ← EReal.coe_sub]; rfl, Real.exp_pos _⟩
  choose w hw wpos using es
  haveI : Nonempty (Fin n) := ⟨⟨0, hn⟩⟩
  have hD : 0 < ∑ x, w x := Finset.sum_pos (fun x _ => wpos x) Finset.univ_nonempty
  have hinv : 0 ≤ 1 / ∑ x, w x := by positivity
  unfold softmaxSum
  rw [hM]
  simp only [hw, sum_coe, Ideal.div_coe hD.ne']
  rw [sum_mul_coe _ hinv]
  exact Finset.sum_congr rfl fun x _ => by rw [mul_comm (w x : EReal), mul_assoc]

/-- A finite sum of products of reals is a real. -/
theorem dot_finite {n : ℕ} (f g : Fin n → EReal) (hf : ∀ x, ∃ r : ℝ, f x = r) (hg : ∀ x, ∃ r : ℝ, g x = r) :
    ∃ r : ℝ, ∑ x, f x * g x = r := by
  choose rf hrf using hf
  choose rg hrg using hg
  refine ⟨∑ x, rf x * rg x, ?_⟩
  rw [← sum_coe]
  exact Finset.sum_congr rfl fun x _ => by rw [hrf, hrg, EReal.coe_mul]

end SoftmaxMath
-- ==== Proof.AttnPay.lean ====
/- What one head of the attention kernel's body stores, read at an index: the two-piece softmax of SoftmaxMath over the
   head's query rows, the context and the latent keys, and the values. -/
module

public import proofs.«01_k».proof.Proof.Gen.KernelIdeal.Skeleton
public import proofs.«01_k».proof.Proof.SoftmaxMath

@[expose] public section

set_option maxRecDepth 16384

noncomputable section

open Idealize.ShloMosaic Idealize.ShloMosaic.TcCoe Idealize.SL.Sem

namespace Cert.KernelIdeal.Attn
open Cert.KernelIdeal Cert.KernelIdeal.Gen

/-- The first head's payload at row `r` and value column `d`: the scores are the products of query row `r` with the key
    rows, the weights are taken over both key pieces, and the division comes last. -/
theorem pay_head (q : Vec Ideal S256x128 .bf16) (kc : Vec Ideal S256x128 .bf16) (kl : Vec Ideal S4096x128 .bf16)
    (vc : Vec Ideal S256x128 .bf16) (vl : Vec Ideal S4096x128 .bf16) (r : Fin 256) (d : Fin 128) :
    k0_pay2 (F := Ideal) q kc kl vc vl (ix2 r d)
      = SoftmaxMath.tile (fun x : Fin 4096 => ∑ e : Fin 128, q (ix2 r e) * kl (ix2 x e))
          (fun x : Fin 256 => ∑ e : Fin 128, q (ix2 r e) * kc (ix2 x e)) (fun x => vl (ix2 x d)) (fun x => vc (ix2 x d)) := by
  pointwise [k0_pay2]
  rw [SoftmaxMath.ofBits_negInf]
  rfl

/-- The second head's payload is the first's text over its own query columns. -/
theorem pay3_eq (q : Vec Ideal S256x128 .bf16) (kc : Vec Ideal S256x128 .bf16) (kl : Vec Ideal S4096x128 .bf16)
    (vc : Vec Ideal S256x128 .bf16) (vl : Vec Ideal S4096x128 .bf16) :
    k0_pay3 (F := Ideal) q kc kl vc vl = k0_pay2 q kc kl vc vl := rfl

/-- The third head's payload, its context scores and their maximum computed before it, is the same. -/
theorem pay6_eq (q : Vec Ideal S256x128 .bf16) (kc : Vec Ideal S256x128 .bf16) (kl : Vec Ideal S4096x128 .bf16)
    (vc : Vec Ideal S256x128 .bf16) (vl : Vec Ideal S4096x128 .bf16) :
    k0_pay6 (F := Ideal) q (k0_pay4 q kc) (k0_pay5 q kc) kl vc vl = k0_pay2 q kc kl vc vl := rfl

/-- The fourth head's payload, all its scores and both maxima computed before it, is the same. -/
theorem pay1_eq (q : Vec Ideal S256x128 .bf16) (kc : Vec Ideal S256x128 .bf16) (kl : Vec Ideal S4096x128 .bf16)
    (vc : Vec Ideal S256x128 .bf16) (vl : Vec Ideal S4096x128 .bf16) :
    k0_pay1 (F := Ideal) (k0_pay7 q kc) (k0_pay8 q kc) (k0_pay9 q kl) (k0_pay10 q kl) vc vl = k0_pay2 q kc kl vc vl := rfl

end Cert.KernelIdeal.Attn
-- ==== Proof.AttnRef.lean ====
/- The attention reference read at an index of the latent rows: a softmax over the joined keys of the row's batch
   element and head, and the weighted sum of the joined values. -/
module

public import proofs.«01_k».proof.Proof.Gen.ReferenceIdeal.Read
public import proofs.«01_k».proof.Proof.SoftmaxMath

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen Cert.ReferenceIdeal.Read

/-- Row `s` of batch element `b`'s joined keys or values, column `d` of key head `h`: a latent row of the array first,
    then a context row. -/
def joined (k : FVec Ideal S17408x1024 .bf16) (b : Fin 4) (h : Fin 8) (d : Fin 128) (s : Fin 4352) : EReal :=
  if hs : s.val < 4096 then k (ix2 ⟨b.val * 4096 + s.val, by omega⟩ ⟨h.val * 128 + d.val, by omega⟩)
  else k (ix2 ⟨16384 + (b.val * 256 + (s.val - 4096)), by omega⟩ ⟨h.val * 128 + d.val, by omega⟩)

/-- The score of query row `n`, query head `g` of key head `h`, against joined key `s`. -/
def score (q : FVec Ideal S17408x4096 .bf16) (k : FVec Ideal S17408x1024 .bf16) (b : Fin 4) (h : Fin 8) (g : Fin 4) (n : Fin 4096)
    (s : Fin 4352) : EReal :=
  ∑ d : Fin 128, joined k b h d s * q (ix2 ⟨b.val * 4096 + n.val, by omega⟩ ⟨h.val * 512 + g.val * 128 + d.val, by omega⟩)

/-- The reference's scores. -/
theorem scores_apply (q : FVec Ideal S17408x4096 .bf16) (k : FVec Ideal S17408x1024 .bf16) (b : Fin 4) (h : Fin 8) (g : Fin 4)
    (n : Fin 4096) (s : Fin 4352) : val_main_v16 (F := Ideal) q k (ix5 b h g n s) = score q k b h g n s := by
  pointwise [val_main_v0, val_main_v1, val_main_v3, val_main_v4, val_main_v5, val_main_v6, val_main_v7, val_main_v8, val_main_v9,
    val_main_v15, val_main_v16]
  rfl

/-- The reference's joined values. -/
theorem values_apply (v : FVec Ideal S17408x1024 .bf16) (b : Fin 4) (h : Fin 8) (s : Fin 4352) (d : Fin 128) :
    val_main_v14 (F := Ideal) v (ix4 b s h d) = joined v b h d s := by
  pointwise [val_main_v2, val_main_v10, val_main_v11, val_main_v12, val_main_v13, val_main_v14]
  rfl

/-- The reference's row maximum. -/
theorem rowMax_apply (q : FVec Ideal S17408x4096 .bf16) (k : FVec Ideal S17408x1024 .bf16) (b : Fin 4) (h : Fin 8) (g : Fin 4)
    (n : Fin 4096) : val_main_v17 (F := Ideal) q k (ix4 b h g n) = Finset.fold max ⊥ (score q k b h g n) Finset.univ := by
  pointwise [val_main_v17, val_main_cst]
  rw [SoftmaxMath.ofBits_negInf]
  exact congrArg (fun f => Finset.fold max ⊥ f Finset.univ) (funext fun s => scores_apply q k b h g n s)

/-- The exponential of a score less the row maximum. -/
theorem exp_apply (q : FVec Ideal S17408x4096 .bf16) (k : FVec Ideal S17408x1024 .bf16) (b : Fin 4) (h : Fin 8) (g : Fin 4)
    (n : Fin 4096) (s : Fin 4352) : val_main_v23 (F := Ideal) q k (ix5 b h g n s)
      = Ideal.exp (score q k b h g n s - Finset.fold max ⊥ (score q k b h g n) Finset.univ) := by
  have hm : val_main_v19 (F := Ideal) q k (ix4 b h g n) = Finset.fold max ⊥ (score q k b h g n) Finset.univ := by
    rw [val_main_v19_apply, val_main_v18_apply, val_main_cst_0_apply, rowMax_apply]
    show max (Ideal.ofBits .f32 0xFF800000#32) _ = _
    rw [SoftmaxMath.ofBits_negInf, max_eq_right bot_le]
  rw [val_main_v23_apply, val_main_v22_apply, val_main_v21_apply, val_main_v20_apply, scores_apply]
  refine (congrArg (fun M : EReal => Ideal.exp (score q k b h g n s - M)) ?_)
  refine (congrArg (val_main_v19 (F := Ideal) q k) ?_).trans hm
  funext a
  match a with
  | ⟨0, _⟩ => rfl
  | ⟨1, _⟩ => rfl
  | ⟨2, _⟩ => rfl
  | ⟨3, _⟩ => rfl

/-- The exponentials' sum over the joined row. -/
theorem rowSum_apply (q : FVec Ideal S17408x4096 .bf16) (k : FVec Ideal S17408x1024 .bf16) (b : Fin 4) (h : Fin 8) (g : Fin 4)
    (n : Fin 4096) : val_main_v24 (F := Ideal) q k (ix4 b h g n)
      = ∑ s, Ideal.exp (score q k b h g n s - Finset.fold max ⊥ (score q k b h g n) Finset.univ) := by
  pointwise [val_main_v24_apply, val_main_cst_1]
  refine Finset.sum_congr rfl fun s _ => (congrArg (val_main_v23 (F := Ideal) q k) ?_).trans (exp_apply q k b h g n s)
  funext a
  match a with
  | ⟨0, _⟩ => rfl
  | ⟨1, _⟩ => rfl
  | ⟨2, _⟩ => rfl
  | ⟨3, _⟩ => rfl
  | ⟨4, _⟩ => rfl

/-- The reference's weights. -/
theorem weight_apply (q : FVec Ideal S17408x4096 .bf16) (k : FVec Ideal S17408x1024 .bf16) (b : Fin 4) (h : Fin 8) (g : Fin 4)
    (n : Fin 4096) (s : Fin 4352) : val_main_v27 (F := Ideal) q k (ix5 b h g n s)
      = Ideal.div (Ideal.exp (score q k b h g n s - Finset.fold max ⊥ (score q k b h g n) Finset.univ))
          (∑ j, Ideal.exp (score q k b h g n j - Finset.fold max ⊥ (score q k b h g n) Finset.univ)) := by
  pointwise [val_main_v27, val_main_v26, val_main_v25]
  exact congrArg₂ Ideal.div (exp_apply q k b h g n s) (rowSum_apply q k b h g n)

/-- The reference's result at a latent row: row `n` of batch element `b`, column `d` of query head `g` of key head `h`. -/
theorem result_apply (q : FVec Ideal S17408x4096 .bf16) (k v : FVec Ideal S17408x1024 .bf16) (b : Fin 4) (h : Fin 8) (g : Fin 4)
    (n : Fin 4096) (d : Fin 128) (r : Fin 17408) (c : Fin 4096) (hr : r.val = b.val * 4096 + n.val)
    (hc : c.val = h.val * 512 + g.val * 128 + d.val) :
    val_main_v33 (F := Ideal) q k v (ix2 r c) = SoftmaxMath.softmaxSum (score q k b h g n) (joined v b h d) := by
  have hr' : r.val < 16384 := by omega
  pointwise [val_main_v33, val_main_v31]
  rw [dif_pos hr', val_main_v30_apply, val_main_v29_apply, val_main_v28_apply]
  unfold SoftmaxMath.softmaxSum
  refine Finset.sum_congr rfl fun s _ => congrArg₂ (· * ·) ?_ ?_
  · refine (congrArg (val_main_v14 (F := Ideal) v) ?_).trans (values_apply v b h s d)
    funext a
    apply Fin.ext
    match a with
    | ⟨0, _⟩ => show (r.val * 4096 + c.val) / 16777216 = b.val; omega
    | ⟨1, _⟩ => rfl
    | ⟨2, _⟩ => show (r.val * 4096 + c.val) / 512 % 8 = h.val; omega
    | ⟨3, _⟩ => show (r.val * 4096 + c.val) % 128 = d.val; omega
  · refine (congrArg (val_main_v27 (F := Ideal) q k) ?_).trans (weight_apply q k b h g n s)
    funext a
    apply Fin.ext
    match a with
    | ⟨0, _⟩ => show (r.val * 4096 + c.val) / 16777216 = b.val; omega
    | ⟨1, _⟩ => show (r.val * 4096 + c.val) / 512 % 8 = h.val; omega
    | ⟨2, _⟩ => show (r.val * 4096 + c.val) / 128 % 4 = g.val; omega
    | ⟨3, _⟩ => show (r.val * 4096 + c.val) / 4096 % 4096 = n.val; omega
    | ⟨4, _⟩ => rfl

end Cert.ReferenceIdeal.Attn
-- ==== Proof.AttnValue.lean ====
/- The attention kernel's result array: at a latent row, the two-piece softmax of the row's block. -/
module

public import proofs.«01_k».proof.Proof.Gen.KernelIdeal.Value
public import proofs.«01_k».proof.Proof.AttnPay
public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Attn
open Cert.KernelIdeal Cert.KernelIdeal.Gen

variable (m : (ℓ : Loc nD τ sig) → Buf (Elt Ideal) ℓ)

/-- The block indices of every window at grid point `t`: the grid is (batch element, key head, query tile), 4 by 8 by 16. -/
theorem idx : ∀ t : Fin cfg0.N, win0_0.index t = ![t.val / 128 * 16 + t.val % 16, t.val / 16 % 8]
    ∧ win0_1.index t = ![t.val / 128, t.val / 16 % 8] ∧ win0_2.index t = ![64 + t.val / 128, t.val / 16 % 8]
    ∧ win0_3.index t = ![t.val / 128, t.val / 16 % 8] ∧ win0_4.index t = ![64 + t.val / 128, t.val / 16 % 8]
    ∧ win0_5.index t = ![t.val / 128 * 16 + t.val % 16, t.val / 16 % 8] :=
  (by decide +kernel : ∀ t : Fin grid0.N, _)

/-- The result window writes exactly the latent rows' blocks. -/
theorem covers : (cfg0.win 5).CoversWhere (fun β => β 0 < 64) := by decide +kernel

/-- Entry of the latent keys' block at point `t`: row `x` of batch element `t / 128`, column `e` of key head `t / 16 % 8`. -/
theorem latentKeys (c : Dev nD) (t : Fin cfg0.N) (x : Fin 4096) (e : Fin 128) (i : S17408x1024.Idx)
    (h0 : (i 0).val = t.val / 128 * 4096 + x.val) (h1 : (i 1).val = t.val / 16 % 8 * 128 + e.val) :
    (show Vec Ideal S4096x128 .bf16 from X0_1 m c t) (ix2 x e) = m ((c : Thread nD τ).loc main_arg1) i := by
  show X0_1 m c t (ix2 x e) = _
  unfold X0_1 Pipeline.Window.fill
  rw [dif_pos (moved0_1 t _)]
  blk_ext [iblk, V, idx t]

/-- The same of the latent values' block. -/
theorem latentValues (c : Dev nD) (t : Fin cfg0.N) (x : Fin 4096) (e : Fin 128) (i : S17408x1024.Idx)
    (h0 : (i 0).val = t.val / 128 * 4096 + x.val) (h1 : (i 1).val = t.val / 16 % 8 * 128 + e.val) :
    (show Vec Ideal S4096x128 .bf16 from X0_3 m c t) (ix2 x e) = m ((c : Thread nD τ).loc main_arg2) i := by
  show X0_3 m c t (ix2 x e) = _
  unfold X0_3 Pipeline.Window.fill
  rw [dif_pos (moved0_3 t _)]
  blk_ext [iblk, V, idx t]

/-- Entry of the context keys' block at point `t`: context row `x` of the batch element. -/
theorem contextKeys (c : Dev nD) (t : Fin cfg0.N) (x : Fin 256) (e : Fin 128) (i : S17408x1024.Idx)
    (h0 : (i 0).val = 16384 + t.val / 128 * 256 + x.val) (h1 : (i 1).val = t.val / 16 % 8 * 128 + e.val) :
    (show Vec Ideal S256x128 .bf16 from iblk m c 2 t) (ix2 x e) = m ((c : Thread nD τ).loc main_arg1) i := by
  show iblk m c 2 t (ix2 x e) = _
  blk_ext [iblk, V, idx t]

/-- The same of the context values' block. -/
theorem contextValues (c : Dev nD) (t : Fin cfg0.N) (x : Fin 256) (e : Fin 128) (i : S17408x1024.Idx)
    (h0 : (i 0).val = 16384 + t.val / 128 * 256 + x.val) (h1 : (i 1).val = t.val / 16 % 8 * 128 + e.val) :
    (show Vec Ideal S256x128 .bf16 from iblk m c 4 t) (ix2 x e) = m ((c : Thread nD τ).loc main_arg2) i := by
  show iblk m c 4 t (ix2 x e) = _
  blk_ext [iblk, V, idx t]

/-- Entry of the queries' block at point `t`: row `r` of query tile `t % 16` of the batch element, column `o` of the key head's
    four query heads. -/
theorem queries (c : Dev nD) (t : Fin cfg0.N) (r : Fin 256) (o : Fin 512) (i : S17408x4096.Idx)
    (h0 : (i 0).val = t.val / 128 * 4096 + t.val % 16 * 256 + r.val) (h1 : (i 1).val = t.val / 16 % 8 * 512 + o.val) :
    (show Vec Ideal S256x512 .bf16 from iblk m c 0 t) (ix2 r o) = m ((c : Thread nD τ).loc main_arg0) i := by
  show iblk m c 0 t (ix2 r o) = _
  blk_ext [iblk, V, idx t]

/-- The reference's value at element `i` of a latent row: the softmax of row `i 0`'s scores, head by head. -/
def target (q : FVec Ideal S17408x4096 .bf16) (k v : FVec Ideal S17408x1024 .bf16) (i : S17408x4096.Idx) : EReal :=
  Cert.ReferenceIdeal.Read.val_main_v33 (F := Ideal) q k v i

/-- ONE HEAD: over the query columns of head `g`, the payload at row `r` and column `d` is the reference's element there. -/
theorem head (c : Dev nD) (hq : ∀ i, ∃ a : ℝ, m ((c : Thread nD τ).loc main_arg0) i = (a : EReal))
    (hk : ∀ i, ∃ a : ℝ, m ((c : Thread nD τ).loc main_arg1) i = (a : EReal)) (t : Fin cfg0.N) (g : Fin 4)
    (qh : Vec Ideal S256x128 .bf16)
    (hqh : ∀ (r : Fin 256) (e : Fin 128), qh (ix2 r e) = (show Vec Ideal S256x512 .bf16 from iblk m c 0 t) (ix2 r ⟨g.val * 128 + e.val, by omega⟩))
    (r : Fin 256) (d : Fin 128) (i : S17408x4096.Idx) (h0 : (i 0).val = t.val / 128 * 4096 + t.val % 16 * 256 + r.val)
    (h1 : (i 1).val = t.val / 16 % 8 * 512 + g.val * 128 + d.val) :
    k0_pay2 (F := Ideal) qh (iblk m c 2 t) (X0_1 m c t) (iblk m c 4 t) (X0_3 m c t) (ix2 r d)
      = target (m ((c : Thread nD τ).loc main_arg0)) (m ((c : Thread nD τ).loc main_arg1)) (m ((c : Thread nD τ).loc main_arg2)) i := by
  have ht : t.val < 512 := lt_of_lt_of_eq t.isLt N_0
  have hi : i = ix2 (⟨t.val / 128 * 4096 + t.val % 16 * 256 + r.val, by omega⟩ : Fin 17408)
      (⟨t.val / 16 % 8 * 512 + g.val * 128 + d.val, by omega⟩ : Fin 4096) := by
    funext a
    match a with
    | ⟨0, _⟩ => exact Fin.ext h0
    | ⟨1, _⟩ => exact Fin.ext h1
  unfold target
  rw [hi, pay_head, Cert.ReferenceIdeal.Attn.result_apply _ _ _ ⟨t.val / 128, by omega⟩ ⟨t.val / 16 % 8, by omega⟩ g
    ⟨t.val % 16 * 256 + r.val, by omega⟩ d _ _ (by (try blk_simp); (try dsimp only); (try omega)) (by (try blk_simp); (try dsimp only); (try omega))]
  refine SoftmaxMath.tile_eq_softmaxSum (a := 4096) (b := 256) rfl (by decide) (by decide) _ _ _ _ _ _ ?_ ?_ ?_ ?_ ?_ ?_
  · intro x
    unfold Cert.ReferenceIdeal.Attn.score Cert.ReferenceIdeal.Attn.joined
    refine Finset.sum_congr rfl fun e _ => ?_
    rw [dif_pos x.isLt, mul_comm, hqh]
    exact congrArg₂ (· * ·) (queries m c t r _ _ (by (try blk_simp); (try dsimp only); (try omega)) (by (try blk_simp); (try dsimp only); (try omega))).symm
      (latentKeys m c t x e _ rfl rfl).symm
  · intro x
    unfold Cert.ReferenceIdeal.Attn.score Cert.ReferenceIdeal.Attn.joined
    refine Finset.sum_congr rfl fun e _ => ?_
    rw [dif_neg (by show ¬ 4096 + x.val < 4096; omega), mul_comm, hqh]
    exact congrArg₂ (· * ·) (queries m c t r _ _ (by (try blk_simp); (try dsimp only); (try omega)) (by (try blk_simp); (try dsimp only); (try omega))).symm
      (contextKeys m c t x e _ (by (try blk_simp); (try dsimp only); (try omega)) rfl).symm
  · intro x
    unfold Cert.ReferenceIdeal.Attn.joined
    rw [dif_pos x.isLt]
    exact (latentValues m c t x d _ rfl rfl).symm
  · intro x
    unfold Cert.ReferenceIdeal.Attn.joined
    rw [dif_neg (by show ¬ 4096 + x.val < 4096; omega)]
    exact (contextValues m c t x d _ (by (try blk_simp); (try dsimp only); (try omega)) rfl).symm
  · intro x
    refine SoftmaxMath.dot_finite _ _ (fun e => ?_) (fun e => ?_)
    · obtain ⟨a, ha⟩ := hq (ix2 (⟨t.val / 128 * 4096 + t.val % 16 * 256 + r.val, by omega⟩ : Fin 17408)
        (⟨t.val / 16 % 8 * 512 + (g.val * 128 + e.val), by omega⟩ : Fin 4096))
      exact ⟨a, (hqh r e).trans ((queries m c t r _ _ rfl rfl).trans ha)⟩
    · obtain ⟨a, ha⟩ := hk (ix2 (⟨t.val / 128 * 4096 + x.val, by omega⟩ : Fin 17408) (⟨t.val / 16 % 8 * 128 + e.val, by omega⟩ : Fin 1024))
      exact ⟨a, (latentKeys m c t x e _ rfl rfl).trans ha⟩
  · intro x
    refine SoftmaxMath.dot_finite _ _ (fun e => ?_) (fun e => ?_)
    · obtain ⟨a, ha⟩ := hq (ix2 (⟨t.val / 128 * 4096 + t.val % 16 * 256 + r.val, by omega⟩ : Fin 17408)
        (⟨t.val / 16 % 8 * 512 + (g.val * 128 + e.val), by omega⟩ : Fin 4096))
      exact ⟨a, (hqh r e).trans ((queries m c t r _ _ rfl rfl).trans ha)⟩
    · obtain ⟨a, ha⟩ := hk (ix2 (⟨16384 + t.val / 128 * 256 + x.val, by omega⟩ : Fin 17408) (⟨t.val / 16 % 8 * 128 + e.val, by omega⟩ : Fin 1024))
      exact ⟨a, (contextKeys m c t x e _ rfl rfl).trans ha⟩

/-- What the body leaves in the result's block at point `t` is the reference there. -/
theorem point (c : Dev nD) (hq : ∀ i, ∃ a : ℝ, m ((c : Thread nD τ).loc main_arg0) i = (a : EReal))
    (hk : ∀ i, ∃ a : ℝ, m ((c : Thread nD τ).loc main_arg1) i = (a : EReal)) (t : Fin cfg0.N) (y : S256x512.Idx)
    (i : S17408x4096.Idx) (hi0 : (i 0).val = t.val / 128 * 4096 + t.val % 16 * 256 + (y 0).val)
    (hi1 : (i 1).val = t.val / 16 % 8 * 512 + (y 1).val) :
    outsAt0 m c t y
      = target (m ((c : Thread nD τ).loc main_arg0)) (m ((c : Thread nD τ).loc main_arg1)) (m ((c : Thread nD τ).loc main_arg2)) i := by
  unfold outsAt0
  frame_out
  canon_tiles x h
  · rw [pay1_eq, eq_ix2 x]
    refine head m c hq hk t 3 _ (fun r e => ?_) (x 0) (x 1) i (by omega) ?_
    · pointwise; blk_ext
    · show _ = t.val / 16 % 8 * 512 + 3 * 128 + (x 1).val; omega
  · rw [pay6_eq, eq_ix2 x]
    refine head m c hq hk t 2 _ (fun r e => ?_) (x 0) (x 1) i (by omega) ?_
    · pointwise; blk_ext
    · show _ = t.val / 16 % 8 * 512 + 2 * 128 + (x 1).val; omega
  · rw [pay3_eq, eq_ix2 x]
    refine head m c hq hk t 1 _ (fun r e => ?_) (x 0) (x 1) i (by omega) ?_
    · pointwise; blk_ext
    · show _ = t.val / 16 % 8 * 512 + 1 * 128 + (x 1).val; omega
  · rw [eq_ix2 x]
    refine head m c hq hk t 0 _ (fun r e => ?_) (x 0) (x 1) i (by omega) ?_
    · pointwise; blk_ext
    · show _ = t.val / 16 % 8 * 512 + 0 * 128 + (x 1).val; omega

/-- The result array after the run: the reference's value at every latent row. -/
theorem final (c : Dev nD) (hq : ∀ i, ∃ a : ℝ, m ((c : Thread nD τ).loc main_arg0) i = (a : EReal))
    (hk : ∀ i, ∃ a : ℝ, m ((c : Thread nD τ).loc main_arg1) i = (a : EReal)) (i : S17408x4096.Idx) (hi : (i 0).val < 16384) :
    (dats m 0 c).arrAt 5 cfg0.N i
      = target (m ((c : Thread nD τ).loc main_arg0)) (m ((c : Thread nD τ).loc main_arg1)) (m ((c : Thread nD τ).loc main_arg2)) i := by
  refine ((dats m 0 c).arrAt_apply_of_coversWhere 5
    (target (m ((c : Thread nD τ).loc main_arg0)) (m ((c : Thread nD τ).loc main_arg1)) (m ((c : Thread nD τ).loc main_arg2)))
    (P := fun i => (i 0).val < 16384) (fun β => β 0 < 64) covers (fun t hf y => ?_)
    (fun j => by blk_simp [Pipeline.Window.cell_apply]; omega) i).trans (if_pos hi)
  blk_simp
  rw [after0_5]
  exact point m c hq hk t y _ (by blk_simp [idx t]; try omega) (by blk_simp [idx t]; try omega)

end Cert.KernelIdeal.Attn
-- ==== Proof.AttnClaims.lean ====
/-
  The claims about the attention call (`Kernel` / `KernelIdeal` against `ReferenceIdeal`): what the mask and the precondition
  say about one element, then the five claims.
-/
module

public import proofs.«01_k».proof.Defs
public import proofs.«01_k».proof.Proof.AttnValue
public import proofs.«01_k».proof.Proof.Gen.Kernel.Frame
public import proofs.«01_k».proof.Proof.Gen.KernelIdeal.Frame
public import proofs.«01_k».proof.Proof.Gen.Pre_finite_qk
public import proofs.«01_k».proof.Proof.Gen.On_latent_rows
public import Idealize.ShloMosaic.Lib.Claim

@[expose] public section

noncomputable section

open Idealize.ShloMosaic Idealize.SL.Sem

namespace Cert.Attn

/-- The mask is set at an element exactly when its row is a latent row. -/
theorem latent_of_mask (q : FVec Ideal Cert.On_latent_rows.S17408x4096 .bf16) (k v : FVec Ideal Cert.On_latent_rows.S17408x1024 .bf16)
    (i : Cert.On_latent_rows.S17408x4096.Idx) (h : Cert.On_latent_rows.fn (F := Ideal) q k v i = 1#1) : (i 0).val < 16384 := by
  have h' : IntOp.cmpi .slt (BitVec.ofNat 32 (i 0).val) 16384#32 = 1#1 := h
  have hb : (i 0).val < 17408 := (i 0).isLt
  have hs : (BitVec.ofNat 32 (i 0).val).slt 16384#32 = true := by
    revert h'
    show BitVec.ofBool ((BitVec.ofNat 32 (i 0).val).slt 16384#32) = 1#1 → _
    cases (BitVec.ofNat 32 (i 0).val).slt 16384#32 <;> decide
  rw [BitVec.slt_iff_toInt_lt, BitVec.toInt_eq_toNat_of_lt (by rw [BitVec.toNat_ofNat]; omega), BitVec.toNat_ofNat] at hs
  have h2 : (16384#32).toInt = 16384 := by decide
  omega

/-- An element whose absolute value compares below infinity is a real number. -/
theorem real_of_abs_lt (x : EReal) (h : Ideal.cmp .olt (max x (-x) : Ideal .f32) (Ideal.ofBits .f32 0x7F800000#32) = 1#1) :
    ∃ a : ℝ, x = (a : EReal) := by
  have ht : (Ideal.ofBits .f32 0x7F800000#32 : EReal) = ⊤ := by simp [Ideal.ofBits, Ideal.ieee]
  have hlt : max x (-x) < (⊤ : EReal) := by
    by_contra hn
    rw [ht] at h
    simp [Ideal.cmp, hn] at h
  induction x using EReal.rec with
  | bot => simp at hlt
  | top => simp at hlt
  | coe a => exact ⟨a, rfl⟩

variable (m : (ℓ : Loc Cert.KernelIdeal.nD Cert.KernelIdeal.τ Cert.KernelIdeal.sig) → Buf (Elt Ideal) ℓ)

/-- Under the precondition every query is a real number. -/
theorem real_q (h : Cert.Pre_KernelIdeal_finite_qk m) (c : Dev Cert.KernelIdeal.nD) (i : Cert.KernelIdeal.S17408x4096.Idx) :
    ∃ a : ℝ, m ((c.tc : Thread Cert.KernelIdeal.nD Cert.KernelIdeal.τ).loc Cert.KernelIdeal.main_arg0) i = (a : EReal) :=
  real_of_abs_lt _ (congrFun (h c).1 i)

/-- Under the precondition every key is a real number. -/
theorem real_k (h : Cert.Pre_KernelIdeal_finite_qk m) (c : Dev Cert.KernelIdeal.nD) (i : Cert.KernelIdeal.S17408x1024.Idx) :
    ∃ a : ℝ, m ((c.tc : Thread Cert.KernelIdeal.nD Cert.KernelIdeal.τ).loc Cert.KernelIdeal.main_arg1) i = (a : EReal) :=
  real_of_abs_lt _ (congrFun (h c).2 i)

/-- The printed kernel runs, keeps its arguments and ends quiescent. -/
theorem frame_kernel : Cert.quiescent_Kernel := fun m ρ _ => Cert.Kernel.Gen.frame m ρ

/-- So does the idealized kernel. -/
theorem frame_ideal : Cert.quiescent_KernelIdeal := fun m ρ _ => Cert.KernelIdeal.Gen.frame m ρ

/-- The same under the precondition. -/
theorem frame_ideal_pre : Cert.quiescent_KernelIdeal_pre_finite_qk := fun m ρ _ => Cert.KernelIdeal.Gen.frame m ρ

/-- The reference runs, keeps its arguments and ends quiescent: it is a host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_reference_pre : Cert.quiescent_ReferenceIdeal_pre_finite_qk := fun m ρ _ => frame_reference m ρ trivial

/-- THE VALUE: over the extended reals, with finite queries and keys, the kernel's result at every latent row is the softmax
    attention the reference computes. -/
theorem algebraic : Cert.algebraic_KernelIdeal_ReferenceIdeal_on_latent_rows_pre_finite_qk := by
  intro m ρ m' ρ' hpre hagree
  refine ⟨fun c => Cert.KernelIdeal.Attn.target
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨fun i hi => ?_, (h c).2⟩)
      (Cert.KernelIdeal.Value.run_blocks m ρ)
    exact (congrFun (h c).1 i).trans
      (Cert.KernelIdeal.Attn.final m c (real_q m hpre c) (real_k m hpre c) i (latent_of_mask _ _ _ i hi))
  · refine (θ_run Cert.ReferenceIdeal.defs _ _).mono (fun r h c => ⟨fun i _ => ?_, (h c).2⟩)
      (Cert.ReferenceIdeal.Value.run (F := Ideal) m' ρ')
    rw [(h c).1, Cert.ReferenceIdeal.Read.val_main_v33_eq, (hagree c).1, (hagree c).2.1, (hagree c).2.2]
    rfl

end Cert.Attn

end
-- ==== Proof.Resident.lean ====
/-
  The matrix products of the trunk keep one weight block resident: the first point of a run of `J` points casts the block
  into a scratch buffer, and every point of the run multiplies by the scratch. What such a kernel stores at a point is
  therefore its own value over the block of the run's first point. Stated for any state that is a pair (what is stored,
  what is resident), to be used by every call.
-/
module

public import Idealize.ShloMosaic.Lib.Pipeline.ValueKit.Held
public import Idealize.ShloMosaic.Lib.Pipeline.ReadBack

@[expose] public section

namespace Resident

variable {N : Nat} {A B : Type*}

/-- A kernel that refreshes what is resident at the multiples of `J` (`hA`) and carries it at the other points (`hB`)
    stores, at every point, its value over what the first point of the run made resident. -/
theorem stored (f : (n : Nat) → n < N → A × B) (J : Nat) (P : Fin N → B → A) (w : Fin N → B)
    (hA : ∀ t : Fin N, t.val % J = 0 → f t.val t.isLt = (P t (w t), w t))
    (hB : ∀ t : Fin N, ¬t.val % J = 0 → f t.val t.isLt
      = (P t (f (t.val - 1) (Nat.lt_of_le_of_lt (Nat.sub_le _ _) t.isLt)).2,
          (f (t.val - 1) (Nat.lt_of_le_of_lt (Nat.sub_le _ _) t.isLt)).2))
    (t : Fin N) :
    (f t.val t.isLt).1 = P t (w ⟨J * (t.val / J), Idealize.ShloMosaic.Pipeline.run_start_lt t⟩) := by
  have held := Idealize.ShloMosaic.Pipeline.eq_of_write_hold (fun n h => (f n h).2) J w
    (fun s hs => by show (f s.val s.isLt).2 = _; rw [hA s hs])
    (fun s hs => by show (f s.val s.isLt).2 = _; rw [hB s hs]) t
  by_cases h : t.val % J = 0
  · rw [hA t h] at held ⊢
    exact congrArg (P t) held
  · rw [hB t h] at held ⊢
    exact congrArg (P t) held

end Resident
-- ==== Proof.Up.lean ====
/-
  The MLP's first half (`Kernel2` / `Kernel2Ideal` against `Reference2Ideal`): the result array is the squared ReLU of the
  rows' product with the weights, which is the reference's value; then the claims.
-/
module

public import proofs.«01_k».proof.Defs
public import proofs.«01_k».proof.Proof.Resident
public import proofs.«01_k».proof.Proof.Gen.Kernel2.Frame
public import proofs.«01_k».proof.Proof.Gen.Kernel2Ideal.Frame
public import proofs.«01_k».proof.Proof.Gen.Reference2Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference2Ideal.Up

open Cert.Reference2Ideal Cert.Reference2Ideal.Gen Cert.Reference2Ideal.Read

/-- One hidden unit of the reference: the squared ReLU of the row times the weights' column. -/
theorem result_apply (h : FVec Ideal S17408x4096 .bf16) (w : FVec Ideal S4x4096x16384 .f32) (r : Fin 17408) (c : Fin 16384) :
    val_main_v6 (F := Ideal) h w (ix2 r c)
      = max (∑ k : Fin 4096, h (ix2 r k) * w (ix3 (0 : Fin 4) k c)) 0 * max (∑ k : Fin 4096, h (ix2 r k) * w (ix3 (0 : Fin 4) k c)) 0 := by
  pointwise [val_main_v6, val_main_v5, val_main_v4, val_main_v3, val_main_v2, val_main_v1, val_main_v0, val_main_call0_v0, val_main_call0_cst]

end Cert.Reference2Ideal.Up

namespace Cert.Kernel2Ideal.Up

open Cert.Kernel2Ideal Cert.Kernel2Ideal.Gen TcCoe

/-- The weights' block as the scratch keeps it. -/
theorem resident_apply (w : Vec Ideal S1x4096x1024 .f32) (k : Fin 4096) (j : Fin 1024) :
    k0_pay1 (F := Ideal) w (ix2 k j) = w (ix3 (0 : Fin 1) k j) := by
  pointwise [k0_pay1]

/-- One element of what a point stores: the squared ReLU of a row times a column. -/
theorem stored_apply (h : Vec Ideal S1024x4096 .bf16) (w : Vec Ideal S4096x1024 .bf16) (r j : Fin 1024) :
    k0_pay2 (F := Ideal) h w (ix2 r j)
      = max (∑ k : Fin 4096, h (ix2 r k) * w (ix2 k j)) 0 * max (∑ k : Fin 4096, h (ix2 r k) * w (ix2 k j)) 0 := by
  pointwise [k0_pay2]

variable (m : (ℓ : Loc nD τ sig) → Buf (Elt Ideal) ℓ)

/-- The blocks of point `t`: rows `t % 17`, columns `t / 17`. -/
theorem idx : ∀ t : Fin cfg0.N, win0_0.index t = ![t.val % 17, 0] ∧ win0_1.index t = ![0, 0, t.val / 17]
    ∧ win0_2.index t = ![t.val % 17, t.val / 17] :=
  (by decide +kernel : ∀ t : Fin grid0.N, _)

/-- What point `t` stores, over the weights' block of its run's first point. -/
theorem stored (c : Dev nD) (t : Fin cfg0.N) :
    (outsAt0 m c t.val t.isLt).1 = k0_pay2 (F := Ideal) (iblk m c 0 t)
      (k0_pay1 (F := Ideal) (iblk m c 1 ⟨17 * (t.val / 17), Pipeline.run_start_lt t⟩)) :=
  Resident.stored (fun n h => outsAt0 m c n h) 17 (fun t w => k0_pay2 (F := Ideal) (iblk m c 0 t) w)
    (fun t => k0_pay1 (F := Ideal) (iblk m c 1 t))
    (fun t h => by
      rw [outsAt0_A m c t h]
      refine Prod.ext (funext fun y => ?_) (funext fun y => ?_) <;> frame_out)
    (fun t h => by
      rw [outsAt0_B m c t h]
      refine Prod.ext (funext fun y => ?_) (funext fun y => ?_)
      · frame_out
        rw [read_unread_whole]
      · rfl)
    t

/-- What point `t` stores at row `r` and column `j` of its block is the reference's element there. -/
theorem point (c : Dev nD) (t : Fin cfg0.N) (r j : Fin 1024) (R : Fin 17408) (C : Fin 16384)
    (hR : R.val = t.val % 17 * 1024 + r.val) (hC : C.val = t.val / 17 * 1024 + j.val) :
    (outsAt0 m c t.val t.isLt).1 (ix2 r j)
      = Cert.Reference2Ideal.Read.val_main_v6 (F := Ideal) (m ((c : Thread nD τ).loc main_arg0)) (m ((c : Thread nD τ).loc main_arg1)) (ix2 R C) := by
  have hw : 17 * (t.val / 17) / 17 = t.val / 17 := by omega
  rw [stored, stored_apply, Cert.Reference2Ideal.Up.result_apply]
  refine congrArg₂ (fun a b : EReal => max a 0 * max b 0) ?_ ?_ <;>
    refine Finset.sum_congr rfl fun k _ => ?_
  all_goals
    rw [resident_apply]
    refine congrArg₂ (fun a b : EReal => a * b) ?_ ?_
    · show iblk m c 0 t (ix2 r k) = _
      blk_ext [iblk, V, idx t]
    · show iblk m c 1 ⟨17 * (t.val / 17), _⟩ (ix3 0 k j) = _
      blk_ext [iblk, V, idx ⟨17 * (t.val / 17), Pipeline.run_start_lt t⟩]

/-- THE RESULT ARRAY: after the run it is the reference's value of the arguments. -/
theorem final (c : Dev nD) :
    (dats m 0 c).arrAt 2 cfg0.N
      = Cert.Reference2Ideal.Read.val_main_v6 (F := Ideal) (m ((c : Thread nD τ).loc main_arg0)) (m ((c : Thread nD τ).loc main_arg1)) := by
  refine (dats m 0 c).arrAt_eq_of_covers 2 _ (by decide +kernel) fun t hf y => ?_
  have ht : t.val < 272 := t.isLt
  have h0 : (y 0).val < 1024 := (y 0).isLt
  have h1 : (y 1).val < 1024 := (y 1).isLt
  blk_simp
  rw [after0_2, eq_ix2 y]
  refine (point m c t _ _ ⟨t.val % 17 * 1024 + (y 0).val, ?_⟩ ⟨t.val / 17 * 1024 + (y 1).val, ?_⟩ rfl rfl).trans (congrArg _ ?_)
  · omega
  · omega
  · blk_ext [idx t]

end Cert.Kernel2Ideal.Up

namespace Cert.Up

/-- The printed kernel runs, keeps its arguments and ends quiescent. -/
theorem frame_kernel : Cert.quiescent_Kernel2 := fun m ρ _ => Cert.Kernel2.Gen.frame m ρ

/-- So does the idealized kernel. -/
theorem frame_ideal : Cert.quiescent_Kernel2Ideal := fun m ρ _ => Cert.Kernel2Ideal.Gen.frame m ρ

/-- So does the reference, a host program without semaphores. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- THE VALUE: over the extended reals the kernel and the reference leave the same array, for every memory. -/
theorem algebraic : Cert.algebraic_Kernel2Ideal_Reference2Ideal := by
  intro m ρ m' ρ' _ hagree
  refine ⟨fun c => Cert.Reference2Ideal.Read.val_main_v6 (F := Ideal)
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · exact (θ_run Cert.Kernel2Ideal.defs _ _).mono
      (fun r h c => ⟨((h.1 c).1 2).trans (Cert.Kernel2Ideal.Up.final m c), h.2 c⟩)
      (θ_run_and (Cert.Kernel2Ideal.Gen.run_main m ρ) (Cert.Kernel2Ideal.Gen.unchanged m ρ))
  · refine (θ_run Cert.Reference2Ideal.defs _ _).mono (fun r h c => ⟨?_, (h c).2⟩)
      (Cert.Reference2Ideal.Value.run (F := Ideal) m' ρ')
    rw [(h c).1, Cert.Reference2Ideal.Read.val_main_v6_eq, (hagree c).1, (hagree c).2]

end Cert.Up

end
-- ==== Proof.Gated.lean ====
/-
  What the gated residual calls have in common (the MLP's second half, the output projections, the gated linear unit): one
  element of what a point stores, and which row of the modulation table gates a row of the residual.
-/
module

public import proofs.«01_k».proof.Proof.Gen.Kernel3Ideal.Frame
public import proofs.«01_k».proof.Proof.Gen.Reference3Ideal.Read
public import proofs.«01_k».proof.Proof.Gen.Reference7Ideal.Read
public import Idealize.ShloMosaic.Lib.Pointwise
public import Idealize.ShloMosaic.Lib.Pipeline.ValueKit

@[expose] public section

noncomputable section

open Idealize.ShloMosaic

namespace Gated

section Payload

open Cert.Kernel3Ideal Cert.Kernel3Ideal.Gen

/-- One element of what a point stores, over the entries of its blocks: the residual plus the gate times a row by a
    column of the weights. -/
theorem element (x : Vec Ideal S1024x4096 .bf16) (w : Vec Ideal S1x4096x512 .f32) (r : Vec Ideal S1024x512 .f32)
    (g : Vec Ideal S1x1x1x512 .f32) (i : Fin 1024) (j : Fin 512) (row col : Fin 4096 → EReal) (res gate : EReal)
    (hr : r (ix2 i j) = res) (hg : g (ix4 (0 : Fin 1) (0 : Fin 1) (0 : Fin 1) j) = gate)
    (hx : ∀ k, x (ix2 i k) = row k) (hw : ∀ k, w (ix3 (0 : Fin 1) k j) = col k) :
    k0_pay2 (F := Ideal) x (k0_pay1 (F := Ideal) w) r g (ix2 i j) = res + gate * ∑ k : Fin 4096, row k * col k := by
  have e : k0_pay2 (F := Ideal) x (k0_pay1 (F := Ideal) w) r g (ix2 i j)
      = r (ix2 i j) + g (ix4 (0 : Fin 1) (0 : Fin 1) (0 : Fin 1) j) * ∑ k : Fin 4096, x (ix2 i k) * w (ix3 (0 : Fin 1) k j) := by
    pointwise [k0_pay2, k0_pay1]
  rw [e, hr, hg]
  exact congrArg (fun z : EReal => res + gate * z) (Finset.sum_congr rfl fun k _ => by rw [hx k, hw k])

end Payload

section Rows

open Cert.Reference3Ideal Cert.Reference3Ideal.Gen Cert.Reference3Ideal.Read

/-- The row of the modulation table gating row `R`: the batch element of a latent row (4096 rows each), and row 4 for the
    1024 context rows behind them. -/
abbrev gateRow (R : Fin 17408) : Fin 8 := ⟨R.val / 4096, by omega⟩

/-- The reference's gate at row `R` and column `C`. -/
theorem gate_apply (mod : FVec Ideal S6x8x1x4096 .f32) (R : Fin 17408) (C : Fin 4096) :
    val_main_v8 (F := Ideal) mod (ix2 R C) = mod (ix4 (5 : Fin 6) (gateRow R) (0 : Fin 1) C) := by
  pointwise [val_main_v8, val_main_v7, val_main_v6, val_main_v5, val_main_v4, val_main_v3, val_main_v2, val_main_v1, val_main_v0]
  split
  · rfl
  · exact congrArg (fun b => mod (ix4 (5 : Fin 6) b (0 : Fin 1) C)) (Fin.ext (show 4 = R.val / 4096 by omega))

end Rows

section MixerRows

open Cert.Reference7Ideal Cert.Reference7Ideal.Gen Cert.Reference7Ideal.Read

/-- The same of the mixers' gate, which is row 2 of the table where the MLP's is row 5. -/
theorem mixerGate_apply (mod : FVec Ideal S6x8x1x4096 .f32) (R : Fin 17408) (C : Fin 4096) :
    val_main_v14 (F := Ideal) mod (ix2 R C) = mod (ix4 (2 : Fin 6) (gateRow R) (0 : Fin 1) C) := by
  pointwise [val_main_v14, val_main_v13, val_main_v12, val_main_v11, val_main_v10, val_main_v9, val_main_v8, val_main_v7, val_main_v6]
  split
  · rfl
  · exact congrArg (fun b => mod (ix4 (2 : Fin 6) b (0 : Fin 1) C)) (Fin.ext (show 4 = R.val / 4096 by omega))

end MixerRows

end Gated
-- ==== Proof.Down0.lean ====
/-
  The MLP's second half over chunk 0 of the hidden units (`Kernel3` / `Kernel3Ideal` against `Reference3Ideal`): the result
  array is the residual plus the gate times the product, which is the reference's value; then the claims.
-/
module

public import proofs.«01_k».proof.Defs
public import proofs.«01_k».proof.Proof.Resident
public import proofs.«01_k».proof.Proof.Gated
public import proofs.«01_k».proof.Proof.Gen.Kernel3.Frame
public import proofs.«01_k».proof.Proof.Gen.Kernel3Ideal.Frame
public import proofs.«01_k».proof.Proof.Gen.Reference3Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference3Ideal.Down

open Cert.Reference3Ideal Cert.Reference3Ideal.Gen Cert.Reference3Ideal.Read

/-- The reference's element: the residual plus the gate times the row's chunk by the weights' column. -/
theorem result_apply (x : FVec Ideal S17408x4096 .f32) (a : FVec Ideal S17408x16384 .bf16) (w : FVec Ideal S4x16384x4096 .f32)
    (mod : FVec Ideal S6x8x1x4096 .f32) (R : Fin 17408) (C : Fin 4096) :
    val_main_v15 (F := Ideal) x a w mod (ix2 R C)
      = x (ix2 R C) + mod (ix4 (5 : Fin 6) (Gated.gateRow R) (0 : Fin 1) C)
          * ∑ k : Fin 4096, a (ix2 R (⟨k.val, by omega⟩ : Fin 16384)) * w (ix3 (0 : Fin 4) (⟨k.val, by omega⟩ : Fin 16384) C) := by
  rw [← Gated.gate_apply mod R C]
  pointwise [val_main_v15, val_main_v14, val_main_v13, val_main_v12, val_main_v11, val_main_v10, val_main_v9]

end Cert.Reference3Ideal.Down

namespace Cert.Kernel3Ideal.Down

open Cert.Kernel3Ideal Cert.Kernel3Ideal.Gen TcCoe

variable (m : (ℓ : Loc nD τ sig) → Buf (Elt Ideal) ℓ)

/-- The blocks of point `t`: rows `t % 17`, columns `t / 17`; the gate's row is the batch element of the rows. -/
theorem idx : ∀ t : Fin cfg0.N, win0_0.index t = ![t.val % 17, 0] ∧ win0_1.index t = ![0, 0, t.val / 17]
    ∧ win0_2.index t = ![t.val % 17, t.val / 17] ∧ win0_3.index t = ![5, t.val % 17 / 4, 0, t.val / 17]
    ∧ win0_4.index t = ![t.val % 17, t.val / 17] :=
  (by decide +kernel : ∀ t : Fin grid0.N, _)

/-- What point `t` stores, over the weights' block of its run's first point. -/
theorem stored (c : Dev nD) (t : Fin cfg0.N) :
    (outsAt0 m c t.val t.isLt).1 = k0_pay2 (F := Ideal) (iblk m c 0 t)
      (k0_pay1 (F := Ideal) (iblk m c 1 ⟨17 * (t.val / 17), Pipeline.run_start_lt t⟩)) (iblk m c 2 t) (iblk m c 3 t) :=
  Resident.stored (fun n h => outsAt0 m c n h) 17
    (fun t w => k0_pay2 (F := Ideal) (iblk m c 0 t) w (iblk m c 2 t) (iblk m c 3 t))
    (fun t => k0_pay1 (F := Ideal) (iblk m c 1 t))
    (fun t h => by
      rw [outsAt0_A m c t h]
      refine Prod.ext (funext fun y => ?_) (funext fun y => ?_) <;> frame_out)
    (fun t h => by
      rw [outsAt0_B m c t h]
      refine Prod.ext (funext fun y => ?_) (funext fun y => ?_)
      · frame_out
        rw [read_unread_whole]
      · rfl)
    t

/-- What point `t` stores at row `i` and column `j` of its block is the reference's element there. -/
theorem point (c : Dev nD) (t : Fin cfg0.N) (i : Fin 1024) (j : Fin 512) (R : Fin 17408) (C : Fin 4096)
    (hR : R.val = t.val % 17 * 1024 + i.val) (hC : C.val = t.val / 17 * 512 + j.val) :
    (outsAt0 m c t.val t.isLt).1 (ix2 i j)
      = Cert.Reference3Ideal.Read.val_main_v15 (F := Ideal) (m ((c : Thread nD τ).loc main_arg0)) (m ((c : Thread nD τ).loc main_arg1))
          (m ((c : Thread nD τ).loc main_arg2)) (m ((c : Thread nD τ).loc main_arg3)) (ix2 R C) := by
  have hw : 17 * (t.val / 17) / 17 = t.val / 17 := by omega
  rw [stored, Cert.Reference3Ideal.Down.result_apply]
  refine Gated.element _ _ _ _ i j _ _ _ _ ?_ ?_ (fun k => ?_) (fun k => ?_)
  · show iblk m c 2 t (ix2 i j) = _
    blk_ext [iblk, V, idx t]
  · show iblk m c 3 t (ix4 0 0 0 j) = _
    blk_ext [iblk, V, idx t]
  · show iblk m c 0 t (ix2 i k) = _
    blk_ext [iblk, V, idx t]
  · show iblk m c 1 ⟨17 * (t.val / 17), _⟩ (ix3 0 k j) = _
    blk_ext [iblk, V, idx ⟨17 * (t.val / 17), Pipeline.run_start_lt t⟩]

/-- THE RESULT ARRAY: after the run it is the reference's value of the arguments. -/
theorem final (c : Dev nD) :
    (dats m 0 c).arrAt 4 cfg0.N
      = Cert.Reference3Ideal.Read.val_main_v15 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht : t.val < 136 := t.isLt
  have h0 : (y 0).val < 1024 := (y 0).isLt
  have h1 : (y 1).val < 512 := (y 1).isLt
  blk_simp
  rw [after0_4, eq_ix2 y]
  refine (point m c t _ _ ⟨t.val % 17 * 1024 + (y 0).val, ?_⟩ ⟨t.val / 17 * 512 + (y 1).val, ?_⟩ rfl rfl).trans (congrArg _ ?_)
  · omega
  · omega
  · blk_ext [idx t]

end Cert.Kernel3Ideal.Down

namespace Cert.Down0

/-- The printed kernel runs, keeps its arguments and ends quiescent. -/
theorem frame_kernel : Cert.quiescent_Kernel3 := fun m ρ _ => Cert.Kernel3.Gen.frame m ρ

/-- So does the idealized kernel. -/
theorem frame_ideal : Cert.quiescent_Kernel3Ideal := fun m ρ _ => Cert.Kernel3Ideal.Gen.frame m ρ

/-- So does the reference, a host program without semaphores. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- THE VALUE: over the extended reals the kernel and the reference leave the same array, for every memory. -/
theorem algebraic : Cert.algebraic_Kernel3Ideal_Reference3Ideal := by
  intro m ρ m' ρ' _ hagree
  refine ⟨fun c => Cert.Reference3Ideal.Read.val_main_v15 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3)), ?_, ?_⟩
  · exact (θ_run Cert.Kernel3Ideal.defs _ _).mono
      (fun r h c => ⟨((h.1 c).1 4).trans (Cert.Kernel3Ideal.Down.final m c), h.2 c⟩)
      (θ_run_and (Cert.Kernel3Ideal.Gen.run_main m ρ) (Cert.Kernel3Ideal.Gen.unchanged m ρ))
  · refine (θ_run Cert.Reference3Ideal.defs _ _).mono (fun r h c => ⟨?_, (h c).2⟩)
      (Cert.Reference3Ideal.Value.run (F := Ideal) m' ρ')
    rw [(h c).1, Cert.Reference3Ideal.Read.val_main_v15_eq, (hagree c).1, (hagree c).2.1, (hagree c).2.2.1, (hagree c).2.2.2]

end Cert.Down0

end
-- ==== Proof.Down1.lean ====
/-
  The MLP's second half over chunk 1 of the hidden units (`Kernel4` / `Kernel4Ideal` against `Reference4Ideal`): the result
  array is the residual plus the gate times the product, which is the reference's value; then the claims.
-/
module

public import proofs.«01_k».proof.Defs
public import proofs.«01_k».proof.Proof.Resident
public import proofs.«01_k».proof.Proof.Gated
public import proofs.«01_k».proof.Proof.Gen.Kernel4.Frame
public import proofs.«01_k».proof.Proof.Gen.Kernel4Ideal.Frame
public import proofs.«01_k».proof.Proof.Gen.Reference4Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference4Ideal.Down

open Cert.Reference4Ideal Cert.Reference4Ideal.Gen Cert.Reference4Ideal.Read

/-- The reference's element: the residual plus the gate times the row's chunk by the weights' column. -/
theorem result_apply (x : FVec Ideal S17408x4096 .f32) (a : FVec Ideal S17408x16384 .bf16) (w : FVec Ideal S4x16384x4096 .f32)
    (mod : FVec Ideal S6x8x1x4096 .f32) (R : Fin 17408) (C : Fin 4096) :
    val_main_v15 (F := Ideal) x a w mod (ix2 R C)
      = x (ix2 R C) + mod (ix4 (5 : Fin 6) (Gated.gateRow R) (0 : Fin 1) C)
          * ∑ k : Fin 4096, a (ix2 R (⟨4096 + k.val, by omega⟩ : Fin 16384)) * w (ix3 (0 : Fin 4) (⟨4096 + k.val, by omega⟩ : Fin 16384) C) := by
  rw [← Gated.gate_apply mod R C]
  pointwise [val_main_v15, val_main_v14, val_main_v13, val_main_v12, val_main_v11, val_main_v10, val_main_v9]
  rfl

end Cert.Reference4Ideal.Down

namespace Cert.Kernel4Ideal.Down

open Cert.Kernel4Ideal Cert.Kernel4Ideal.Gen TcCoe

variable (m : (ℓ : Loc nD τ sig) → Buf (Elt Ideal) ℓ)

/-- The blocks of point `t`: rows `t % 17`, columns `t / 17`; the gate's row is the batch element of the rows. -/
theorem idx : ∀ t : Fin cfg0.N, win0_0.index t = ![t.val % 17, 1] ∧ win0_1.index t = ![0, 1, t.val / 17]
    ∧ win0_2.index t = ![t.val % 17, t.val / 17] ∧ win0_3.index t = ![5, t.val % 17 / 4, 0, t.val / 17]
    ∧ win0_4.index t = ![t.val % 17, t.val / 17] :=
  (by decide +kernel : ∀ t : Fin grid0.N, _)

/-- What point `t` stores, over the weights' block of its run's first point. -/
theorem stored (c : Dev nD) (t : Fin cfg0.N) :
    (outsAt0 m c t.val t.isLt).1 = k0_pay2 (F := Ideal) (iblk m c 0 t)
      (k0_pay1 (F := Ideal) (iblk m c 1 ⟨17 * (t.val / 17), Pipeline.run_start_lt t⟩)) (iblk m c 2 t) (iblk m c 3 t) :=
  Resident.stored (fun n h => outsAt0 m c n h) 17
    (fun t w => k0_pay2 (F := Ideal) (iblk m c 0 t) w (iblk m c 2 t) (iblk m c 3 t))
    (fun t => k0_pay1 (F := Ideal) (iblk m c 1 t))
    (fun t h => by
      rw [outsAt0_A m c t h]
      refine Prod.ext (funext fun y => ?_) (funext fun y => ?_) <;> frame_out)
    (fun t h => by
      rw [outsAt0_B m c t h]
      refine Prod.ext (funext fun y => ?_) (funext fun y => ?_)
      · frame_out
        rw [read_unread_whole]
      · rfl)
    t

/-- What point `t` stores at row `i` and column `j` of its block is the reference's element there. -/
theorem point (c : Dev nD) (t : Fin cfg0.N) (i : Fin 1024) (j : Fin 512) (R : Fin 17408) (C : Fin 4096)
    (hR : R.val = t.val % 17 * 1024 + i.val) (hC : C.val = t.val / 17 * 512 + j.val) :
    (outsAt0 m c t.val t.isLt).1 (ix2 i j)
      = Cert.Reference4Ideal.Read.val_main_v15 (F := Ideal) (m ((c : Thread nD τ).loc main_arg0)) (m ((c : Thread nD τ).loc main_arg1))
          (m ((c : Thread nD τ).loc main_arg2)) (m ((c : Thread nD τ).loc main_arg3)) (ix2 R C) := by
  have hw : 17 * (t.val / 17) / 17 = t.val / 17 := by omega
  rw [stored, Cert.Reference4Ideal.Down.result_apply]
  refine Gated.element _ _ _ _ i j _ _ _ _ ?_ ?_ (fun k => ?_) (fun k => ?_)
  · show iblk m c 2 t (ix2 i j) = _
    blk_ext [iblk, V, idx t]
  · show iblk m c 3 t (ix4 0 0 0 j) = _
    blk_ext [iblk, V, idx t]
  · show iblk m c 0 t (ix2 i k) = _
    blk_ext [iblk, V, idx t]
  · show iblk m c 1 ⟨17 * (t.val / 17), _⟩ (ix3 0 k j) = _
    blk_ext [iblk, V, idx ⟨17 * (t.val / 17), Pipeline.run_start_lt t⟩]

/-- THE RESULT ARRAY: after the run it is the reference's value of the arguments. -/
theorem final (c : Dev nD) :
    (dats m 0 c).arrAt 4 cfg0.N
      = Cert.Reference4Ideal.Read.val_main_v15 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht : t.val < 136 := t.isLt
  have h0 : (y 0).val < 1024 := (y 0).isLt
  have h1 : (y 1).val < 512 := (y 1).isLt
  blk_simp
  rw [after0_4, eq_ix2 y]
  refine (point m c t _ _ ⟨t.val % 17 * 1024 + (y 0).val, ?_⟩ ⟨t.val / 17 * 512 + (y 1).val, ?_⟩ rfl rfl).trans (congrArg _ ?_)
  · omega
  · omega
  · blk_ext [idx t]

end Cert.Kernel4Ideal.Down

namespace Cert.Down1

/-- The printed kernel runs, keeps its arguments and ends quiescent. -/
theorem frame_kernel : Cert.quiescent_Kernel4 := fun m ρ _ => Cert.Kernel4.Gen.frame m ρ

/-- So does the idealized kernel. -/
theorem frame_ideal : Cert.quiescent_Kernel4Ideal := fun m ρ _ => Cert.Kernel4Ideal.Gen.frame m ρ

/-- So does the reference, a host program without semaphores. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- THE VALUE: over the extended reals the kernel and the reference leave the same array, for every memory. -/
theorem algebraic : Cert.algebraic_Kernel4Ideal_Reference4Ideal := by
  intro m ρ m' ρ' _ hagree
  refine ⟨fun c => Cert.Reference4Ideal.Read.val_main_v15 (F := Ideal)
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)), ?_, ?_⟩
  · exact (θ_run Cert.Kernel4Ideal.defs _ _).mono
      (fun r h c => ⟨((h.1 c).1 4).trans (Cert.Kernel4Ideal.Down.final m c), h.2 c⟩)
      (θ_run_and (Cert.Kernel4Ideal.Gen.run_main m ρ) (Cert.Kernel4Ideal.Gen.unchanged m ρ))
  · refine (θ_run Cert.Reference4Ideal.defs _ _).mono (fun r h c => ⟨?_, (h c).2⟩)
      (Cert.Reference4Ideal.Value.run (F := Ideal) m' ρ')
    rw [(h c).1, Cert.Reference4Ideal.Read.val_main_v15_eq, (hagree c).1, (hagree c).2.1, (hagree c).2.2.1, (hagree c).2.2.2]

end Cert.Down1

end
-- ==== Proof.Down2.lean ====
/-
  The MLP's second half over chunk 2 of the hidden units (`Kernel5` / `Kernel5Ideal` against `Reference5Ideal`): the result
  array is the residual plus the gate times the product, which is the reference's value; then the claims.
-/
module

public import proofs.«01_k».proof.Defs
public import proofs.«01_k».proof.Proof.Resident
public import proofs.«01_k».proof.Proof.Gated
public import proofs.«01_k».proof.Proof.Gen.Kernel5.Frame
public import proofs.«01_k».proof.Proof.Gen.Kernel5Ideal.Frame
public import proofs.«01_k».proof.Proof.Gen.Reference5Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference5Ideal.Down

open Cert.Reference5Ideal Cert.Reference5Ideal.Gen Cert.Reference5Ideal.Read

/-- The reference's element: the residual plus the gate times the row's chunk by the weights' column. -/
theorem result_apply (x : FVec Ideal S17408x4096 .f32) (a : FVec Ideal S17408x16384 .bf16) (w : FVec Ideal S4x16384x4096 .f32)
    (mod : FVec Ideal S6x8x1x4096 .f32) (R : Fin 17408) (C : Fin 4096) :
    val_main_v15 (F := Ideal) x a w mod (ix2 R C)
      = x (ix2 R C) + mod (ix4 (5 : Fin 6) (Gated.gateRow R) (0 : Fin 1) C)
          * ∑ k : Fin 4096, a (ix2 R (⟨8192 + k.val, by omega⟩ : Fin 16384)) * w (ix3 (0 : Fin 4) (⟨8192 + k.val, by omega⟩ : Fin 16384) C) := by
  rw [← Gated.gate_apply mod R C]
  pointwise [val_main_v15, val_main_v14, val_main_v13, val_main_v12, val_main_v11, val_main_v10, val_main_v9]
  rfl

end Cert.Reference5Ideal.Down

namespace Cert.Kernel5Ideal.Down

open Cert.Kernel5Ideal Cert.Kernel5Ideal.Gen TcCoe

variable (m : (ℓ : Loc nD τ sig) → Buf (Elt Ideal) ℓ)

/-- The blocks of point `t`: rows `t % 17`, columns `t / 17`; the gate's row is the batch element of the rows. -/
theorem idx : ∀ t : Fin cfg0.N, win0_0.index t = ![t.val % 17, 2] ∧ win0_1.index t = ![0, 2, t.val / 17]
    ∧ win0_2.index t = ![t.val % 17, t.val / 17] ∧ win0_3.index t = ![5, t.val % 17 / 4, 0, t.val / 17]
    ∧ win0_4.index t = ![t.val % 17, t.val / 17] :=
  (by decide +kernel : ∀ t : Fin grid0.N, _)

/-- What point `t` stores, over the weights' block of its run's first point. -/
theorem stored (c : Dev nD) (t : Fin cfg0.N) :
    (outsAt0 m c t.val t.isLt).1 = k0_pay2 (F := Ideal) (iblk m c 0 t)
      (k0_pay1 (F := Ideal) (iblk m c 1 ⟨17 * (t.val / 17), Pipeline.run_start_lt t⟩)) (iblk m c 2 t) (iblk m c 3 t) :=
  Resident.stored (fun n h => outsAt0 m c n h) 17
    (fun t w => k0_pay2 (F := Ideal) (iblk m c 0 t) w (iblk m c 2 t) (iblk m c 3 t))
    (fun t => k0_pay1 (F := Ideal) (iblk m c 1 t))
    (fun t h => by
      rw [outsAt0_A m c t h]
      refine Prod.ext (funext fun y => ?_) (funext fun y => ?_) <;> frame_out)
    (fun t h => by
      rw [outsAt0_B m c t h]
      refine Prod.ext (funext fun y => ?_) (funext fun y => ?_)
      · frame_out
        rw [read_unread_whole]
      · rfl)
    t

/-- What point `t` stores at row `i` and column `j` of its block is the reference's element there. -/
theorem point (c : Dev nD) (t : Fin cfg0.N) (i : Fin 1024) (j : Fin 512) (R : Fin 17408) (C : Fin 4096)
    (hR : R.val = t.val % 17 * 1024 + i.val) (hC : C.val = t.val / 17 * 512 + j.val) :
    (outsAt0 m c t.val t.isLt).1 (ix2 i j)
      = Cert.Reference5Ideal.Read.val_main_v15 (F := Ideal) (m ((c : Thread nD τ).loc main_arg0)) (m ((c : Thread nD τ).loc main_arg1))
          (m ((c : Thread nD τ).loc main_arg2)) (m ((c : Thread nD τ).loc main_arg3)) (ix2 R C) := by
  have hw : 17 * (t.val / 17) / 17 = t.val / 17 := by omega
  rw [stored, Cert.Reference5Ideal.Down.result_apply]
  refine Gated.element _ _ _ _ i j _ _ _ _ ?_ ?_ (fun k => ?_) (fun k => ?_)
  · show iblk m c 2 t (ix2 i j) = _
    blk_ext [iblk, V, idx t]
  · show iblk m c 3 t (ix4 0 0 0 j) = _
    blk_ext [iblk, V, idx t]
  · show iblk m c 0 t (ix2 i k) = _
    blk_ext [iblk, V, idx t]
  · show iblk m c 1 ⟨17 * (t.val / 17), _⟩ (ix3 0 k j) = _
    blk_ext [iblk, V, idx ⟨17 * (t.val / 17), Pipeline.run_start_lt t⟩]

/-- THE RESULT ARRAY: after the run it is the reference's value of the arguments. -/
theorem final (c : Dev nD) :
    (dats m 0 c).arrAt 4 cfg0.N
      = Cert.Reference5Ideal.Read.val_main_v15 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht : t.val < 136 := t.isLt
  have h0 : (y 0).val < 1024 := (y 0).isLt
  have h1 : (y 1).val < 512 := (y 1).isLt
  blk_simp
  rw [after0_4, eq_ix2 y]
  refine (point m c t _ _ ⟨t.val % 17 * 1024 + (y 0).val, ?_⟩ ⟨t.val / 17 * 512 + (y 1).val, ?_⟩ rfl rfl).trans (congrArg _ ?_)
  · omega
  · omega
  · blk_ext [idx t]

end Cert.Kernel5Ideal.Down

namespace Cert.Down2

/-- The printed kernel runs, keeps its arguments and ends quiescent. -/
theorem frame_kernel : Cert.quiescent_Kernel5 := fun m ρ _ => Cert.Kernel5.Gen.frame m ρ

/-- So does the idealized kernel. -/
theorem frame_ideal : Cert.quiescent_Kernel5Ideal := fun m ρ _ => Cert.Kernel5Ideal.Gen.frame m ρ

/-- So does the reference, a host program without semaphores. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- THE VALUE: over the extended reals the kernel and the reference leave the same array, for every memory. -/
theorem algebraic : Cert.algebraic_Kernel5Ideal_Reference5Ideal := by
  intro m ρ m' ρ' _ hagree
  refine ⟨fun c => Cert.Reference5Ideal.Read.val_main_v15 (F := Ideal)
    (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), ?_, ?_⟩
  · exact (θ_run Cert.Kernel5Ideal.defs _ _).mono
      (fun r h c => ⟨((h.1 c).1 4).trans (Cert.Kernel5Ideal.Down.final m c), h.2 c⟩)
      (θ_run_and (Cert.Kernel5Ideal.Gen.run_main m ρ) (Cert.Kernel5Ideal.Gen.unchanged m ρ))
  · refine (θ_run Cert.Reference5Ideal.defs _ _).mono (fun r h c => ⟨?_, (h c).2⟩)
      (Cert.Reference5Ideal.Value.run (F := Ideal) m' ρ')
    rw [(h c).1, Cert.Reference5Ideal.Read.val_main_v15_eq, (hagree c).1, (hagree c).2.1, (hagree c).2.2.1, (hagree c).2.2.2]

end Cert.Down2

end
-- ==== Proof.Down3.lean ====
/-
  The MLP's second half over chunk 3 of the hidden units (`Kernel6` / `Kernel6Ideal` against `Reference6Ideal`): the result
  array is the residual plus the gate times the product, which is the reference's value; then the claims.
-/
module

public import proofs.«01_k».proof.Defs
public import proofs.«01_k».proof.Proof.Resident
public import proofs.«01_k».proof.Proof.Gated
public import proofs.«01_k».proof.Proof.Gen.Kernel6.Frame
public import proofs.«01_k».proof.Proof.Gen.Kernel6Ideal.Frame
public import proofs.«01_k».proof.Proof.Gen.Reference6Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference6Ideal.Down

open Cert.Reference6Ideal Cert.Reference6Ideal.Gen Cert.Reference6Ideal.Read

/-- The reference's element: the residual plus the gate times the row's chunk by the weights' column. -/
theorem result_apply (x : FVec Ideal S17408x4096 .f32) (a : FVec Ideal S17408x16384 .bf16) (w : FVec Ideal S4x16384x4096 .f32)
    (mod : FVec Ideal S6x8x1x4096 .f32) (R : Fin 17408) (C : Fin 4096) :
    val_main_v15 (F := Ideal) x a w mod (ix2 R C)
      = x (ix2 R C) + mod (ix4 (5 : Fin 6) (Gated.gateRow R) (0 : Fin 1) C)
          * ∑ k : Fin 4096, a (ix2 R (⟨12288 + k.val, by omega⟩ : Fin 16384)) * w (ix3 (0 : Fin 4) (⟨12288 + k.val, by omega⟩ : Fin 16384) C) := by
  rw [← Gated.gate_apply mod R C]
  pointwise [val_main_v15, val_main_v14, val_main_v13, val_main_v12, val_main_v11, val_main_v10, val_main_v9]
  rfl

end Cert.Reference6Ideal.Down

namespace Cert.Kernel6Ideal.Down

open Cert.Kernel6Ideal Cert.Kernel6Ideal.Gen TcCoe

variable (m : (ℓ : Loc nD τ sig) → Buf (Elt Ideal) ℓ)

/-- The blocks of point `t`: rows `t % 17`, columns `t / 17`; the gate's row is the batch element of the rows. -/
theorem idx : ∀ t : Fin cfg0.N, win0_0.index t = ![t.val % 17, 3] ∧ win0_1.index t = ![0, 3, t.val / 17]
    ∧ win0_2.index t = ![t.val % 17, t.val / 17] ∧ win0_3.index t = ![5, t.val % 17 / 4, 0, t.val / 17]
    ∧ win0_4.index t = ![t.val % 17, t.val / 17] :=
  (by decide +kernel : ∀ t : Fin grid0.N, _)

/-- What point `t` stores, over the weights' block of its run's first point. -/
theorem stored (c : Dev nD) (t : Fin cfg0.N) :
    (outsAt0 m c t.val t.isLt).1 = k0_pay2 (F := Ideal) (iblk m c 0 t)
      (k0_pay1 (F := Ideal) (iblk m c 1 ⟨17 * (t.val / 17), Pipeline.run_start_lt t⟩)) (iblk m c 2 t) (iblk m c 3 t) :=
  Resident.stored (fun n h => outsAt0 m c n h) 17
    (fun t w => k0_pay2 (F := Ideal) (iblk m c 0 t) w (iblk m c 2 t) (iblk m c 3 t))
    (fun t => k0_pay1 (F := Ideal) (iblk m c 1 t))
    (fun t h => by
      rw [outsAt0_A m c t h]
      refine Prod.ext (funext fun y => ?_) (funext fun y => ?_) <;> frame_out)
    (fun t h => by
      rw [outsAt0_B m c t h]
      refine Prod.ext (funext fun y => ?_) (funext fun y => ?_)
      · frame_out
        rw [read_unread_whole]
      · rfl)
    t

/-- What point `t` stores at row `i` and column `j` of its block is the reference's element there. -/
theorem point (c : Dev nD) (t : Fin cfg0.N) (i : Fin 1024) (j : Fin 512) (R : Fin 17408) (C : Fin 4096)
    (hR : R.val = t.val % 17 * 1024 + i.val) (hC : C.val = t.val / 17 * 512 + j.val) :
    (outsAt0 m c t.val t.isLt).1 (ix2 i j)
      = Cert.Reference6Ideal.Read.val_main_v15 (F := Ideal) (m ((c : Thread nD τ).loc main_arg0)) (m ((c : Thread nD τ).loc main_arg1))
          (m ((c : Thread nD τ).loc main_arg2)) (m ((c : Thread nD τ).loc main_arg3)) (ix2 R C) := by
  have hw : 17 * (t.val / 17) / 17 = t.val / 17 := by omega
  rw [stored, Cert.Reference6Ideal.Down.result_apply]
  refine Gated.element _ _ _ _ i j _ _ _ _ ?_ ?_ (fun k => ?_) (fun k => ?_)
  · show iblk m c 2 t (ix2 i j) = _
    blk_ext [iblk, V, idx t]
  · show iblk m c 3 t (ix4 0 0 0 j) = _
    blk_ext [iblk, V, idx t]
  · show iblk m c 0 t (ix2 i k) = _
    blk_ext [iblk, V, idx t]
  · show iblk m c 1 ⟨17 * (t.val / 17), _⟩ (ix3 0 k j) = _
    blk_ext [iblk, V, idx ⟨17 * (t.val / 17), Pipeline.run_start_lt t⟩]

/-- THE RESULT ARRAY: after the run it is the reference's value of the arguments. -/
theorem final (c : Dev nD) :
    (dats m 0 c).arrAt 4 cfg0.N
      = Cert.Reference6Ideal.Read.val_main_v15 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht : t.val < 136 := t.isLt
  have h0 : (y 0).val < 1024 := (y 0).isLt
  have h1 : (y 1).val < 512 := (y 1).isLt
  blk_simp
  rw [after0_4, eq_ix2 y]
  refine (point m c t _ _ ⟨t.val % 17 * 1024 + (y 0).val, ?_⟩ ⟨t.val / 17 * 512 + (y 1).val, ?_⟩ rfl rfl).trans (congrArg _ ?_)
  · omega
  · omega
  · blk_ext [idx t]

end Cert.Kernel6Ideal.Down

namespace Cert.Down3

/-- The printed kernel runs, keeps its arguments and ends quiescent. -/
theorem frame_kernel : Cert.quiescent_Kernel6 := fun m ρ _ => Cert.Kernel6.Gen.frame m ρ

/-- So does the idealized kernel. -/
theorem frame_ideal : Cert.quiescent_Kernel6Ideal := fun m ρ _ => Cert.Kernel6Ideal.Gen.frame m ρ

/-- So does the reference, a host program without semaphores. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- THE VALUE: over the extended reals the kernel and the reference leave the same array, for every memory. -/
theorem algebraic : Cert.algebraic_Kernel6Ideal_Reference6Ideal := by
  intro m ρ m' ρ' _ hagree
  refine ⟨fun c => Cert.Reference6Ideal.Read.val_main_v15 (F := Ideal)
    (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3)), ?_, ?_⟩
  · exact (θ_run Cert.Kernel6Ideal.defs _ _).mono
      (fun r h c => ⟨((h.1 c).1 4).trans (Cert.Kernel6Ideal.Down.final m c), h.2 c⟩)
      (θ_run_and (Cert.Kernel6Ideal.Gen.run_main m ρ) (Cert.Kernel6Ideal.Gen.unchanged m ρ))
  · refine (θ_run Cert.Reference6Ideal.defs _ _).mono (fun r h c => ⟨?_, (h c).2⟩)
      (Cert.Reference6Ideal.Value.run (F := Ideal) m' ρ')
    rw [(h c).1, Cert.Reference6Ideal.Read.val_main_v15_eq, (hagree c).1, (hagree c).2.1, (hagree c).2.2.1, (hagree c).2.2.2]

end Cert.Down3

end
-- ==== Proof.Glu.lean ====
/-
  The gated linear unit of the S5 mixer (`Kernel7` / `Kernel7Ideal` against `Reference7Ideal`): the result
  array is the residual plus the gate times the first product times the logistic of the second, which is the reference's value; then the claims.
-/
module

public import proofs.«01_k».proof.Defs
public import proofs.«01_k».proof.Proof.Resident
public import proofs.«01_k».proof.Proof.Gated
public import proofs.«01_k».proof.Proof.Gen.Kernel7.Frame
public import proofs.«01_k».proof.Proof.Gen.Kernel7Ideal.Frame
public import proofs.«01_k».proof.Proof.Gen.Reference7Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference7Ideal.Glu

open Cert.Reference7Ideal Cert.Reference7Ideal.Gen Cert.Reference7Ideal.Read

/-- The reference's element: the residual plus the gate times the first product times the logistic of the second; the
    second half of the weights' columns belongs to the logistic. -/
theorem result_apply (x : FVec Ideal S17408x4096 .f32) (y : FVec Ideal S17408x4096 .bf16) (w : FVec Ideal S2x4096x8192 .f32)
    (mod : FVec Ideal S6x8x1x4096 .f32) (R : Fin 17408) (C : Fin 4096) :
    val_main_v23 (F := Ideal) x y w mod (ix2 R C)
      = x (ix2 R C) + mod (ix4 (2 : Fin 6) (Gated.gateRow R) (0 : Fin 1) C)
          * ((∑ k : Fin 4096, y (ix2 R k) * w (ix3 (0 : Fin 2) k (⟨C.val, by omega⟩ : Fin 8192)))
            * Ideal.logistic (∑ k : Fin 4096, y (ix2 R k) * w (ix3 (0 : Fin 2) k (⟨4096 + C.val, by omega⟩ : Fin 8192)))) := by
  rw [← Gated.mixerGate_apply mod R C]
  pointwise [val_main_v23, val_main_v22, val_main_v21, val_main_v20, val_main_v19, val_main_v18, val_main_v17, val_main_v16, val_main_v15, val_main_v5, val_main_v4, val_main_v3, val_main_v2, val_main_v1, val_main_v0, val_main_cst, val_main_cst_0]
  rfl

end Cert.Reference7Ideal.Glu

namespace Cert.Kernel7Ideal.Glu

open Cert.Kernel7Ideal Cert.Kernel7Ideal.Gen TcCoe

variable (m : (ℓ : Loc nD τ sig) → Buf (Elt Ideal) ℓ)

/-- One element of what a point stores, over the entries of its blocks. -/
theorem element (x : Vec Ideal S1024x4096 .bf16) (w w' : Vec Ideal S1x4096x256 .f32) (r : Vec Ideal S1024x256 .f32)
    (g : Vec Ideal S1x1x1x256 .f32) (i : Fin 1024) (j : Fin 256) (row col col' : Fin 4096 → EReal) (res gate : EReal)
    (hr : r (ix2 i j) = res) (hg : g (ix4 (0 : Fin 1) (0 : Fin 1) (0 : Fin 1) j) = gate)
    (hx : ∀ k, x (ix2 i k) = row k) (hw : ∀ k, w (ix3 (0 : Fin 1) k j) = col k) (hw' : ∀ k, w' (ix3 (0 : Fin 1) k j) = col' k) :
    k0_pay3 (F := Ideal) x (k0_pay1 (F := Ideal) w) x (k0_pay2 (F := Ideal) w') r g (ix2 i j)
      = res + gate * ((∑ k : Fin 4096, row k * col k) * Ideal.logistic (∑ k : Fin 4096, row k * col' k)) := by
  have e : k0_pay3 (F := Ideal) x (k0_pay1 (F := Ideal) w) x (k0_pay2 (F := Ideal) w') r g (ix2 i j)
      = r (ix2 i j) + g (ix4 (0 : Fin 1) (0 : Fin 1) (0 : Fin 1) j)
        * ((∑ k : Fin 4096, x (ix2 i k) * w (ix3 (0 : Fin 1) k j))
          * Ideal.logistic (∑ k : Fin 4096, x (ix2 i k) * w' (ix3 (0 : Fin 1) k j))) := by
    pointwise [k0_pay3, k0_pay2, k0_pay1]
  rw [e, hr, hg]
  exact congrArg₂ (fun z z' : EReal => res + gate * (z * Ideal.logistic z')) (Finset.sum_congr rfl fun k _ => by rw [hx k, hw k])
    (Finset.sum_congr rfl fun k _ => by rw [hx k, hw' k])

/-- The blocks of point `t`: rows `t % 17`, columns `t / 17`, of the weights' second half 16 blocks further; the gate's row is
    the batch element of the rows. -/
theorem idx : ∀ t : Fin cfg0.N, win0_0.index t = ![t.val % 17, 0] ∧ win0_1.index t = ![0, 0, t.val / 17]
    ∧ win0_2.index t = ![0, 0, t.val / 17 + 16] ∧ win0_3.index t = ![t.val % 17, t.val / 17]
    ∧ win0_4.index t = ![2, t.val % 17 / 4, 0, t.val / 17] ∧ win0_5.index t = ![t.val % 17, t.val / 17] :=
  (by decide +kernel : ∀ t : Fin grid0.N, _)

/-- What point `t` stores, over the weights' two blocks of its run's first point. -/
theorem stored (c : Dev nD) (t : Fin cfg0.N) :
    (outsAt0 m c t.val t.isLt).1 = k0_pay3 (F := Ideal) (iblk m c 0 t)
      (k0_pay1 (F := Ideal) (iblk m c 1 ⟨17 * (t.val / 17), Pipeline.run_start_lt t⟩)) (iblk m c 0 t)
      (k0_pay2 (F := Ideal) (iblk m c 2 ⟨17 * (t.val / 17), Pipeline.run_start_lt t⟩)) (iblk m c 3 t) (iblk m c 4 t) :=
  Resident.stored (fun n h => outsAt0 m c n h) 17
    (fun t w => k0_pay3 (F := Ideal) (iblk m c 0 t) w.1 (iblk m c 0 t) w.2 (iblk m c 3 t) (iblk m c 4 t))
    (fun t => (k0_pay1 (F := Ideal) (iblk m c 1 t), k0_pay2 (F := Ideal) (iblk m c 2 t)))
    (fun t h => by
      rw [outsAt0_A m c t h]
      refine Prod.ext (funext fun y => ?_) (Prod.ext (funext fun y => ?_) (funext fun y => ?_)) <;> frame_out)
    (fun t h => by
      rw [outsAt0_B m c t h]
      refine Prod.ext (funext fun y => ?_) (Prod.ext (funext fun y => ?_) (funext fun y => ?_))
      · frame_out
        rw [read_unread_whole, read_unread_whole]
      · rfl
      · rfl)
    t

/-- What point `t` stores at row `i` and column `j` of its block is the reference's element there. -/
theorem point (c : Dev nD) (t : Fin cfg0.N) (i : Fin 1024) (j : Fin 256) (R : Fin 17408) (C : Fin 4096)
    (hR : R.val = t.val % 17 * 1024 + i.val) (hC : C.val = t.val / 17 * 256 + j.val) :
    (outsAt0 m c t.val t.isLt).1 (ix2 i j)
      = Cert.Reference7Ideal.Read.val_main_v23 (F := Ideal) (m ((c : Thread nD τ).loc main_arg0)) (m ((c : Thread nD τ).loc main_arg1))
          (m ((c : Thread nD τ).loc main_arg2)) (m ((c : Thread nD τ).loc main_arg3)) (ix2 R C) := by
  have hw : 17 * (t.val / 17) / 17 = t.val / 17 := by omega
  rw [stored, Cert.Reference7Ideal.Glu.result_apply]
  refine element _ _ _ _ _ i j _ _ _ _ _ ?_ ?_ (fun k => ?_) (fun k => ?_) (fun k => ?_)
  · show iblk m c 3 t (ix2 i j) = _
    blk_ext [iblk, V, idx t]
  · show iblk m c 4 t (ix4 0 0 0 j) = _
    blk_ext [iblk, V, idx t]
  · show iblk m c 0 t (ix2 i k) = _
    blk_ext [iblk, V, idx t]
  · show iblk m c 1 ⟨17 * (t.val / 17), _⟩ (ix3 0 k j) = _
    blk_ext [iblk, V, idx ⟨17 * (t.val / 17), Pipeline.run_start_lt t⟩]
  · show iblk m c 2 ⟨17 * (t.val / 17), _⟩ (ix3 0 k j) = _
    blk_ext [iblk, V, idx ⟨17 * (t.val / 17), Pipeline.run_start_lt t⟩]

/-- THE RESULT ARRAY: after the run it is the reference's value of the arguments. -/
theorem final (c : Dev nD) :
    (dats m 0 c).arrAt 5 cfg0.N
      = Cert.Reference7Ideal.Read.val_main_v23 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 5 _ (by decide +kernel) fun t hf y => ?_
  have ht : t.val < 272 := t.isLt
  have h0 : (y 0).val < 1024 := (y 0).isLt
  have h1 : (y 1).val < 256 := (y 1).isLt
  blk_simp
  rw [after0_5, eq_ix2 y]
  refine (point m c t _ _ ⟨t.val % 17 * 1024 + (y 0).val, ?_⟩ ⟨t.val / 17 * 256 + (y 1).val, ?_⟩ rfl rfl).trans (congrArg _ ?_)
  · omega
  · omega
  · blk_ext [idx t]

end Cert.Kernel7Ideal.Glu

namespace Cert.Glu

/-- The printed kernel runs, keeps its arguments and ends quiescent. -/
theorem frame_kernel : Cert.quiescent_Kernel7 := fun m ρ _ => Cert.Kernel7.Gen.frame m ρ

/-- So does the idealized kernel. -/
theorem frame_ideal : Cert.quiescent_Kernel7Ideal := fun m ρ _ => Cert.Kernel7Ideal.Gen.frame m ρ

/-- So does the reference, a host program without semaphores. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- THE VALUE: over the extended reals the kernel and the reference leave the same array, for every memory. -/
theorem algebraic : Cert.algebraic_Kernel7Ideal_Reference7Ideal := by
  intro m ρ m' ρ' _ hagree
  refine ⟨fun c => Cert.Reference7Ideal.Read.val_main_v23 (F := Ideal)
    (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  · exact (θ_run Cert.Kernel7Ideal.defs _ _).mono
      (fun r h c => ⟨((h.1 c).1 5).trans (Cert.Kernel7Ideal.Glu.final m c), h.2 c⟩)
      (θ_run_and (Cert.Kernel7Ideal.Gen.run_main m ρ) (Cert.Kernel7Ideal.Gen.unchanged m ρ))
  · refine (θ_run Cert.Reference7Ideal.defs _ _).mono (fun r h c => ⟨?_, (h c).2⟩)
      (Cert.Reference7Ideal.Value.run (F := Ideal) m' ρ')
    rw [(h c).1, Cert.Reference7Ideal.Read.val_main_v23_eq, (hagree c).1, (hagree c).2.1, (hagree c).2.2.1, (hagree c).2.2.2]

end Cert.Glu

end
-- ==== Proof.OutProj.lean ====
/-
  The output projection, of the attention as of the short convolution (`Kernel8` / `Kernel8Ideal` against `Reference8Ideal`): the result
  array is the residual plus the gate times the product, which is the reference's value; then the claims.
-/
module

public import proofs.«01_k».proof.Defs
public import proofs.«01_k».proof.Proof.Resident
public import proofs.«01_k».proof.Proof.Gated
public import proofs.«01_k».proof.Proof.Gen.Kernel8.Frame
public import proofs.«01_k».proof.Proof.Gen.Kernel8Ideal.Frame
public import proofs.«01_k».proof.Proof.Gen.Reference8Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference8Ideal.OutProj

open Cert.Reference8Ideal Cert.Reference8Ideal.Gen Cert.Reference8Ideal.Read

/-- The reference's element: the residual plus the gate times the row by the weights' column. -/
theorem result_apply (x : FVec Ideal S17408x4096 .f32) (a : FVec Ideal S17408x4096 .bf16) (w : FVec Ideal S1x4096x4096 .f32)
    (mod : FVec Ideal S6x8x1x4096 .f32) (R : Fin 17408) (C : Fin 4096) :
    val_main_v13 (F := Ideal) x a w mod (ix2 R C)
      = x (ix2 R C) + mod (ix4 (2 : Fin 6) (Gated.gateRow R) (0 : Fin 1) C)
          * ∑ k : Fin 4096, a (ix2 R k) * w (ix3 (0 : Fin 1) k C) := by
  rw [← Gated.mixerGate_apply mod R C]
  pointwise [val_main_v13, val_main_v12, val_main_v11, val_main_v10, val_main_v9]
  rfl

end Cert.Reference8Ideal.OutProj

namespace Cert.Kernel8Ideal.OutProj

open Cert.Kernel8Ideal Cert.Kernel8Ideal.Gen TcCoe

variable (m : (ℓ : Loc nD τ sig) → Buf (Elt Ideal) ℓ)

/-- The blocks of point `t`: rows `t % 17`, columns `t / 17`; the gate's row is the batch element of the rows. -/
theorem idx : ∀ t : Fin cfg0.N, win0_0.index t = ![t.val % 17, 0] ∧ win0_1.index t = ![0, 0, t.val / 17]
    ∧ win0_2.index t = ![t.val % 17, t.val / 17] ∧ win0_3.index t = ![2, t.val % 17 / 4, 0, t.val / 17]
    ∧ win0_4.index t = ![t.val % 17, t.val / 17] :=
  (by decide +kernel : ∀ t : Fin grid0.N, _)

/-- What point `t` stores, over the weights' block of its run's first point. -/
theorem stored (c : Dev nD) (t : Fin cfg0.N) :
    (outsAt0 m c t.val t.isLt).1 = k0_pay2 (F := Ideal) (iblk m c 0 t)
      (k0_pay1 (F := Ideal) (iblk m c 1 ⟨17 * (t.val / 17), Pipeline.run_start_lt t⟩)) (iblk m c 2 t) (iblk m c 3 t) :=
  Resident.stored (fun n h => outsAt0 m c n h) 17
    (fun t w => k0_pay2 (F := Ideal) (iblk m c 0 t) w (iblk m c 2 t) (iblk m c 3 t))
    (fun t => k0_pay1 (F := Ideal) (iblk m c 1 t))
    (fun t h => by
      rw [outsAt0_A m c t h]
      refine Prod.ext (funext fun y => ?_) (funext fun y => ?_) <;> frame_out)
    (fun t h => by
      rw [outsAt0_B m c t h]
      refine Prod.ext (funext fun y => ?_) (funext fun y => ?_)
      · frame_out
        rw [read_unread_whole]
      · rfl)
    t

/-- What point `t` stores at row `i` and column `j` of its block is the reference's element there. -/
theorem point (c : Dev nD) (t : Fin cfg0.N) (i : Fin 1024) (j : Fin 512) (R : Fin 17408) (C : Fin 4096)
    (hR : R.val = t.val % 17 * 1024 + i.val) (hC : C.val = t.val / 17 * 512 + j.val) :
    (outsAt0 m c t.val t.isLt).1 (ix2 i j)
      = Cert.Reference8Ideal.Read.val_main_v13 (F := Ideal) (m ((c : Thread nD τ).loc main_arg0)) (m ((c : Thread nD τ).loc main_arg1))
          (m ((c : Thread nD τ).loc main_arg2)) (m ((c : Thread nD τ).loc main_arg3)) (ix2 R C) := by
  have hw : 17 * (t.val / 17) / 17 = t.val / 17 := by omega
  rw [stored, Cert.Reference8Ideal.OutProj.result_apply]
  refine Gated.element _ _ _ _ i j _ _ _ _ ?_ ?_ (fun k => ?_) (fun k => ?_)
  · show iblk m c 2 t (ix2 i j) = _
    blk_ext [iblk, V, idx t]
  · show iblk m c 3 t (ix4 0 0 0 j) = _
    blk_ext [iblk, V, idx t]
  · show iblk m c 0 t (ix2 i k) = _
    blk_ext [iblk, V, idx t]
  · show iblk m c 1 ⟨17 * (t.val / 17), _⟩ (ix3 0 k j) = _
    blk_ext [iblk, V, idx ⟨17 * (t.val / 17), Pipeline.run_start_lt t⟩]

/-- THE RESULT ARRAY: after the run it is the reference's value of the arguments. -/
theorem final (c : Dev nD) :
    (dats m 0 c).arrAt 4 cfg0.N
      = Cert.Reference8Ideal.Read.val_main_v13 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht : t.val < 136 := t.isLt
  have h0 : (y 0).val < 1024 := (y 0).isLt
  have h1 : (y 1).val < 512 := (y 1).isLt
  blk_simp
  rw [after0_4, eq_ix2 y]
  refine (point m c t _ _ ⟨t.val % 17 * 1024 + (y 0).val, ?_⟩ ⟨t.val / 17 * 512 + (y 1).val, ?_⟩ rfl rfl).trans (congrArg _ ?_)
  · omega
  · omega
  · blk_ext [idx t]

end Cert.Kernel8Ideal.OutProj

namespace Cert.OutProj

/-- The printed kernel runs, keeps its arguments and ends quiescent. -/
theorem frame_kernel : Cert.quiescent_Kernel8 := fun m ρ _ => Cert.Kernel8.Gen.frame m ρ

/-- So does the idealized kernel. -/
theorem frame_ideal : Cert.quiescent_Kernel8Ideal := fun m ρ _ => Cert.Kernel8Ideal.Gen.frame m ρ

/-- So does the reference, a host program without semaphores. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- THE VALUE: over the extended reals the kernel and the reference leave the same array, for every memory. -/
theorem algebraic : Cert.algebraic_Kernel8Ideal_Reference8Ideal := by
  intro m ρ m' ρ' _ hagree
  refine ⟨fun c => Cert.Reference8Ideal.Read.val_main_v13 (F := Ideal)
    (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))
    (m ((c.tc : Thread Cert.Kernel8Ideal.nD Cert.Kernel8Ideal.τ).loc Cert.Kernel8Ideal.main_arg2))
    (m ((c.tc : Thread Cert.Kernel8Ideal.nD Cert.Kernel8Ideal.τ).loc Cert.Kernel8Ideal.main_arg3)), ?_, ?_⟩
  · exact (θ_run Cert.Kernel8Ideal.defs _ _).mono
      (fun r h c => ⟨((h.1 c).1 4).trans (Cert.Kernel8Ideal.OutProj.final m c), h.2 c⟩)
      (θ_run_and (Cert.Kernel8Ideal.Gen.run_main m ρ) (Cert.Kernel8Ideal.Gen.unchanged m ρ))
  · refine (θ_run Cert.Reference8Ideal.defs _ _).mono (fun r h c => ⟨?_, (h c).2⟩)
      (Cert.Reference8Ideal.Value.run (F := Ideal) m' ρ')
    rw [(h c).1, Cert.Reference8Ideal.Read.val_main_v13_eq, (hagree c).1, (hagree c).2.1, (hagree c).2.2.1, (hagree c).2.2.2]

end Cert.OutProj

end
-- ==== Proof.ConvIn.lean ====
/-
  The input projection of the short convolution (`Kernel9` / `Kernel9Ideal` against `Reference9Ideal`): the first result is the
  product by the first third of the weights' columns, the second the product of the products by the other two thirds; both are
  the reference's values; then the claims.
-/
module

public import proofs.«01_k».proof.Defs
public import proofs.«01_k».proof.Proof.Resident
public import proofs.«01_k».proof.Proof.Gen.Kernel9.Frame
public import proofs.«01_k».proof.Proof.Gen.Kernel9Ideal.Frame
public import proofs.«01_k».proof.Proof.Gen.Reference9Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference9Ideal.ConvIn

open Cert.Reference9Ideal Cert.Reference9Ideal.Gen Cert.Reference9Ideal.Read

/-- The first result's element: the row by a column of the weights' first third. -/
theorem gate_apply (h : FVec Ideal S17408x4096 .bf16) (w : FVec Ideal S1x4096x12288 .f32) (R : Fin 17408) (C : Fin 4096) :
    val_main_v6 (F := Ideal) h w (ix2 R C)
      = (∑ k : Fin 4096, h (ix2 R k) * w (ix3 (0 : Fin 1) k (⟨C.val, by omega⟩ : Fin 12288)) : EReal) := by
  pointwise [val_main_v6, val_main_v3, val_main_v2, val_main_v1, val_main_v0]

/-- The second result's element: the product by the second third's column times the product by the last third's. -/
theorem value_apply (h : FVec Ideal S17408x4096 .bf16) (w : FVec Ideal S1x4096x12288 .f32) (R : Fin 17408) (C : Fin 4096) :
    val_main_v8 (F := Ideal) h w (ix2 R C)
      = ((∑ k : Fin 4096, h (ix2 R k) * w (ix3 (0 : Fin 1) k (⟨4096 + C.val, by omega⟩ : Fin 12288)))
        * (∑ k : Fin 4096, h (ix2 R k) * w (ix3 (0 : Fin 1) k (⟨8192 + C.val, by omega⟩ : Fin 12288))) : EReal) := by
  pointwise [val_main_v8, val_main_v7, val_main_v5, val_main_v4, val_main_v2, val_main_v1, val_main_v0]

end Cert.Reference9Ideal.ConvIn

namespace Cert.Kernel9Ideal.ConvIn

open Cert.Kernel9Ideal Cert.Kernel9Ideal.Gen TcCoe

variable (m : (ℓ : Loc nD τ sig) → Buf (Elt Ideal) ℓ)

/-- One element of what a point stores to the first result, over the entries of its blocks. -/
theorem gate_element (x : Vec Ideal S1024x4096 .bf16) (w : Vec Ideal S1x4096x256 .f32) (i : Fin 1024) (j : Fin 256)
    (row col : Fin 4096 → EReal) (hx : ∀ k, x (ix2 i k) = row k) (hw : ∀ k, w (ix3 (0 : Fin 1) k j) = col k) :
    k0_pay4 (F := Ideal) x (k0_pay1 (F := Ideal) w) (ix2 i j) = ∑ k : Fin 4096, row k * col k := by
  have e : k0_pay4 (F := Ideal) x (k0_pay1 (F := Ideal) w) (ix2 i j)
      = (∑ k : Fin 4096, x (ix2 i k) * w (ix3 (0 : Fin 1) k j) : EReal) := by
    pointwise [k0_pay4, k0_pay1]
  rw [e]
  exact Finset.sum_congr rfl fun k _ => by rw [hx k, hw k]

/-- One element of what a point stores to the second result, over the entries of its blocks. -/
theorem value_element (x : Vec Ideal S1024x4096 .bf16) (w w' : Vec Ideal S1x4096x256 .f32) (i : Fin 1024) (j : Fin 256)
    (row col col' : Fin 4096 → EReal) (hx : ∀ k, x (ix2 i k) = row k) (hw : ∀ k, w (ix3 (0 : Fin 1) k j) = col k)
    (hw' : ∀ k, w' (ix3 (0 : Fin 1) k j) = col' k) :
    k0_pay5 (F := Ideal) x (k0_pay2 (F := Ideal) w) x (k0_pay3 (F := Ideal) w') (ix2 i j)
      = (∑ k : Fin 4096, row k * col k) * (∑ k : Fin 4096, row k * col' k) := by
  have e : k0_pay5 (F := Ideal) x (k0_pay2 (F := Ideal) w) x (k0_pay3 (F := Ideal) w') (ix2 i j)
      = ((∑ k : Fin 4096, x (ix2 i k) * w (ix3 (0 : Fin 1) k j))
        * (∑ k : Fin 4096, x (ix2 i k) * w' (ix3 (0 : Fin 1) k j)) : EReal) := by
    pointwise [k0_pay5, k0_pay2, k0_pay3]
  rw [e]
  exact congrArg₂ (fun a b : EReal => a * b) (Finset.sum_congr rfl fun k _ => by rw [hx k, hw k])
    (Finset.sum_congr rfl fun k _ => by rw [hx k, hw' k])

/-- The blocks of point `t`: rows `t % 17`, columns `t / 17`, of the weights' second and last third 16 and 32 blocks further. -/
theorem idx : ∀ t : Fin cfg0.N, win0_0.index t = ![t.val % 17, 0] ∧ win0_1.index t = ![0, 0, t.val / 17]
    ∧ win0_2.index t = ![0, 0, t.val / 17 + 16] ∧ win0_3.index t = ![0, 0, t.val / 17 + 32]
    ∧ win0_4.index t = ![t.val % 17, t.val / 17] ∧ win0_5.index t = ![t.val % 17, t.val / 17] :=
  (by decide +kernel : ∀ t : Fin grid0.N, _)

/-- What point `t` stores to the two results, over the weights' three blocks of its run's first point. -/
theorem stored (c : Dev nD) (t : Fin cfg0.N) :
    ((outsAt0 m c t.val t.isLt).1, (outsAt0 m c t.val t.isLt).2.1)
      = (k0_pay4 (F := Ideal) (iblk m c 0 t) (k0_pay1 (F := Ideal) (iblk m c 1 ⟨17 * (t.val / 17), Pipeline.run_start_lt t⟩)),
        k0_pay5 (F := Ideal) (iblk m c 0 t) (k0_pay2 (F := Ideal) (iblk m c 2 ⟨17 * (t.val / 17), Pipeline.run_start_lt t⟩))
          (iblk m c 0 t) (k0_pay3 (F := Ideal) (iblk m c 3 ⟨17 * (t.val / 17), Pipeline.run_start_lt t⟩))) :=
  Resident.stored (fun n h => (((outsAt0 m c n h).1, (outsAt0 m c n h).2.1), (outsAt0 m c n h).2.2)) 17
    (fun t w => (k0_pay4 (F := Ideal) (iblk m c 0 t) w.1, k0_pay5 (F := Ideal) (iblk m c 0 t) w.2.1 (iblk m c 0 t) w.2.2))
    (fun t => (k0_pay1 (F := Ideal) (iblk m c 1 t), k0_pay2 (F := Ideal) (iblk m c 2 t), k0_pay3 (F := Ideal) (iblk m c 3 t)))
    (fun t h => by
      rw [outsAt0_A m c t h]
      refine Prod.ext (Prod.ext (funext fun y => ?_) (funext fun y => ?_))
        (Prod.ext (funext fun y => ?_) (Prod.ext (funext fun y => ?_) (funext fun y => ?_))) <;> frame_out)
    (fun t h => by
      rw [outsAt0_B m c t h]
      refine Prod.ext (Prod.ext (funext fun y => ?_) (funext fun y => ?_))
        (Prod.ext (funext fun y => ?_) (Prod.ext (funext fun y => ?_) (funext fun y => ?_)))
      · frame_out
        rw [read_unread_whole]
      · frame_out
        rw [read_unread_whole, read_unread_whole]
      · rfl
      · rfl
      · rfl)
    t

/-- What point `t` stores to the first result at row `i` and column `j` of its block is the reference's element there. -/
theorem gate_point (c : Dev nD) (t : Fin cfg0.N) (i : Fin 1024) (j : Fin 256) (R : Fin 17408) (C : Fin 4096)
    (hR : R.val = t.val % 17 * 1024 + i.val) (hC : C.val = t.val / 17 * 256 + j.val) :
    (outsAt0 m c t.val t.isLt).1 (ix2 i j)
      = Cert.Reference9Ideal.Read.val_main_v6 (F := Ideal) (m ((c : Thread nD τ).loc main_arg0)) (m ((c : Thread nD τ).loc main_arg1))
          (ix2 R C) := by
  have hw : 17 * (t.val / 17) / 17 = t.val / 17 := by omega
  rw [Cert.Reference9Ideal.ConvIn.gate_apply]
  refine (congrFun (congrArg Prod.fst (stored m c t)) (ix2 i j)).trans ?_
  refine gate_element _ _ i j _ _ (fun k => ?_) (fun k => ?_)
  · show iblk m c 0 t (ix2 i k) = _
    blk_ext [iblk, V, idx t]
  · show iblk m c 1 ⟨17 * (t.val / 17), _⟩ (ix3 0 k j) = _
    blk_ext [iblk, V, idx ⟨17 * (t.val / 17), Pipeline.run_start_lt t⟩]

/-- What point `t` stores to the second result at row `i` and column `j` of its block is the reference's element there. -/
theorem value_point (c : Dev nD) (t : Fin cfg0.N) (i : Fin 1024) (j : Fin 256) (R : Fin 17408) (C : Fin 4096)
    (hR : R.val = t.val % 17 * 1024 + i.val) (hC : C.val = t.val / 17 * 256 + j.val) :
    (outsAt0 m c t.val t.isLt).2.1 (ix2 i j)
      = Cert.Reference9Ideal.Read.val_main_v8 (F := Ideal) (m ((c : Thread nD τ).loc main_arg0)) (m ((c : Thread nD τ).loc main_arg1))
          (ix2 R C) := by
  have hw : 17 * (t.val / 17) / 17 = t.val / 17 := by omega
  rw [Cert.Reference9Ideal.ConvIn.value_apply]
  refine (congrFun (congrArg Prod.snd (stored m c t)) (ix2 i j)).trans ?_
  refine value_element _ _ _ i j _ _ _ (fun k => ?_) (fun k => ?_) (fun k => ?_)
  · show iblk m c 0 t (ix2 i k) = _
    blk_ext [iblk, V, idx t]
  · show iblk m c 2 ⟨17 * (t.val / 17), _⟩ (ix3 0 k j) = _
    blk_ext [iblk, V, idx ⟨17 * (t.val / 17), Pipeline.run_start_lt t⟩]
  · show iblk m c 3 ⟨17 * (t.val / 17), _⟩ (ix3 0 k j) = _
    blk_ext [iblk, V, idx ⟨17 * (t.val / 17), Pipeline.run_start_lt t⟩]

/-- THE FIRST RESULT ARRAY: after the run it is the reference's value of the arguments. -/
theorem gate_final (c : Dev nD) :
    (dats m 0 c).arrAt 4 cfg0.N
      = Cert.Reference9Ideal.Read.val_main_v6 (F := Ideal) (m ((c : Thread nD τ).loc main_arg0)) (m ((c : Thread nD τ).loc main_arg1)) := by
  refine (dats m 0 c).arrAt_eq_of_covers 4 _ (by decide +kernel) fun t hf y => ?_
  have ht : t.val < 272 := t.isLt
  have h0 : (y 0).val < 1024 := (y 0).isLt
  have h1 : (y 1).val < 256 := (y 1).isLt
  blk_simp
  rw [after0_4, eq_ix2 y]
  refine (gate_point m c t _ _ ⟨t.val % 17 * 1024 + (y 0).val, ?_⟩ ⟨t.val / 17 * 256 + (y 1).val, ?_⟩ rfl rfl).trans (congrArg _ ?_)
  · omega
  · omega
  · blk_ext [idx t]

/-- THE SECOND RESULT ARRAY: after the run it is the reference's value of the arguments. -/
theorem value_final (c : Dev nD) :
    (dats m 0 c).arrAt 5 cfg0.N
      = Cert.Reference9Ideal.Read.val_main_v8 (F := Ideal) (m ((c : Thread nD τ).loc main_arg0)) (m ((c : Thread nD τ).loc main_arg1)) := by
  refine (dats m 0 c).arrAt_eq_of_covers 5 _ (by decide +kernel) fun t hf y => ?_
  have ht : t.val < 272 := t.isLt
  have h0 : (y 0).val < 1024 := (y 0).isLt
  have h1 : (y 1).val < 256 := (y 1).isLt
  blk_simp
  rw [after0_5, eq_ix2 y]
  refine (value_point m c t _ _ ⟨t.val % 17 * 1024 + (y 0).val, ?_⟩ ⟨t.val / 17 * 256 + (y 1).val, ?_⟩ rfl rfl).trans (congrArg _ ?_)
  · omega
  · omega
  · blk_ext [idx t]

end Cert.Kernel9Ideal.ConvIn

namespace Cert.ConvIn

/-- The printed kernel runs, keeps its arguments and ends quiescent. -/
theorem frame_kernel : Cert.quiescent_Kernel9 := fun m ρ _ => Cert.Kernel9.Gen.frame m ρ

/-- So does the idealized kernel. -/
theorem frame_ideal : Cert.quiescent_Kernel9Ideal := fun m ρ _ => Cert.Kernel9Ideal.Gen.frame m ρ

/-- So does the reference, a host program without semaphores. -/
theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- THE VALUE: over the extended reals the kernel and the reference leave the same two arrays, for every memory. -/
theorem algebraic : Cert.algebraic_Kernel9Ideal_Reference9Ideal := by
  intro m ρ m' ρ' _ hagree
  refine ⟨fun c => Cert.Reference9Ideal.Read.val_main_v6 (F := Ideal)
    (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)),
    fun c => Cert.Reference9Ideal.Read.val_main_v8 (F := Ideal)
    (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1)), ?_, ?_⟩
  · exact (θ_run Cert.Kernel9Ideal.defs _ _).mono
      (fun r h c => ⟨((h.1 c).1 4).trans (Cert.Kernel9Ideal.ConvIn.gate_final m c),
        ((h.1 c).1 5).trans (Cert.Kernel9Ideal.ConvIn.value_final m c), h.2 c⟩)
      (θ_run_and (Cert.Kernel9Ideal.Gen.run_main m ρ) (Cert.Kernel9Ideal.Gen.unchanged m ρ))
  · refine (θ_run Cert.Reference9Ideal.defs _ _).mono (fun r h c => ⟨?_, ?_, (h c).2.2⟩)
      (Cert.Reference9Ideal.Value.run (F := Ideal) m' ρ')
    · rw [(h c).1, Cert.Reference9Ideal.Read.val_main_v6_eq, (hagree c).1, (hagree c).2]
    · rw [(h c).2.1, Cert.Reference9Ideal.Read.val_main_v8_eq, (hagree c).1, (hagree c).2]

end Cert.ConvIn

end
-- ==== Proof.ShortConv.lean ====
/-
  The short convolution (`Kernel10` / `Kernel10Ideal` against `Reference10Ideal`): each row is the gate times the weighted sum of the
  row before, the row and the row behind, with zeros beyond the ends of a sequence, which is the reference's value; then the
  claims. The kernel takes the rows beyond its block from the neighbouring blocks of eight rows, and a sequence's ends from its
  grid coordinate.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Read
public import Idealize.ShloMosaic.Lib.Claim
public import Idealize.ShloMosaic.Lib.Pointwise
public import Idealize.ShloMosaic.Lib.IdealHost
public import Idealize.ShloMosaic.Lib.Pipeline.ValueKit

@[expose] public section

noncomputable section

open Idealize.ShloMosaic Idealize.SL.Sem

namespace ConvRows

/-- Row `R` is the first of its sequence: latent sequences have 4096 rows, the context's, behind them, 256. -/
abbrev Starts (R : Nat) : Prop := if R < 16384 then R % 4096 = 0 else R % 256 = 0

/-- Row `R` is the last of its sequence. -/
abbrev Ends (R : Nat) : Prop := if R < 16384 then R % 4096 = 4095 else R % 256 = 255

/-- The row before `R` in its sequence, or zero. -/
def before (u : Fin 17408 → EReal) (R : Fin 17408) : EReal := if Starts R.val then 0 else u ⟨R.val - 1, by omega⟩

/-- The row behind `R` in its sequence, or zero. -/
def behind (u : Fin 17408 → EReal) (R : Fin 17408) : EReal :=
  if h : Ends R.val then 0 else u ⟨R.val + 1, by unfold Ends at h; split at h <;> omega⟩

theorem before_start (u : Fin 17408 → EReal) (R : Fin 17408) (h : Starts R.val) : before u R = 0 := if_pos h

theorem before_inside (u : Fin 17408 → EReal) (R R' : Fin 17408) (h : ¬Starts R.val) (e : R'.val + 1 = R.val) : before u R = u R' :=
  (if_neg h).trans (congrArg u (Fin.ext (show R.val - 1 = R'.val by omega)))

theorem behind_end (u : Fin 17408 → EReal) (R : Fin 17408) (h : Ends R.val) : behind u R = 0 := dif_pos h

theorem behind_inside (u : Fin 17408 → EReal) (R R' : Fin 17408) (h : ¬Ends R.val) (e : R'.val = R.val + 1) : behind u R = u R' :=
  (dif_neg h).trans (congrArg u (Fin.ext e.symm))

end ConvRows

namespace Cert.Reference10Ideal.ShortConv

open Cert.Reference10Ideal Cert.Reference10Ideal.Gen Cert.Reference10Ideal.Read ConvRows

/-- The reference's latent rows, by batch element and place in the sequence. -/
theorem latent_apply (u : FVec Ideal S17408x4096 .bf16) (w : FVec Ideal S3x4096 .f32) (B : Fin 4) (Q : Fin 4096) (C : Fin 4096)
    (R : Fin 17408) (hR : R.val = B.val * 4096 + Q.val) :
    val_main_v24 (F := Ideal) u w (ix3 B Q C)
      = w (ix2 (0 : Fin 3) C) * before (fun R => u (ix2 R C)) R + w (ix2 (1 : Fin 3) C) * u (ix2 R C)
          + w (ix2 (2 : Fin 3) C) * behind (fun R => u (ix2 R C)) R := by
  have hB := B.isLt
  have hQ := Q.isLt
  have e0 : val_main_v5 (F := Ideal) u (ix3 B Q C) = before (fun R => u (ix2 R C)) R := by
    pointwise [val_main_v5, val_main_v4, val_main_v3, val_main_v2, val_main_v1, val_main_v0, val_main_cst]
    by_cases h : Q.val < 1
    · rw [dif_pos h, before_start _ _ (by unfold Starts; split <;> omega)]
    · rw [dif_neg h, before_inside _ _ ⟨B.val * 4096 + (Q.val - 1), by omega⟩ (by unfold Starts; split <;> omega)
        (by show B.val * 4096 + (Q.val - 1) + 1 = _; omega)]
  have e1 : val_main_v2 (F := Ideal) u (ix3 B Q C) = u (ix2 R C) := by
    rw [show R = ⟨B.val * 4096 + Q.val, by omega⟩ from Fin.ext hR]
    pointwise [val_main_v2, val_main_v1, val_main_v0]
  have e2 : val_main_v7 (F := Ideal) u (ix3 B Q C) = behind (fun R => u (ix2 R C)) R := by
    pointwise [val_main_v7, val_main_v6, val_main_v3, val_main_v2, val_main_v1, val_main_v0, val_main_cst]
    by_cases h : Q.val < 4095
    · rw [dif_pos h, behind_inside _ _ ⟨B.val * 4096 + (1 + Q.val), by omega⟩ (by unfold Ends; split <;> omega)
        (by show B.val * 4096 + (1 + Q.val) = _; omega)]
    · rw [dif_neg h, behind_end _ _ (by unfold Ends; split <;> omega)]
  rw [← e0, ← e1, ← e2]
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8]

/-- The reference's context rows, by batch element and place in the sequence. -/
theorem context_apply (u : FVec Ideal S17408x4096 .bf16) (w : FVec Ideal S3x4096 .f32) (B : Fin 4) (Q : Fin 256) (C : Fin 4096)
    (R : Fin 17408) (hR : R.val = 16384 + (B.val * 256 + Q.val)) :
    val_main_v49 (F := Ideal) u w (ix3 B Q C)
      = w (ix2 (0 : Fin 3) C) * before (fun R => u (ix2 R C)) R + w (ix2 (1 : Fin 3) C) * u (ix2 R C)
          + w (ix2 (2 : Fin 3) C) * behind (fun R => u (ix2 R C)) R := by
  have hB := B.isLt
  have hQ := Q.isLt
  have e0 : val_main_v30 (F := Ideal) u (ix3 B Q C) = before (fun R => u (ix2 R C)) R := by
    pointwise [val_main_v30, val_main_v29, val_main_v28, val_main_v27, val_main_v26, val_main_v0, val_main_cst_0]
    by_cases h : Q.val < 1
    · rw [dif_pos h, before_start _ _ (by unfold Starts; split <;> omega)]
    · rw [dif_neg h, before_inside _ _ ⟨16384 + (B.val * 256 + (Q.val - 1)), by omega⟩ (by unfold Starts; split <;> omega)
        (by show 16384 + (B.val * 256 + (Q.val - 1)) + 1 = _; omega)]
  have e1 : val_main_v27 (F := Ideal) u (ix3 B Q C) = u (ix2 R C) := by
    rw [show R = ⟨16384 + (B.val * 256 + Q.val), by omega⟩ from Fin.ext hR]
    pointwise [val_main_v27, val_main_v26, val_main_v0]
  have e2 : val_main_v32 (F := Ideal) u (ix3 B Q C) = behind (fun R => u (ix2 R C)) R := by
    pointwise [val_main_v32, val_main_v31, val_main_v28, val_main_v27, val_main_v26, val_main_v0, val_main_cst_0]
    by_cases h : Q.val < 255
    · rw [dif_pos h, behind_inside _ _ ⟨16384 + (B.val * 256 + (1 + Q.val)), by omega⟩ (by unfold Ends; split <;> omega)
        (by show 16384 + (B.val * 256 + (1 + Q.val)) = _; omega)]
    · rw [dif_neg h, behind_end _ _ (by unfold Ends; split <;> omega)]
  rw [← e0, ← e1, ← e2]
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33]

/-- The reference's element: the gate times the weighted sum of the three rows. -/
theorem result_apply (b u : FVec Ideal S17408x4096 .bf16) (w : FVec Ideal S3x4096 .f32) (R : Fin 17408) (C : Fin 4096) :
    val_main_v54 (F := Ideal) b u w (ix2 R C)
      = b (ix2 R C) * (w (ix2 (0 : Fin 3) C) * before (fun R => u (ix2 R C)) R + w (ix2 (1 : Fin 3) C) * u (ix2 R C)
          + w (ix2 (2 : Fin 3) C) * behind (fun R => u (ix2 R C)) R) := by
  have hlt := R.isLt
  pointwise [val_main_v54, val_main_v53, val_main_v52, val_main_v51, val_main_v50, val_main_v25]
  refine congrArg (fun z : EReal => b (ix2 R C) * z) ?_
  by_cases h : R.val < 16384
  · rw [dif_pos h]
    exact latent_apply u w _ _ C R (by show R.val = R.val / 4096 * 4096 + R.val % 4096; omega)
  · rw [dif_neg h]
    exact context_apply u w _ _ C R (by show R.val = 16384 + ((R.val - 16384) / 256 * 256 + (R.val - 16384) % 256); omega)

end Cert.Reference10Ideal.ShortConv

namespace Cert.Kernel10Ideal.ShortConv

open Cert.Kernel10Ideal Cert.Kernel10Ideal.Gen TcCoe ConvRows

/-- Point `t`'s rows start a sequence. -/
abbrev First (t : Fin cfg0.N) : Prop := t.val / 4 % 16 = 0 ∨ 64 ≤ t.val / 4

/-- Point `t`'s rows end a sequence. -/
abbrev Last (t : Fin cfg0.N) : Prop := t.val / 4 % 16 = 15 ∨ 64 ≤ t.val / 4

/-- The length of the sequence of row block `b`, as the kernel computes it. -/
def seqLen (b : Nat) : BitVec 32 :=
  Scalar.select (Scalar.cmpi .slt (Scalar.muli (BitVec.ofNat 32 b) 256#32) 16384#32) 4096#32 256#32

/-- The place of row block `b` in its sequence, as the kernel computes it. -/
def place (b : Nat) : BitVec 32 :=
  let v0 : BitVec 32 := Scalar.muli (BitVec.ofNat 32 b) 256#32
  let v1 : BitVec 1 := Scalar.cmpi .slt v0 16384#32
  let v6 : BitVec 32 := Scalar.select (Scalar.cmpi .eq (seqLen b) 0#32) 1#32 (seqLen b)
  let v7 : BitVec 32 := Scalar.remsi (Scalar.select v1 v0 (Scalar.subi v0 16384#32)) v6
  Scalar.select (Scalar.andi (Scalar.xori (Scalar.cmpi .slt v7 0#32) (Scalar.cmpi .slt v6 0#32)) (Scalar.cmpi .ne v7 0#32))
    (Scalar.addi v7 v6) v7

theorem first_eq : ∀ t : Fin cfg0.N, Scalar.cmpi .eq (place (grid0.coords t 0).val) 0#32 = if First t then 1#1 else 0#1 :=
  (by decide +kernel : ∀ t : Fin grid0.N, _)

theorem last_eq : ∀ t : Fin cfg0.N,
    Scalar.cmpi .eq (Scalar.addi (place (grid0.coords t 0).val) 256#32) (seqLen (grid0.coords t 0).val) = if Last t then 1#1 else 0#1 :=
  (by decide +kernel : ∀ t : Fin grid0.N, _)

theorem row_zero : ∀ i : Fin 256, IntOp.cmpi .eq (BitVec.ofNat 32 i.val) 0#32 = if i.val = 0 then 1#1 else 0#1 := by decide +kernel

theorem row_last : ∀ i : Fin 256, IntOp.cmpi .eq (BitVec.ofNat 32 i.val) 255#32 = if i.val = 255 then 1#1 else 0#1 := by decide +kernel

theorem select_ite {α : Type} (p : Prop) [Decidable p] (x y : α) : Scalar.select (if p then 1#1 else 0#1) x y = if p then x else y := by
  split <;> rfl

/-- The row the kernel takes as the one behind its last row. -/
theorem behind_apply (t : Fin cfg0.N) (n : FVec Ideal S1x1024 .bf16) (j : Fin 1024) :
    k0_pay3 (F := Ideal) (grid0.coords t) n (ix2 (0 : Fin 1) j) = if Last t then (0 : EReal) else n (ix2 (0 : Fin 1) j) := by
  rw [← select_ite, ← last_eq t]
  pointwise [k0_pay3]
  rfl

/-- The rows the kernel takes as the ones before its rows. -/
theorem before_apply (t : Fin cfg0.N) (u : FVec Ideal S256x1024 .bf16) (p : FVec Ideal S1x1024 .bf16) (i : Fin 256) (j : Fin 1024) :
    k0_pay4 (F := Ideal) (grid0.coords t) u p (ix2 i j)
      = if i.val = 0 then (if First t then (0 : EReal) else p (ix2 (0 : Fin 1) j)) else u (ix2 (⟨(i.val + 256 - 1) % 256, by omega⟩ : Fin 256) j) := by
  rw [← select_ite (First t), ← first_eq t, ← select_ite (i.val = 0), ← row_zero i]
  pointwise [k0_pay4, k0_pay2]
  rfl

/-- One element of a block, over the entries of the arrays. -/
theorem element_eq (t : Fin cfg0.N) (x u : FVec Ideal S256x1024 .bf16) (w : FVec Ideal S8x1024 .f32) (p n : FVec Ideal S1x1024 .bf16)
    (i : Fin 256) (j : Fin 1024) (b r r0 r1 w0 w1 w2 : EReal) (hx : x (ix2 i j) = b) (hu : u (ix2 i j) = r)
    (hw0 : w (ix2 (0 : Fin 8) j) = w0) (hw1 : w (ix2 (1 : Fin 8) j) = w1) (hw2 : w (ix2 (2 : Fin 8) j) = w2)
    (h0 : i.val = 0 → First t → r0 = 0) (h0' : i.val = 0 → ¬First t → p (ix2 (0 : Fin 1) j) = r0)
    (h0'' : ∀ i' : Fin 256, i.val = i'.val + 1 → u (ix2 i' j) = r0)
    (h1 : i.val = 255 → Last t → r1 = 0) (h1' : i.val = 255 → ¬Last t → n (ix2 (0 : Fin 1) j) = r1)
    (h1'' : ∀ i' : Fin 256, i'.val = i.val + 1 → u (ix2 i' j) = r1) :
    k0_pay1 (F := Ideal) (k0_pay2 (F := Ideal) u) (k0_pay3 (F := Ideal) (grid0.coords t) n) (iota .tc S256x1024 32 [0] iota_S256x1024_d0_w32)
        (k0_pay4 (F := Ideal) (grid0.coords t) u p) 255#32 w x (ix2 i j)
      = b * (w0 * r0 + w1 * r + w2 * r1) := by
  have hi := i.isLt
  have e0 : k0_pay4 (F := Ideal) (grid0.coords t) u p (ix2 i j) = r0 := by
    rw [before_apply]
    by_cases c : i.val = 0
    · rw [if_pos c]
      by_cases f : First t
      · rw [if_pos f, h0 c f]
      · rw [if_neg f, h0' c f]
    · rw [if_neg c]
      exact h0'' _ (by show i.val = (i.val + 256 - 1) % 256 + 1; omega)
  have e1 : Scalar.select (IntOp.cmpi .eq (BitVec.ofNat 32 i.val) 255#32) (k0_pay3 (F := Ideal) (grid0.coords t) n (ix2 (0 : Fin 1) j))
      (u (ix2 (⟨(i.val + 256 - 255) % 256, by omega⟩ : Fin 256) j)) = r1 := by
    rw [row_last i, select_ite, behind_apply]
    by_cases c : i.val = 255
    · rw [if_pos c]
      by_cases f : Last t
      · rw [if_pos f, h1 c f]
      · rw [if_neg f, h1' c f]
    · rw [if_neg c]
      exact h1'' _ (by show (i.val + 256 - 255) % 256 = i.val + 1; omega)
  rw [← hx, ← hu, ← hw0, ← hw1, ← hw2, ← e0, ← e1]
  pointwise [k0_pay1, k0_pay2]

variable (m : (ℓ : Loc nD τ sig) → Buf (Elt Ideal) ℓ)

/-- The blocks of point `t`: rows `t / 4`, columns `t % 4`; the eight rows before and the eight behind, kept inside the array. -/
theorem idx : ∀ t : Fin cfg0.N, win0_0.index t = ![t.val / 4, t.val % 4] ∧ win0_1.index t = ![t.val / 4, t.val % 4]
    ∧ win0_2.index t = ![t.val / 4 * 32 - 1, t.val % 4] ∧ win0_3.index t = ![min (t.val / 4 * 32 + 32) 2175, t.val % 4]
    ∧ win0_4.index t = ![0, t.val % 4] ∧ win0_5.index t = ![t.val / 4, t.val % 4] :=
  (by decide +kernel : ∀ t : Fin grid0.N, _)

/-- The weights the kernel reads: the three rows, and rows of zeros below them. -/
theorem V_weights (c : Dev nD) (a : Fin 3) (C : Fin 4096) (a' : Fin 8) (h : a'.val = a.val) :
    (V m c main_v1 : FVec Ideal S8x4096 .f32) (ix2 a' C) = m ((c : Thread nD τ).loc main_arg2) (ix2 a C) := by
  unfold V hostOps0
  after_results
  pointwise []
  rw [dif_pos (by omega)]
  exact congrArg (fun a => m ((c : Thread nD τ).loc main_arg2) (ix2 a C)) (Fin.ext h)

/-- A weight of the point's block. -/
theorem weight_entry (c : Dev nD) (t : Fin cfg0.N) (a : Fin 3) (a' : Fin 8) (h : a'.val = a.val) (j : Fin 1024) (C : Fin 4096)
    (hC : C.val = t.val % 4 * 1024 + j.val) :
    (show Vec Ideal S8x1024 .f32 from iblk m c 4 t) (ix2 a' j) = m ((c : Thread nD τ).loc main_arg2) (ix2 a C) := by
  rw [← V_weights m c a C a' h]
  show iblk m c 4 t (ix2 a' j) = _
  blk_ext [iblk, idx t]

/-- The last of the eight rows before the block. -/
theorem row_before (x : FVec Ideal S8x1024 .bf16) (j : Fin 1024) : View.ld (Val := Elt Ideal) (e' := .bf16) x r0_1 (ix2 (0 : Fin 1) j) = x (ix2 (7 : Fin 8) j) := by
  blk_ext [View.ld]
  · rfl
  · show 0 + 1 * j.val = j.val
    omega

/-- The first of the eight rows behind the block. -/
theorem row_behind (x : FVec Ideal S8x1024 .bf16) (j : Fin 1024) : View.ld (Val := Elt Ideal) (e' := .bf16) x r0_2 (ix2 (0 : Fin 1) j) = x (ix2 (0 : Fin 8) j) := by
  blk_ext [View.ld]
  · rfl
  · show 0 + 1 * j.val = j.val
    omega

/-- What point `t` stores at row `i` and column `j` of its block is the reference's element there. -/
theorem point (c : Dev nD) (t : Fin cfg0.N) (i : Fin 256) (j : Fin 1024) (R : Fin 17408) (C : Fin 4096)
    (hR : R.val = t.val / 4 * 256 + i.val) (hC : C.val = t.val % 4 * 1024 + j.val) :
    out0_5 (F := Ideal) (grid0.coords t) (iblk m c 0 t) (iblk m c 1 t) (iblk m c 2 t) (iblk m c 3 t) (iblk m c 4 t) (ix2 i j)
      = Cert.Reference10Ideal.Read.val_main_v54 (F := Ideal) (m ((c : Thread nD τ).loc main_arg0)) (m ((c : Thread nD τ).loc main_arg1))
          (m ((c : Thread nD τ).loc main_arg2)) (ix2 R C) := by
  have ht : t.val < 272 := t.isLt
  have hi := i.isLt
  rw [Cert.Reference10Ideal.ShortConv.result_apply]
  unfold out0_5
  frame_out
  refine element_eq t _ _ _ _ _ i j _ _ _ _ _ _ _ ?_ ?_ (weight_entry m c t 0 0 rfl j C hC) (weight_entry m c t 1 1 rfl j C hC)
    (weight_entry m c t 2 2 rfl j C hC) (fun h f => ?_) (fun h f => ?_) (fun i' h => ?_) (fun h f => ?_) (fun h f => ?_) (fun i' h => ?_)
  · blk_ext [iblk, V, idx t]
  · blk_ext [iblk, V, idx t]
  · exact before_start _ _ (by unfold Starts; split <;> omega)
  · rw [before_inside _ R ⟨R.val - 1, by omega⟩ (by unfold Starts; split <;> omega) (by show R.val - 1 + 1 = R.val; omega)]
    refine (row_before _ j).trans ?_
    blk_ext [iblk, V, idx t]
  · rw [before_inside _ R ⟨R.val - 1, by omega⟩ (by unfold Starts; split <;> omega) (by show R.val - 1 + 1 = R.val; omega)]
    blk_ext [iblk, V, idx t]
  · exact behind_end _ _ (by unfold Ends; split <;> omega)
  · rw [behind_inside _ R ⟨R.val + 1, by omega⟩ (by unfold Ends; split <;> omega) rfl]
    refine (row_behind _ j).trans ?_
    blk_ext [iblk, V, idx t]
  · rw [behind_inside _ R ⟨R.val + 1, by omega⟩ (by unfold Ends; split <;> omega) rfl]
    blk_ext [iblk, V, idx t]

/-- THE RESULT ARRAY: after the run it is the reference's value of the arguments. -/
theorem final (c : Dev nD) :
    (dats m 0 c).arrAt 5 cfg0.N
      = Cert.Reference10Ideal.Read.val_main_v54 (F := Ideal) (m ((c : Thread nD τ).loc main_arg0)) (m ((c : Thread nD τ).loc main_arg1))
          (m ((c : Thread nD τ).loc main_arg2)) := by
  refine (dats m 0 c).arrAt_eq_of_covers 5 _ (by decide +kernel) fun t hf y => ?_
  have ht : t.val < 272 := t.isLt
  have h0 : (y 0).val < 256 := (y 0).isLt
  have h1 : (y 1).val < 1024 := (y 1).isLt
  blk_simp
  rw [after0_5, eq_ix2 y]
  refine (point m c t _ _ ⟨t.val / 4 * 256 + (y 0).val, ?_⟩ ⟨t.val % 4 * 1024 + (y 1).val, ?_⟩ rfl rfl).trans (congrArg _ ?_)
  · omega
  · omega
  · blk_ext [idx t]

end Cert.Kernel10Ideal.ShortConv

namespace Cert.ShortConv

/-- The printed kernel runs, keeps its arguments and ends quiescent. -/
theorem frame_kernel : Cert.quiescent_Kernel10 := fun m ρ _ => Cert.Kernel10.Gen.frame m ρ

/-- So does the idealized kernel. -/
theorem frame_ideal : Cert.quiescent_Kernel10Ideal := fun m ρ _ => Cert.Kernel10Ideal.Gen.frame m ρ

/-- So does the reference, a host program without semaphores. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- THE VALUE: over the extended reals the kernel and the reference leave the same array, for every memory. -/
theorem algebraic : Cert.algebraic_Kernel10Ideal_Reference10Ideal := by
  intro m ρ m' ρ' _ hagree
  refine ⟨fun c => Cert.Reference10Ideal.Read.val_main_v54 (F := Ideal)
    (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2)), ?_, ?_⟩
  · exact (θ_run Cert.Kernel10Ideal.defs _ _).mono
      (fun r h c => ⟨((h.1 c).1 5).trans (Cert.Kernel10Ideal.ShortConv.final m c), h.2 c⟩)
      (θ_run_and (Cert.Kernel10Ideal.Gen.run_main m ρ) (Cert.Kernel10Ideal.Gen.unchanged m ρ))
  · refine (θ_run Cert.Reference10Ideal.defs _ _).mono (fun r h c => ⟨?_, (h c).2⟩)
      (Cert.Reference10Ideal.Value.run (F := Ideal) m' ρ')
    rw [(h c).1, Cert.Reference10Ideal.Read.val_main_v54_eq, (hagree c).1, (hagree c).2.1, (hagree c).2.2]

end Cert.ShortConv

end
-- ==== Proof.Rope.lean ====
/-
  The normalised and rotated heads of the attention's queries and keys: a head's row over the root of its mean square, times the
  gain; then, on latent rows, each quarter of the head turned with its partner quarter by the row's angle. Stated over one row of
  one head, for the queries' call and the keys' call.
-/
module

public import proofs.«01_k».proof.Proof.Gen.Reference11Ideal.Read
public import Idealize.ShloMosaic.Lib.Pointwise
public import Idealize.ShloMosaic.Lib.IdealHost

@[expose] public section

noncomputable section

open Idealize.ShloMosaic

namespace Rope

/-- A head's row `x` over the root of its mean square (and a small constant), times the gain `g`. -/
def normed (x g : Fin 128 → EReal) (d : Fin 128) : EReal :=
  x d * Ideal.rsqrt (Ideal.div (∑ e : Fin 128, x e * x e) (Ideal.ofBits .f32 0x43000000#32) + Ideal.ofBits .f32 0x358637BD#32) * g d

/-- The lane a lane turns with: the other quarter of its half of the head. -/
def partner (d : Fin 128) : Fin 128 :=
  if d.val % 64 < 32 then ⟨(d.val + 128 - 96) % 128, by omega⟩ else ⟨(d.val + 128 - 32) % 128, by omega⟩

/-- The row `y` turned: each lane times its cosine, plus its partner times its (signed) sine. -/
def turned (y cos sin : Fin 128 → EReal) (d : Fin 128) : EReal := y d * cos d + y (partner d) * sin d

/-- The kernel's choice between the two rotated copies of a row, by the lane's place in its half of the head. -/
theorem select_partner (D : Fin 128) (y : Fin 128 → EReal) :
    Scalar.select
      (IntOp.cmpi CmpIPredicate.slt
        (Scalar.select
          (IntOp.andi
            (IntOp.xori
              (IntOp.cmpi CmpIPredicate.slt
                (IntOp.remsi ArithUnit.vector (BitVec.ofNat 32 D.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 D.val)
                (Scalar.select (Scalar.cmpi CmpIPredicate.eq 64#32 0#32) 1#32 64#32))
              0#32))
          (IntOp.addi
            (IntOp.remsi ArithUnit.vector (BitVec.ofNat 32 D.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 D.val)
            (Scalar.select (Scalar.cmpi CmpIPredicate.eq 64#32 0#32) 1#32 64#32)))
        32#32)
      (y ⟨(D.val + 128 - 96) % 128, by omega⟩) (y ⟨(D.val + 128 - 32) % 128, by omega⟩) = y (partner D) := by
  have e : ∀ D : Fin 128, IntOp.cmpi CmpIPredicate.slt
        (Scalar.select
          (IntOp.andi
            (IntOp.xori
              (IntOp.cmpi CmpIPredicate.slt
                (IntOp.remsi ArithUnit.vector (BitVec.ofNat 32 D.val)
                  (Scalar.select (Scalar.cmpi CmpIPredicate.eq 64#32 0#32) 1#32 64#32))
                0#32)
              (Scalar.cmpi CmpIPredicate.slt (Scalar.select (Scalar.cmpi CmpIPredicate.eq 64#32 0#32) 1#32 64#32) 0#32))
            (IntOp.cmpi CmpIPredicate.ne
              (IntOp.remsi ArithUnit.vector (BitVec.ofNat 32 D.val)
                (Scalar.select (Scalar.cmpi CmpIPredicate.eq 64#32 0#32) 1#32 64#32))
              0#32))
          (IntOp.addi
            (IntOp.remsi ArithUnit.vector (BitVec.ofNat 32 D.val)
              (Scalar.select (Scalar.cmpi CmpIPredicate.eq 64#32 0#32) 1#32 64#32))
            (Scalar.select (Scalar.cmpi CmpIPredicate.eq 64#32 0#32) 1#32 64#32))
          (IntOp.remsi ArithUnit.vector (BitVec.ofNat 32 D.val)
            (Scalar.select (Scalar.cmpi CmpIPredicate.eq 64#32 0#32) 1#32 64#32)))
        32#32 = if D.val % 64 < 32 then 1#1 else 0#1 := by decide +kernel
  rw [e D]
  unfold partner
  split <;> rfl

open Cert.Reference11Ideal Cert.Reference11Ideal.Read

/-- A row's cosine of angle `D`: rows of the grid in the first half of the head, columns in the second. -/
def cosAt (p : Fin 4096) (D : Fin 128) : EReal :=
  if D.val < 64 then val_main_v48 (F := Ideal) (ix2 p ⟨D.val % 32, by omega⟩) else val_main_v50 (F := Ideal) (ix2 p ⟨D.val % 32, by omega⟩)

/-- A row's sine of angle `D`, negative where the lane is the first of its pair. -/
def sinAt (p : Fin 4096) (D : Fin 128) : EReal :=
  if D.val < 64 then
    if D.val < 32 then -val_main_v49 (F := Ideal) (ix2 p ⟨D.val % 32, by omega⟩) else val_main_v49 (F := Ideal) (ix2 p ⟨D.val % 32, by omega⟩)
  else
    if D.val < 96 then -val_main_v51 (F := Ideal) (ix2 p ⟨D.val % 32, by omega⟩) else val_main_v51 (F := Ideal) (ix2 p ⟨D.val % 32, by omega⟩)

/-- The cosines of a row of the trunk: a latent row's by its position in the sequence, a context row's all one. -/
def cosRow (R : Fin 17408) (D : Fin 128) : EReal := if R.val < 16384 then cosAt ⟨R.val % 4096, by omega⟩ D else 1

/-- The sines of a row of the trunk: a latent row's by its position in the sequence, a context row's all zero. -/
def sinRow (R : Fin 17408) (D : Fin 128) : EReal := if R.val < 16384 then sinAt ⟨R.val % 4096, by omega⟩ D else 0

/-- What is turned by cosines one and sines zero stays. -/
theorem turned_context (y : Fin 128 → EReal) (R : Fin 17408) (D : Fin 128) (h : ¬R.val < 16384) : turned y (cosRow R) (sinRow R) D = y D := by
  unfold turned cosRow sinRow
  rw [if_neg h, if_neg h, mul_one, mul_zero, add_zero]

theorem partner_first (D : Fin 128) (h : D.val % 64 < 32) : (partner D).val = D.val + 32 := by
  unfold partner
  rw [if_pos h]
  show (D.val + 128 - 96) % 128 = _
  omega

theorem partner_second (D : Fin 128) (h : ¬D.val % 64 < 32) : (partner D).val = D.val - 32 := by
  unfold partner
  rw [if_neg h]
  show (D.val + 128 - 32) % 128 = _
  omega

/-! A latent row's turned head, quarter by quarter as the reference writes it: the first of a pair times the cosine minus the
    second times the sine, the second times the cosine plus the first times the sine. -/

theorem turned_first (y : Fin 128 → EReal) (R : Fin 17408) (D : Fin 128) (h : R.val < 16384) (c : D.val < 32) (p : Fin 4096)
    (hp : p.val = R.val % 4096) (f : Fin 32) (hf : f.val = D.val) (d : Fin 128) (hd : d.val = D.val + 32) :
    turned y (cosRow R) (sinRow R) D
      = y D * val_main_v48 (F := Ideal) (ix2 p f) - y d * val_main_v49 (F := Ideal) (ix2 p f) := by
  unfold turned cosRow sinRow cosAt sinAt
  rw [if_pos h, if_pos h, show (⟨R.val % 4096, by omega⟩ : Fin 4096) = p from Fin.ext hp.symm,
    if_pos (by omega), if_pos (by omega), if_pos (by omega),
    show partner D = d from Fin.ext ((partner_first D (by omega)).trans (by omega)),
    show (⟨D.val % 32, by omega⟩ : Fin 32) = f from Fin.ext (show D.val % 32 = f.val by omega), sub_eq_add_neg]
  exact congrArg (y D * val_main_v48 (F := Ideal) (ix2 p f) + ·) (mul_neg _ _)

theorem turned_second (y : Fin 128 → EReal) (R : Fin 17408) (D : Fin 128) (h : R.val < 16384) (c : ¬D.val < 32) (c' : D.val < 64) (p : Fin 4096)
    (hp : p.val = R.val % 4096) (f : Fin 32) (hf : f.val = D.val - 32) (d : Fin 128) (hd : d.val = D.val - 32) :
    turned y (cosRow R) (sinRow R) D
      = y D * val_main_v48 (F := Ideal) (ix2 p f) + y d * val_main_v49 (F := Ideal) (ix2 p f) := by
  unfold turned cosRow sinRow cosAt sinAt
  rw [if_pos h, if_pos h, show (⟨R.val % 4096, by omega⟩ : Fin 4096) = p from Fin.ext hp.symm,
    if_pos (by omega), if_pos (by omega), if_neg (by omega),
    show partner D = d from Fin.ext ((partner_second D (by omega)).trans (by omega)),
    show (⟨D.val % 32, by omega⟩ : Fin 32) = f from Fin.ext (show D.val % 32 = f.val by omega)]

theorem turned_third (y : Fin 128 → EReal) (R : Fin 17408) (D : Fin 128) (h : R.val < 16384) (c : ¬D.val < 64) (c' : D.val < 96) (p : Fin 4096)
    (hp : p.val = R.val % 4096) (f : Fin 32) (hf : f.val = D.val - 64) (d : Fin 128) (hd : d.val = D.val + 32) :
    turned y (cosRow R) (sinRow R) D
      = y D * val_main_v50 (F := Ideal) (ix2 p f) - y d * val_main_v51 (F := Ideal) (ix2 p f) := by
  unfold turned cosRow sinRow cosAt sinAt
  rw [if_pos h, if_pos h, show (⟨R.val % 4096, by omega⟩ : Fin 4096) = p from Fin.ext hp.symm,
    if_neg (by omega), if_neg (by omega), if_pos (by omega),
    show partner D = d from Fin.ext ((partner_first D (by omega)).trans (by omega)),
    show (⟨D.val % 32, by omega⟩ : Fin 32) = f from Fin.ext (show D.val % 32 = f.val by omega), sub_eq_add_neg]
  exact congrArg (y D * val_main_v50 (F := Ideal) (ix2 p f) + ·) (mul_neg _ _)

theorem turned_fourth (y : Fin 128 → EReal) (R : Fin 17408) (D : Fin 128) (h : R.val < 16384) (c : ¬D.val < 96) (p : Fin 4096)
    (hp : p.val = R.val % 4096) (f : Fin 32) (hf : f.val = D.val - 96) (d : Fin 128) (hd : d.val = D.val - 32) :
    turned y (cosRow R) (sinRow R) D
      = y D * val_main_v50 (F := Ideal) (ix2 p f) + y d * val_main_v51 (F := Ideal) (ix2 p f) := by
  unfold turned cosRow sinRow cosAt sinAt
  rw [if_pos h, if_pos h, show (⟨R.val % 4096, by omega⟩ : Fin 4096) = p from Fin.ext hp.symm,
    if_neg (by omega), if_neg (by omega), if_neg (by omega),
    show partner D = d from Fin.ext ((partner_second D (by omega)).trans (by omega)),
    show (⟨D.val % 32, by omega⟩ : Fin 32) = f from Fin.ext (show D.val % 32 = f.val by omega)]

/-- The cosines' table, read at a row's place in it: its position in the sequence, or one of the places behind the sequence. -/
theorem cosRow_table (R : Fin 17408) (D : Fin 128) (p : Fin 5120) (h0 : R.val < 16384 → p.val = R.val % 4096)
    (h1 : ¬R.val < 16384 → 4096 ≤ p.val) :
    (if h : p.val < 4096 then
      if h_1 : D.val < 32 then val_main_v48 (F := Ideal) (ix2 ⟨p.val, h⟩ ⟨D.val, h_1⟩)
      else
        if h_2 : D.val - 32 < 32 then val_main_v48 (F := Ideal) (ix2 ⟨p.val, h⟩ ⟨D.val - 32, h_2⟩)
        else
          if h_3 : D.val - 32 - 32 < 32 then val_main_v50 (F := Ideal) (ix2 ⟨p.val, h⟩ ⟨D.val - 32 - 32, h_3⟩)
          else val_main_v50 (F := Ideal) (ix2 ⟨p.val, h⟩ ⟨D.val - 32 - 32 - 32, by omega⟩)
    else (1 : EReal)) = cosRow R D := by
  unfold cosRow cosAt
  by_cases h : R.val < 16384
  · have hp := h0 h
    have e : (⟨R.val % 4096, by omega⟩ : Fin 4096) = ⟨p.val, by omega⟩ := Fin.ext hp.symm
    rw [if_pos h, dif_pos (by omega), e]
    by_cases c1 : D.val < 32
    · rw [dif_pos c1, if_pos (by omega)]
      exact congrArg _ (congrArg (ix2 _) (Fin.ext (show D.val = D.val % 32 by omega)))
    · rw [dif_neg c1]
      by_cases c2 : D.val - 32 < 32
      · rw [dif_pos c2, if_pos (by omega)]
        exact congrArg _ (congrArg (ix2 _) (Fin.ext (show D.val - 32 = D.val % 32 by omega)))
      · rw [dif_neg c2, if_neg (by omega)]
        by_cases c3 : D.val - 32 - 32 < 32
        · rw [dif_pos c3]
          exact congrArg _ (congrArg (ix2 _) (Fin.ext (show D.val - 32 - 32 = D.val % 32 by omega)))
        · rw [dif_neg c3]
          exact congrArg _ (congrArg (ix2 _) (Fin.ext (show D.val - 32 - 32 - 32 = D.val % 32 by omega)))
  · have hp := h1 h
    rw [if_neg h, dif_neg (by omega)]

/-- The same of the sines' table. -/
theorem sinRow_table (R : Fin 17408) (D : Fin 128) (p : Fin 5120) (h0 : R.val < 16384 → p.val = R.val % 4096)
    (h1 : ¬R.val < 16384 → 4096 ≤ p.val) :
    (if h : p.val < 4096 then
      if h_1 : D.val < 32 then -val_main_v49 (F := Ideal) (ix2 ⟨p.val, h⟩ ⟨D.val, h_1⟩)
      else
        if h_2 : D.val - 32 < 32 then val_main_v49 (F := Ideal) (ix2 ⟨p.val, h⟩ ⟨D.val - 32, h_2⟩)
        else
          if h_3 : D.val - 32 - 32 < 32 then -val_main_v51 (F := Ideal) (ix2 ⟨p.val, h⟩ ⟨D.val - 32 - 32, h_3⟩)
          else val_main_v51 (F := Ideal) (ix2 ⟨p.val, h⟩ ⟨D.val - 32 - 32 - 32, by omega⟩)
    else (0 : EReal)) = sinRow R D := by
  unfold sinRow sinAt
  by_cases h : R.val < 16384
  · have hp := h0 h
    have e : (⟨R.val % 4096, by omega⟩ : Fin 4096) = ⟨p.val, by omega⟩ := Fin.ext hp.symm
    rw [if_pos h, dif_pos (by omega), e]
    by_cases c1 : D.val < 32
    · rw [dif_pos c1, if_pos (by omega), if_pos (by omega)]
      exact congrArg (fun f => -val_main_v49 (F := Ideal) (ix2 _ f)) (Fin.ext (show D.val = D.val % 32 by omega))
    · rw [dif_neg c1]
      by_cases c2 : D.val - 32 < 32
      · rw [dif_pos c2, if_pos (by omega), if_neg (by omega)]
        exact congrArg _ (congrArg (ix2 _) (Fin.ext (show D.val - 32 = D.val % 32 by omega)))
      · rw [dif_neg c2, if_neg (by omega)]
        by_cases c3 : D.val - 32 - 32 < 32
        · rw [dif_pos c3, if_pos (by omega)]
          exact congrArg (fun f => -val_main_v51 (F := Ideal) (ix2 _ f)) (Fin.ext (show D.val - 32 - 32 = D.val % 32 by omega))
        · rw [dif_neg c3, if_neg (by omega)]
          exact congrArg _ (congrArg (ix2 _) (Fin.ext (show D.val - 32 - 32 - 32 = D.val % 32 by omega)))
  · have hp := h1 h
    rw [if_neg h, dif_neg (by omega)]

end Rope

end
-- ==== Proof.AttnQ.lean ====
/-
  The queries of the attention (`Kernel11` / `Kernel11Ideal` against `Reference11Ideal`): the result array is the product by the
  queries' columns, head by head normalised, scaled by the gain, rotated on latent rows and scaled for the scores, which is the
  reference's value; then the claims.
-/
module

public import proofs.«01_k».proof.Defs
public import proofs.«01_k».proof.Proof.Resident
public import proofs.«01_k».proof.Proof.Rope
public import proofs.«01_k».proof.Proof.Gen.Kernel11.Frame
public import proofs.«01_k».proof.Proof.Gen.Kernel11Ideal.Frame
public import proofs.«01_k».proof.Proof.Gen.Reference11Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference11Ideal.AttnQ

open Cert.Reference11Ideal Cert.Reference11Ideal.Gen Cert.Reference11Ideal.Read

/-- An element of a head: the row by the weights' column. -/
theorem product_apply (h : FVec Ideal S17408x4096 .bf16) (w : FVec Ideal S1x4096x6144 .f32) (R : Fin 17408) (H : Fin 32) (D : Fin 128) :
    val_main_v6 (F := Ideal) h w (ix3 R H D)
      = (∑ k : Fin 4096, h (ix2 R k) * w (ix3 (0 : Fin 1) k (⟨H.val * 128 + D.val, by omega⟩ : Fin 6144)) : EReal) := by
  pointwise [val_main_v6, val_main_v3, val_main_v2, val_main_v1, val_main_v0]

/-- A head's row normalised. -/
theorem normed_apply (h : FVec Ideal S17408x4096 .bf16) (w : FVec Ideal S1x4096x6144 .f32) (g : FVec Ideal S128 .f32)
    (R : Fin 17408) (H : Fin 32) (D : Fin 128) :
    val_main_v19 (F := Ideal) h w g (ix3 R H D)
      = Rope.normed (fun e => val_main_v6 (F := Ideal) h w (ix3 R H e)) (fun e => g (ix1 e)) D := by
  pointwise [val_main_v19, val_main_v18, val_main_v17, val_main_v16, val_main_v15, val_main_v14, val_main_v13, val_main_v12,
    val_main_v11, val_main_v10, val_main_v9, val_main_v8, val_main_v7, val_main_cst, val_main_cst_0, val_main_cst_1]
  rfl

/-- A normalised element, by the values of its indices. -/
theorem normed_at (h : FVec Ideal S17408x4096 .bf16) (w : FVec Ideal S1x4096x6144 .f32) (g : FVec Ideal S128 .f32)
    {R R' : Fin 17408} {H H' : Fin 32} {D D' : Fin 128} (hR : R.val = R'.val) (hH : H.val = H'.val) (hD : D.val = D'.val) :
    val_main_v19 (F := Ideal) h w g (ix3 R H D) = val_main_v19 (F := Ideal) h w g (ix3 R' H' D') := by
  rw [Fin.ext hR, Fin.ext hH, Fin.ext hD]

/-- The reference's element: the head's row normalised and turned, times the scale. -/
theorem result_apply (h : FVec Ideal S17408x4096 .bf16) (w : FVec Ideal S1x4096x6144 .f32) (g : FVec Ideal S128 .f32)
    (R : Fin 17408) (C : Fin 4096) (H : Fin 32) (D : Fin 128) (hC : C.val = H.val * 128 + D.val) :
    val_main_v91 (F := Ideal) h w g (ix2 R C)
      = Rope.turned (Rope.normed (fun e => ∑ k : Fin 4096, h (ix2 R k) * w (ix3 (0 : Fin 1) k (⟨H.val * 128 + e.val, by omega⟩ : Fin 6144)))
          (fun e => g (ix1 e))) (Rope.cosRow R) (Rope.sinRow R) D * Ideal.ofBits .f32 1035273459#32 := by
  have e : ∀ D : Fin 128, Rope.normed (fun e => ∑ k : Fin 4096, h (ix2 R k) * w (ix3 (0 : Fin 1) k (⟨H.val * 128 + e.val, by omega⟩ : Fin 6144)))
      (fun e => g (ix1 e)) D = val_main_v19 (F := Ideal) h w g (ix3 R H D) := fun D => by
    rw [normed_apply]
    exact congrArg (fun y => Rope.normed y (fun e => g (ix1 e)) D) (funext fun e => (product_apply h w R H e).symm)
  rw [show Rope.normed _ _ = fun D => val_main_v19 (F := Ideal) h w g (ix3 R H D) from funext e]
  pointwise [val_main_v91, val_main_v90, val_main_v89, val_main_v88, val_main_v87, val_main_v86, val_main_v85, val_main_v84,
    val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v66,
    val_main_v65, val_main_v64, val_main_v63, val_main_v62, val_main_v61, val_main_v60, val_main_v59, val_main_v58, val_main_v57,
    val_main_v56, val_main_v55, val_main_v54, val_main_v53, val_main_v52, val_main_v21, val_main_v20, val_main_cst_4]
  refine congrArg (fun z : EReal => z * Ideal.ofBits .f32 1035273459#32) ?_
  by_cases hR : R.val < 16384
  · rw [dif_pos hR]
    by_cases c1 : C.val % 128 < 64
    · rw [dif_pos c1]
      by_cases c2 : C.val % 128 < 32
      · rw [dif_pos c2]
        refine Eq.trans ?_ (Rope.turned_first _ R D hR (by omega) ⟨R.val % 4096, by omega⟩ rfl ⟨C.val % 128, c2⟩
          (by show C.val % 128 = _; omega) ⟨D.val + 32, by omega⟩ rfl).symm
        exact congrArg₂ (fun a b : EReal => a * val_main_v48 (F := Ideal) _ - b * val_main_v49 (F := Ideal) _)
          (normed_at h w g (by show R.val / 4096 * 4096 + R.val % 4096 = _; omega) (by show C.val / 128 = _; omega)
            (by show C.val % 128 = _; omega))
          (normed_at h w g (by show R.val / 4096 * 4096 + R.val % 4096 = _; omega) (by show C.val / 128 = _; omega)
            (by show 32 + C.val % 128 = D.val + 32; omega))
      · rw [dif_neg c2]
        refine Eq.trans ?_ (Rope.turned_second _ R D hR (by omega) (by omega) ⟨R.val % 4096, by omega⟩ rfl ⟨C.val % 128 - 32, by omega⟩
          (by show C.val % 128 - 32 = _; omega) ⟨D.val - 32, by omega⟩ rfl).symm
        exact congrArg₂ (fun a b : EReal => a * val_main_v48 (F := Ideal) _ + b * val_main_v49 (F := Ideal) _)
          (normed_at h w g (by show R.val / 4096 * 4096 + R.val % 4096 = _; omega) (by show C.val / 128 = _; omega)
            (by show 32 + (C.val % 128 - 32) = _; omega))
          (normed_at h w g (by show R.val / 4096 * 4096 + R.val % 4096 = _; omega) (by show C.val / 128 = _; omega)
            (by show C.val % 128 - 32 = D.val - 32; omega))
    · rw [dif_neg c1]
      by_cases c2 : C.val % 128 - 64 < 32
      · rw [dif_pos c2]
        refine Eq.trans ?_ (Rope.turned_third _ R D hR (by omega) (by omega) ⟨R.val % 4096, by omega⟩ rfl ⟨C.val % 128 - 64, c2⟩
          (by show C.val % 128 - 64 = _; omega) ⟨D.val + 32, by omega⟩ rfl).symm
        exact congrArg₂ (fun a b : EReal => a * val_main_v50 (F := Ideal) _ - b * val_main_v51 (F := Ideal) _)
          (normed_at h w g (by show R.val / 4096 * 4096 + R.val % 4096 = _; omega) (by show C.val / 128 = _; omega)
            (by show 64 + (C.val % 128 - 64) = _; omega))
          (normed_at h w g (by show R.val / 4096 * 4096 + R.val % 4096 = _; omega) (by show C.val / 128 = _; omega)
            (by show 64 + (32 + (C.val % 128 - 64)) = D.val + 32; omega))
      · rw [dif_neg c2]
        refine Eq.trans ?_ (Rope.turned_fourth _ R D hR (by omega) ⟨R.val % 4096, by omega⟩ rfl ⟨C.val % 128 - 64 - 32, by omega⟩
          (by show C.val % 128 - 64 - 32 = _; omega) ⟨D.val - 32, by omega⟩ rfl).symm
        exact congrArg₂ (fun a b : EReal => a * val_main_v50 (F := Ideal) _ + b * val_main_v51 (F := Ideal) _)
          (normed_at h w g (by show R.val / 4096 * 4096 + R.val % 4096 = _; omega) (by show C.val / 128 = _; omega)
            (by show 64 + (32 + (C.val % 128 - 64 - 32)) = _; omega))
          (normed_at h w g (by show R.val / 4096 * 4096 + R.val % 4096 = _; omega) (by show C.val / 128 = _; omega)
            (by show 64 + (C.val % 128 - 64 - 32) = D.val - 32; omega))
  · rw [dif_neg hR, Rope.turned_context _ R D hR]
    exact normed_at h w g (by show 16384 + (R.val - 16384) = _; omega) (by show C.val / 128 = _; omega) (by show C.val % 128 = _; omega)

end Cert.Reference11Ideal.AttnQ

namespace Cert.Kernel11Ideal.AttnQ

open Cert.Kernel11Ideal Cert.Kernel11Ideal.Gen TcCoe

/-- One element of a block: the head of column `j` normalised, turned and scaled, over the entries of the point's blocks. -/
def element (x : Vec Ideal S1024x4096 .bf16) (w : Vec Ideal S4096x512 .bf16) (g : Vec Ideal S1x128 .f32) (co si : Vec Ideal S1024x128 .f32)
    (i : Fin 1024) (j : Fin 512) : EReal :=
  Rope.turned (Rope.normed (fun e => k0_pay3 (F := Ideal) x w (ix2 i (⟨j.val / 128 * 128 + e.val, by omega⟩ : Fin 512)))
    (fun e => g (ix2 (0 : Fin 1) e))) (fun e => co (ix2 i e)) (fun e => si (ix2 i e)) ⟨j.val % 128, by omega⟩ * Ideal.ofBits .f32 1035273459#32

theorem turn0 (co si xn : FVec Ideal S1024x128 .f32) (i : Fin 1024) (D : Fin 128) :
    k0_pay11 (F := Ideal) co si xn (Scalar.select (Scalar.cmpi .eq 64#32 0#32) 1#32 64#32) k0_pay8 k0_pay9 k0_pay10
        (Scalar.cmpi .slt (Scalar.select (Scalar.cmpi .eq 64#32 0#32) 1#32 64#32) 0#32) (ix2 i D)
      = Rope.turned (fun e => xn (ix2 i e)) (fun e => co (ix2 i e)) (fun e => si (ix2 i e)) D * Ideal.ofBits .f32 1035273459#32 := by
  pointwise [k0_pay11, k0_pay8, k0_pay9, k0_pay10]
  exact congrArg (fun z : EReal => (xn (ix2 i D) * co (ix2 i D) + z * si (ix2 i D)) * Ideal.ofBits .f32 1035273459#32)
    (Rope.select_partner D fun e => xn (ix2 i e))

theorem turn1 (co si xn : FVec Ideal S1024x128 .f32) (i : Fin 1024) (D : Fin 128) :
    k0_pay17 (F := Ideal) co si xn (Scalar.select (Scalar.cmpi .eq 64#32 0#32) 1#32 64#32) k0_pay13 k0_pay14 k0_pay15 k0_pay16 (ix2 i D)
      = Rope.turned (fun e => xn (ix2 i e)) (fun e => co (ix2 i e)) (fun e => si (ix2 i e)) D * Ideal.ofBits .f32 1035273459#32 := by
  pointwise [k0_pay17, k0_pay13, k0_pay14, k0_pay15, k0_pay16]
  exact congrArg (fun z : EReal => (xn (ix2 i D) * co (ix2 i D) + z * si (ix2 i D)) * Ideal.ofBits .f32 1035273459#32)
    (Rope.select_partner D fun e => xn (ix2 i e))

theorem turn2 (co si xn : FVec Ideal S1024x128 .f32) (i : Fin 1024) (D : Fin 128) :
    k0_pay21 (F := Ideal) co si xn (Scalar.select (Scalar.cmpi .eq 64#32 0#32) 1#32 64#32) k0_pay19 k0_pay20 (ix2 i D)
      = Rope.turned (fun e => xn (ix2 i e)) (fun e => co (ix2 i e)) (fun e => si (ix2 i e)) D * Ideal.ofBits .f32 1035273459#32 := by
  pointwise [k0_pay21, k0_pay19, k0_pay20]
  exact congrArg (fun z : EReal => (xn (ix2 i D) * co (ix2 i D) + z * si (ix2 i D)) * Ideal.ofBits .f32 1035273459#32)
    (Rope.select_partner D fun e => xn (ix2 i e))

theorem turn3 (co si xn : FVec Ideal S1024x128 .f32) (i : Fin 1024) (D : Fin 128) :
    k0_pay1 (F := Ideal) co si xn k0_pay23 k0_pay24 k0_pay25 (ix2 i D)
      = Rope.turned (fun e => xn (ix2 i e)) (fun e => co (ix2 i e)) (fun e => si (ix2 i e)) D * Ideal.ofBits .f32 1035273459#32 := by
  pointwise [k0_pay1, k0_pay23, k0_pay24, k0_pay25]
  exact congrArg (fun z : EReal => (xn (ix2 i D) * co (ix2 i D) + z * si (ix2 i D)) * Ideal.ofBits .f32 1035273459#32)
    (Rope.select_partner D fun e => xn (ix2 i e))

theorem normed0 (x : Vec Ideal S1024x4096 .bf16) (w : Vec Ideal S4096x512 .bf16) (g : Vec Ideal S1x128 .f32) (i : Fin 1024) (D : Fin 128) :
    k0_pay7 (F := Ideal) x w g (ix2 i D)
      = Rope.normed (fun e => k0_pay3 (F := Ideal) x w (ix2 i (⟨0 + e.val, by omega⟩ : Fin 512))) (fun e => g (ix2 (0 : Fin 1) e)) D := by
  have e0 : ∀ e : Fin 128, (⟨0 + e.val, by omega⟩ : Fin 512) = ⟨e.val, by omega⟩ := fun e => Fin.ext (Nat.zero_add _)
  rw [funext fun e => congrArg (fun f => k0_pay3 (F := Ideal) x w (ix2 i f)) (e0 e)]
  pointwise [k0_pay7, k0_pay6]
  rfl

theorem normed1 (y : FVec Ideal S1024x512 .f32) (g : Vec Ideal S1x128 .f32) (i : Fin 1024) (D : Fin 128) :
    k0_pay12 (F := Ideal) y (k0_pay6 (F := Ideal) g) (ix2 i D)
      = Rope.normed (fun e => y (ix2 i (⟨128 + e.val, by omega⟩ : Fin 512))) (fun e => g (ix2 (0 : Fin 1) e)) D := by
  pointwise [k0_pay12, k0_pay6]
  rfl

theorem normed2 (y : FVec Ideal S1024x512 .f32) (g : Vec Ideal S1x128 .f32) (i : Fin 1024) (D : Fin 128) :
    k0_pay18 (F := Ideal) y (k0_pay6 (F := Ideal) g) (ix2 i D)
      = Rope.normed (fun e => y (ix2 i (⟨256 + e.val, by omega⟩ : Fin 512))) (fun e => g (ix2 (0 : Fin 1) e)) D := by
  pointwise [k0_pay18, k0_pay6]
  rfl

theorem normed3 (y : FVec Ideal S1024x512 .f32) (g : Vec Ideal S1x128 .f32) (i : Fin 1024) (D : Fin 128) :
    k0_pay22 (F := Ideal) y (k0_pay6 (F := Ideal) g) (ix2 i D)
      = Rope.normed (fun e => y (ix2 i (⟨384 + e.val, by omega⟩ : Fin 512))) (fun e => g (ix2 (0 : Fin 1) e)) D := by
  pointwise [k0_pay22, k0_pay6]
  rfl

/-- A turned head is the block's element at column `j`, when the head starts at column `o` of the block. -/
theorem element_of (x : Vec Ideal S1024x4096 .bf16) (w : Vec Ideal S4096x512 .bf16) (g : Vec Ideal S1x128 .f32) (co si : Vec Ideal S1024x128 .f32)
    (i i' : Fin 1024) (j : Fin 512) (o : Nat) (D : Fin 128) (hi : i.val = i'.val) (hj : j.val = o + D.val) (ho : o % 128 = 0)
    (hlt : ∀ e : Fin 128, o + e.val < 512) (xn : FVec Ideal S1024x128 .f32)
    (hxn : ∀ D : Fin 128, xn (ix2 i' D)
      = Rope.normed (fun e => k0_pay3 (F := Ideal) x w (ix2 i' (⟨o + e.val, hlt e⟩ : Fin 512))) (fun e => g (ix2 (0 : Fin 1) e)) D) :
    Rope.turned (fun e => xn (ix2 i' e)) (fun e => k0_pay4 (F := Ideal) co (ix2 i' e)) (fun e => k0_pay5 (F := Ideal) si (ix2 i' e)) D
      * Ideal.ofBits .f32 1035273459#32 = element x w g co si i j := by
  obtain rfl : i = i' := Fin.ext hi
  have hlt' := D.isLt
  have ec : ∀ e : Fin 128, k0_pay4 (F := Ideal) co (ix2 i e) = co (ix2 i e) := fun e => by pointwise [k0_pay4]
  have es : ∀ e : Fin 128, k0_pay5 (F := Ideal) si (ix2 i e) = si (ix2 i e) := fun e => by pointwise [k0_pay5]
  have eD : (⟨j.val % 128, by omega⟩ : Fin 128) = D := Fin.ext (show j.val % 128 = D.val by omega)
  have eo : ∀ e : Fin 128, (⟨j.val / 128 * 128 + e.val, by omega⟩ : Fin 512) = ⟨o + e.val, hlt e⟩ := fun e =>
    Fin.ext (show j.val / 128 * 128 + e.val = o + e.val by omega)
  unfold element
  rw [funext ec, funext es, funext hxn, eD, funext fun e => congrArg (fun f => k0_pay3 (F := Ideal) x w (ix2 i f)) (eo e)]

/-- Head 0 of a block. -/
theorem head0 (x : Vec Ideal S1024x4096 .bf16) (w : Vec Ideal S4096x512 .bf16) (g : Vec Ideal S1x128 .f32) (co si : Vec Ideal S1024x128 .f32)
    (i' : Fin 1024) (D : Fin 128) (i : Fin 1024) (j : Fin 512) (hi : i.val = i'.val) (hj : j.val = D.val) :
    k0_pay11 (F := Ideal) (k0_pay4 (F := Ideal) co) (k0_pay5 (F := Ideal) si) (k0_pay7 (F := Ideal) x w g)
      (Scalar.select (Scalar.cmpi .eq 64#32 0#32) 1#32 64#32) k0_pay8 k0_pay9 k0_pay10
      (Scalar.cmpi .slt (Scalar.select (Scalar.cmpi .eq 64#32 0#32) 1#32 64#32) 0#32) (ix2 i' D) = element x w g co si i j :=
  (turn0 _ _ _ i' D).trans (element_of x w g co si i i' j 0 D hi (by omega) (by decide) (fun e => by omega) _ fun e => normed0 _ _ _ _ _)

/-- Head 1 of a block. -/
theorem head1 (x : Vec Ideal S1024x4096 .bf16) (w : Vec Ideal S4096x512 .bf16) (g : Vec Ideal S1x128 .f32) (co si : Vec Ideal S1024x128 .f32)
    (i' : Fin 1024) (D : Fin 128) (i : Fin 1024) (j : Fin 512) (hi : i.val = i'.val) (hj : j.val = 128 + D.val) :
    k0_pay17 (F := Ideal) (k0_pay4 (F := Ideal) co) (k0_pay5 (F := Ideal) si)
      (k0_pay12 (F := Ideal) (k0_pay3 (F := Ideal) x w) (k0_pay6 (F := Ideal) g))
      (Scalar.select (Scalar.cmpi .eq 64#32 0#32) 1#32 64#32) k0_pay13 k0_pay14 k0_pay15 k0_pay16 (ix2 i' D) = element x w g co si i j :=
  (turn1 _ _ _ i' D).trans (element_of x w g co si i i' j 128 D hi (by omega) (by decide) (fun e => by omega) _ fun e => normed1 _ _ _ _)

/-- Head 2 of a block. -/
theorem head2 (x : Vec Ideal S1024x4096 .bf16) (w : Vec Ideal S4096x512 .bf16) (g : Vec Ideal S1x128 .f32) (co si : Vec Ideal S1024x128 .f32)
    (i' : Fin 1024) (D : Fin 128) (i : Fin 1024) (j : Fin 512) (hi : i.val = i'.val) (hj : j.val = 256 + D.val) :
    k0_pay21 (F := Ideal) (k0_pay4 (F := Ideal) co) (k0_pay5 (F := Ideal) si)
      (k0_pay18 (F := Ideal) (k0_pay3 (F := Ideal) x w) (k0_pay6 (F := Ideal) g))
      (Scalar.select (Scalar.cmpi .eq 64#32 0#32) 1#32 64#32) k0_pay19 k0_pay20 (ix2 i' D) = element x w g co si i j :=
  (turn2 _ _ _ i' D).trans (element_of x w g co si i i' j 256 D hi (by omega) (by decide) (fun e => by omega) _ fun e => normed2 _ _ _ _)

/-- Head 3 of a block. -/
theorem head3 (x : Vec Ideal S1024x4096 .bf16) (w : Vec Ideal S4096x512 .bf16) (g : Vec Ideal S1x128 .f32) (co si : Vec Ideal S1024x128 .f32)
    (i' : Fin 1024) (D : Fin 128) (i : Fin 1024) (j : Fin 512) (hi : i.val = i'.val) (hj : j.val = 384 + D.val) :
    k0_pay1 (F := Ideal) (k0_pay4 (F := Ideal) co) (k0_pay5 (F := Ideal) si)
      (k0_pay22 (F := Ideal) (k0_pay3 (F := Ideal) x w) (k0_pay6 (F := Ideal) g))
      k0_pay23 k0_pay24 k0_pay25 (ix2 i' D) = element x w g co si i j :=
  (turn3 _ _ _ i' D).trans (element_of x w g co si i i' j 384 D hi (by omega) (by decide) (fun e => by omega) _ fun e => normed3 _ _ _ _)

variable (m : (ℓ : Loc nD τ sig) → Buf (Elt Ideal) ℓ)

/-- The blocks of point `t`: rows `t % 17`, columns `t / 17`; the tables' rows are the latent rows' places in their sequence, or
    the ones behind the sequence for the last rows, which are the context's. -/
theorem idx : ∀ t : Fin cfg0.N, win0_0.index t = ![t.val % 17, 0] ∧ win0_1.index t = ![0, 0, t.val / 17]
    ∧ win0_2.index t = ![0, 0] ∧ win0_3.index t = ![if t.val % 17 < 16 then t.val % 17 % 4 else 4, 0]
    ∧ win0_4.index t = ![if t.val % 17 < 16 then t.val % 17 % 4 else 4, 0] ∧ win0_5.index t = ![t.val % 17, t.val / 17] :=
  (by decide +kernel : ∀ t : Fin grid0.N, _)

/-- What point `t` stores, over the weights' block of its run's first point. -/
theorem stored (c : Dev nD) (t : Fin cfg0.N) :
    (outsAt0 m c t.val t.isLt).1 = fun y => element (iblk m c 0 t)
      (k0_pay2 (F := Ideal) (iblk m c 1 ⟨17 * (t.val / 17), Pipeline.run_start_lt t⟩)) (iblk m c 2 t) (iblk m c 3 t) (iblk m c 4 t)
      (y 0) (y 1) :=
  Resident.stored (fun n h => outsAt0 m c n h) 17
    (fun t w => fun y => element (iblk m c 0 t) w (iblk m c 2 t) (iblk m c 3 t) (iblk m c 4 t) (y 0) (y 1))
    (fun t => k0_pay2 (F := Ideal) (iblk m c 1 t))
    (fun t h => by
      rw [outsAt0_A m c t h]
      refine Prod.ext (funext fun y => ?_) (funext fun y => ?_)
      · frame_out
        canon_tiles x h
        · rw [eq_ix2 x]
          exact head3 _ _ _ _ _ (x 0) (x 1) (y 0) (y 1) h0 h1
        · rw [eq_ix2 x]
          exact head2 _ _ _ _ _ (x 0) (x 1) (y 0) (y 1) h0 h1
        · rw [eq_ix2 x]
          exact head1 _ _ _ _ _ (x 0) (x 1) (y 0) (y 1) h0 h1
        · rw [eq_ix2 x]
          exact head0 _ _ _ _ _ (x 0) (x 1) (y 0) (y 1) h0 (by omega)
      · frame_out)
    (fun t h => by
      rw [outsAt0_B m c t h]
      refine Prod.ext (funext fun y => ?_) (funext fun y => ?_)
      · frame_out
        rw [read_unread_whole]
        canon_tiles x h
        · rw [eq_ix2 x]
          exact head3 _ _ _ _ _ (x 0) (x 1) (y 0) (y 1) h0 h1
        · rw [eq_ix2 x]
          exact head2 _ _ _ _ _ (x 0) (x 1) (y 0) (y 1) h0 h1
        · rw [eq_ix2 x]
          exact head1 _ _ _ _ _ (x 0) (x 1) (y 0) (y 1) h0 h1
        · rw [eq_ix2 x]
          exact head0 _ _ _ _ _ (x 0) (x 1) (y 0) (y 1) h0 (by omega)
      · rfl)
    t

/-- The cosines' table the kernel reads, built by the host before the call. -/
theorem V_cos (c : Dev nD) : V m c main_v35
    = concatenate S5120x128 0
      [⟨S4096x128, concatenate S4096x128 1 [⟨S4096x32, Cert.Reference11Ideal.Read.val_main_v48 (F := Ideal)⟩, ⟨S4096x32, Cert.Reference11Ideal.Read.val_main_v48 (F := Ideal)⟩,
        ⟨S4096x32, Cert.Reference11Ideal.Read.val_main_v50 (F := Ideal)⟩, ⟨S4096x32, Cert.Reference11Ideal.Read.val_main_v50 (F := Ideal)⟩] concatenates_S4096x32_S4096x32_S4096x32_S4096x32_S4096x128_d1⟩,
      ⟨S1024x128, broadcastInDim S1024x128 ![] bcast_S_S1024x128 (constant (F := Ideal) S_ .f32 0x3F800000#32)⟩] concatenates_S4096x128_S1024x128_S5120x128_d0 := by
  unfold V hostOps0
  after_results
  rfl

/-- The sines' table. -/
theorem V_sin (c : Dev nD) : V m c main_v37
    = concatenate S5120x128 0
      [⟨S4096x128, concatenate S4096x128 1 [⟨S4096x32, Host.negf (Cert.Reference11Ideal.Read.val_main_v49 (F := Ideal))⟩, ⟨S4096x32, Cert.Reference11Ideal.Read.val_main_v49 (F := Ideal)⟩,
        ⟨S4096x32, Host.negf (Cert.Reference11Ideal.Read.val_main_v51 (F := Ideal))⟩, ⟨S4096x32, Cert.Reference11Ideal.Read.val_main_v51 (F := Ideal)⟩] concatenates_S4096x32_S4096x32_S4096x32_S4096x32_S4096x128_d1⟩,
      ⟨S1024x128, broadcastInDim S1024x128 ![] bcast_S_S1024x128 (constant (F := Ideal) S_ .f32 0x00000000#32)⟩] concatenates_S4096x128_S1024x128_S5120x128_d0 := by
  unfold V hostOps0
  after_results
  rfl

/-- The gain, as one row. -/
theorem V_gain (c : Dev nD) : V m c main_v38
    = shapeCast S1x128 (m ((c : Thread nD τ).loc main_arg2)) shapeCasts_S128_S1x128 := by
  unfold V hostOps0
  after_results
  rfl

/-- The entries of the cosines' block at a point: the row's cosines. -/
theorem cos_entry (c : Dev nD) (t : Fin cfg0.N) (i : Fin 1024) (R : Fin 17408) (hR : R.val = t.val % 17 * 1024 + i.val) (e : Fin 128) :
    (show Vec Ideal S1024x128 .f32 from iblk m c 3 t) (ix2 i e) = Rope.cosRow R e := by
  have hp : (if t.val % 17 < 16 then t.val % 17 % 4 else 4) * 1024 + i.val < 5120 := by split <;> omega
  have hb : (show Vec Ideal S1024x128 .f32 from iblk m c 3 t) (ix2 i e)
      = (V m c main_v35 : FVec Ideal S5120x128 .f32) (ix2 (⟨(if t.val % 17 < 16 then t.val % 17 % 4 else 4) * 1024 + i.val, hp⟩ : Fin 5120) e) := by
    show iblk m c 3 t (ix2 i e) = _
    blk_ext [iblk, idx t]
  rw [hb, V_cos, ← Rope.cosRow_table R e ⟨(if t.val % 17 < 16 then t.val % 17 % 4 else 4) * 1024 + i.val, hp⟩
    (fun h => by show (if t.val % 17 < 16 then t.val % 17 % 4 else 4) * 1024 + i.val = _; rw [if_pos (by omega)]; omega)
    (fun h => by show 4096 ≤ (if t.val % 17 < 16 then t.val % 17 % 4 else 4) * 1024 + i.val; rw [if_neg (by omega)]; omega)]
  pointwise []

/-- The entries of the sines' block at a point: the row's sines. -/
theorem sin_entry (c : Dev nD) (t : Fin cfg0.N) (i : Fin 1024) (R : Fin 17408) (hR : R.val = t.val % 17 * 1024 + i.val) (e : Fin 128) :
    (show Vec Ideal S1024x128 .f32 from iblk m c 4 t) (ix2 i e) = Rope.sinRow R e := by
  have hp : (if t.val % 17 < 16 then t.val % 17 % 4 else 4) * 1024 + i.val < 5120 := by split <;> omega
  have hb : (show Vec Ideal S1024x128 .f32 from iblk m c 4 t) (ix2 i e)
      = (V m c main_v37 : FVec Ideal S5120x128 .f32) (ix2 (⟨(if t.val % 17 < 16 then t.val % 17 % 4 else 4) * 1024 + i.val, hp⟩ : Fin 5120) e) := by
    show iblk m c 4 t (ix2 i e) = _
    blk_ext [iblk, idx t]
  rw [hb, V_sin, ← Rope.sinRow_table R e ⟨(if t.val % 17 < 16 then t.val % 17 % 4 else 4) * 1024 + i.val, hp⟩
    (fun h => by show (if t.val % 17 < 16 then t.val % 17 % 4 else 4) * 1024 + i.val = _; rw [if_pos (by omega)]; omega)
    (fun h => by show 4096 ≤ (if t.val % 17 < 16 then t.val % 17 % 4 else 4) * 1024 + i.val; rw [if_neg (by omega)]; omega)]
  pointwise []

/-- The entries of the gain's block. -/
theorem gain_entry (c : Dev nD) (t : Fin cfg0.N) (e : Fin 128) :
    (show Vec Ideal S1x128 .f32 from iblk m c 2 t) (ix2 (0 : Fin 1) e) = m ((c : Thread nD τ).loc main_arg2) (ix1 e) := by
  have hb : (show Vec Ideal S1x128 .f32 from iblk m c 2 t) (ix2 (0 : Fin 1) e)
      = (V m c main_v38 : FVec Ideal S1x128 .f32) (ix2 (0 : Fin 1) e) := by
    show iblk m c 2 t (ix2 0 e) = _
    blk_ext [iblk, idx t]
  rw [hb, V_gain]
  pointwise []

/-- An element of a block, over the entries of the arrays. -/
theorem element_eq (x : Vec Ideal S1024x4096 .bf16) (w : Vec Ideal S1x4096x512 .f32) (g : Vec Ideal S1x128 .f32)
    (co si : Vec Ideal S1024x128 .f32) (i : Fin 1024) (j : Fin 512) (row : Fin 4096 → EReal) (col : Fin 128 → Fin 4096 → EReal)
    (gain cos sin : Fin 128 → EReal) (D : Fin 128) (hx : ∀ k, x (ix2 i k) = row k)
    (hw : ∀ e k, w (ix3 (0 : Fin 1) k (⟨j.val / 128 * 128 + e.val, by omega⟩ : Fin 512)) = col e k)
    (hg : ∀ e, g (ix2 (0 : Fin 1) e) = gain e) (hco : ∀ e, co (ix2 i e) = cos e) (hsi : ∀ e, si (ix2 i e) = sin e)
    (hD : j.val % 128 = D.val) :
    element x (k0_pay2 (F := Ideal) w) g co si i j
      = Rope.turned (Rope.normed (fun e => ∑ k : Fin 4096, row k * col e k) gain) cos sin D * Ideal.ofBits .f32 1035273459#32 := by
  have hp : ∀ e : Fin 128, k0_pay3 (F := Ideal) x (k0_pay2 (F := Ideal) w) (ix2 i (⟨j.val / 128 * 128 + e.val, by omega⟩ : Fin 512))
      = ∑ k : Fin 4096, row k * col e k := fun e => by
    have e1 : k0_pay3 (F := Ideal) x (k0_pay2 (F := Ideal) w) (ix2 i (⟨j.val / 128 * 128 + e.val, by omega⟩ : Fin 512))
        = (∑ k : Fin 4096, x (ix2 i k) * w (ix3 (0 : Fin 1) k (⟨j.val / 128 * 128 + e.val, by omega⟩ : Fin 512)) : EReal) := by
      pointwise [k0_pay3, k0_pay2]
    rw [e1]
    exact Finset.sum_congr rfl fun k _ => by rw [hx k, hw e k]
  unfold element
  rw [funext hp, funext hg, funext hco, funext hsi, show (⟨j.val % 128, by omega⟩ : Fin 128) = D from Fin.ext hD]

/-- What point `t` stores at row `i` and column `j` of its block is the reference's element there. -/
theorem point (c : Dev nD) (t : Fin cfg0.N) (i : Fin 1024) (j : Fin 512) (R : Fin 17408) (C : Fin 4096)
    (hR : R.val = t.val % 17 * 1024 + i.val) (hC : C.val = t.val / 17 * 512 + j.val) :
    (outsAt0 m c t.val t.isLt).1 (ix2 i j)
      = Cert.Reference11Ideal.Read.val_main_v91 (F := Ideal) (m ((c : Thread nD τ).loc main_arg0)) (m ((c : Thread nD τ).loc main_arg1))
          (m ((c : Thread nD τ).loc main_arg2)) (ix2 R C) := by
  have hw : 17 * (t.val / 17) / 17 = t.val / 17 := by omega
  rw [stored, Cert.Reference11Ideal.AttnQ.result_apply _ _ _ R C ⟨C.val / 128, by omega⟩ ⟨C.val % 128, by omega⟩
    (by show C.val = C.val / 128 * 128 + C.val % 128; omega)]
  refine element_eq _ _ _ _ _ i j _ _ _ _ _ _ (fun k => ?_) (fun e k => ?_) (fun e => gain_entry m c t e)
    (fun e => cos_entry m c t i R hR e) (fun e => sin_entry m c t i R hR e) (by show j.val % 128 = C.val % 128; omega)
  · show iblk m c 0 t (ix2 i k) = _
    blk_ext [iblk, V, idx t]
  · show iblk m c 1 ⟨17 * (t.val / 17), _⟩ (ix3 0 k ⟨j.val / 128 * 128 + e.val, _⟩) = _
    blk_ext [iblk, V, idx ⟨17 * (t.val / 17), Pipeline.run_start_lt t⟩]

/-- THE RESULT ARRAY: after the run it is the reference's value of the arguments. -/
theorem final (c : Dev nD) :
    (dats m 0 c).arrAt 5 cfg0.N
      = Cert.Reference11Ideal.Read.val_main_v91 (F := Ideal) (m ((c : Thread nD τ).loc main_arg0)) (m ((c : Thread nD τ).loc main_arg1))
          (m ((c : Thread nD τ).loc main_arg2)) := by
  refine (dats m 0 c).arrAt_eq_of_covers 5 _ (by decide +kernel) fun t hf y => ?_
  have ht : t.val < 136 := t.isLt
  have h0 : (y 0).val < 1024 := (y 0).isLt
  have h1 : (y 1).val < 512 := (y 1).isLt
  blk_simp
  rw [after0_5, eq_ix2 y]
  refine (point m c t _ _ ⟨t.val % 17 * 1024 + (y 0).val, ?_⟩ ⟨t.val / 17 * 512 + (y 1).val, ?_⟩ rfl rfl).trans (congrArg _ ?_)
  · omega
  · omega
  · blk_ext [idx t]

end Cert.Kernel11Ideal.AttnQ

namespace Cert.AttnQ

/-- The printed kernel runs, keeps its arguments and ends quiescent. -/
theorem frame_kernel : Cert.quiescent_Kernel11 := fun m ρ _ => Cert.Kernel11.Gen.frame m ρ

/-- So does the idealized kernel. -/
theorem frame_ideal : Cert.quiescent_Kernel11Ideal := fun m ρ _ => Cert.Kernel11Ideal.Gen.frame m ρ

/-- So does the reference, a host program without semaphores. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- THE VALUE: over the extended reals the kernel and the reference leave the same array, for every memory. -/
theorem algebraic : Cert.algebraic_Kernel11Ideal_Reference11Ideal := by
  intro m ρ m' ρ' _ hagree
  refine ⟨fun c => Cert.Reference11Ideal.Read.val_main_v91 (F := Ideal)
    (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1))
    (m ((c.tc : Thread Cert.Kernel11Ideal.nD Cert.Kernel11Ideal.τ).loc Cert.Kernel11Ideal.main_arg2)), ?_, ?_⟩
  · exact (θ_run Cert.Kernel11Ideal.defs _ _).mono
      (fun r h c => ⟨((h.1 c).1 5).trans (Cert.Kernel11Ideal.AttnQ.final m c), h.2 c⟩)
      (θ_run_and (Cert.Kernel11Ideal.Gen.run_main m ρ) (Cert.Kernel11Ideal.Gen.unchanged m ρ))
  · refine (θ_run Cert.Reference11Ideal.defs _ _).mono (fun r h c => ⟨?_, (h c).2⟩)
      (Cert.Reference11Ideal.Value.run (F := Ideal) m' ρ')
    rw [(h c).1, Cert.Reference11Ideal.Read.val_main_v91_eq, (hagree c).1, (hagree c).2.1, (hagree c).2.2]

end Cert.AttnQ

end
-- ==== Proof.AttnKV.lean ====
/-
  The keys and values of the attention (`Kernel12` / `Kernel12Ideal` against `Reference12Ideal`): the first result is the product
  by the keys' columns, head by head normalised, scaled by the gain and rotated on latent rows; the second the product by the
  values' columns; both are the reference's values; then the claims.
-/
module

public import proofs.«01_k».proof.Defs
public import proofs.«01_k».proof.Proof.Resident
public import proofs.«01_k».proof.Proof.Rope
public import proofs.«01_k».proof.Proof.Gen.Kernel12.Frame
public import proofs.«01_k».proof.Proof.Gen.Kernel12Ideal.Frame
public import proofs.«01_k».proof.Proof.Gen.Reference12Ideal.Read
public import Idealize.ShloMosaic.Lib.Claim
public import Idealize.ShloMosaic.Lib.Pointwise
public import Idealize.ShloMosaic.Lib.Pipeline.ValueKit

@[expose] public section

noncomputable section

open Idealize.ShloMosaic Idealize.SL.Sem

namespace Cert.Reference12Ideal.AttnKV

open Cert.Reference12Ideal Cert.Reference12Ideal.Gen Cert.Reference12Ideal.Read

/-- An element of a head: the row by the weights' column. -/
theorem product_apply (h : FVec Ideal S17408x4096 .bf16) (w : FVec Ideal S1x4096x6144 .f32) (R : Fin 17408) (H : Fin 8) (D : Fin 128) :
    val_main_v6 (F := Ideal) h w (ix3 R H D)
      = (∑ k : Fin 4096, h (ix2 R k) * w (ix3 (0 : Fin 1) k (⟨4096 + (H.val * 128 + D.val), by omega⟩ : Fin 6144)) : EReal) := by
  pointwise [val_main_v6, val_main_v4, val_main_v2, val_main_v1, val_main_v0]

/-- A head's row normalised. -/
theorem normed_apply (h : FVec Ideal S17408x4096 .bf16) (w : FVec Ideal S1x4096x6144 .f32) (g : FVec Ideal S128 .f32)
    (R : Fin 17408) (H : Fin 8) (D : Fin 128) :
    val_main_v19 (F := Ideal) h w g (ix3 R H D)
      = Rope.normed (fun e => val_main_v6 (F := Ideal) h w (ix3 R H e)) (fun e => g (ix1 e)) D := by
  pointwise [val_main_v19, val_main_v18, val_main_v17, val_main_v16, val_main_v15, val_main_v14, val_main_v13, val_main_v12,
    val_main_v11, val_main_v10, val_main_v9, val_main_v8, val_main_v7, val_main_cst, val_main_cst_0, val_main_cst_1]
  rfl

/-- A normalised element, by the values of its indices. -/
theorem normed_at (h : FVec Ideal S17408x4096 .bf16) (w : FVec Ideal S1x4096x6144 .f32) (g : FVec Ideal S128 .f32)
    {R R' : Fin 17408} {H H' : Fin 8} {D D' : Fin 128} (hR : R.val = R'.val) (hH : H.val = H'.val) (hD : D.val = D'.val) :
    val_main_v19 (F := Ideal) h w g (ix3 R H D) = val_main_v19 (F := Ideal) h w g (ix3 R' H' D') := by
  rw [Fin.ext hR, Fin.ext hH, Fin.ext hD]

/-- The first result's element: the head's row normalised and turned. -/
theorem result_apply (h : FVec Ideal S17408x4096 .bf16) (w : FVec Ideal S1x4096x6144 .f32) (g : FVec Ideal S128 .f32)
    (R : Fin 17408) (C : Fin 1024) (H : Fin 8) (D : Fin 128) (hC : C.val = H.val * 128 + D.val) :
    val_main_v89 (F := Ideal) h w g (ix2 R C)
      = Rope.turned (Rope.normed (fun e => ∑ k : Fin 4096, h (ix2 R k) * w (ix3 (0 : Fin 1) k (⟨4096 + (H.val * 128 + e.val), by omega⟩ : Fin 6144)))
          (fun e => g (ix1 e))) (Rope.cosRow R) (Rope.sinRow R) D := by
  have e : ∀ D : Fin 128, Rope.normed (fun e => ∑ k : Fin 4096, h (ix2 R k) * w (ix3 (0 : Fin 1) k (⟨4096 + (H.val * 128 + e.val), by omega⟩ : Fin 6144)))
      (fun e => g (ix1 e)) D = val_main_v19 (F := Ideal) h w g (ix3 R H D) := fun D => by
    rw [normed_apply]
    exact congrArg (fun y => Rope.normed y (fun e => g (ix1 e)) D) (funext fun e => (product_apply h w R H e).symm)
  rw [show Rope.normed _ _ = fun D => val_main_v19 (F := Ideal) h w g (ix3 R H D) from funext e]
  pointwise [val_main_v89, val_main_v88, val_main_v87, val_main_v86, val_main_v85, val_main_v84, val_main_v83, val_main_v82, val_main_v81, val_main_v80, val_main_v79, val_main_v78, val_main_v77,
    val_main_v76, val_main_v75, val_main_v74, val_main_v73, val_main_v72, val_main_v71, val_main_v70, val_main_v69, val_main_v68, val_main_v67, val_main_v66, val_main_v65, val_main_v64,
    val_main_v63, val_main_v62, val_main_v61, val_main_v60, val_main_v59, val_main_v58, val_main_v57, val_main_v56, val_main_v55, val_main_v54, val_main_v53, val_main_v52, val_main_v21,
    val_main_v20]
  by_cases hR : R.val < 16384
  · rw [dif_pos hR]
    by_cases c1 : C.val % 128 < 64
    · rw [dif_pos c1]
      by_cases c2 : C.val % 128 < 32
      · rw [dif_pos c2]
        refine Eq.trans ?_ (Rope.turned_first _ R D hR (by omega) ⟨R.val % 4096, by omega⟩ rfl ⟨C.val % 128, c2⟩
          (by show C.val % 128 = _; omega) ⟨D.val + 32, by omega⟩ rfl).symm
        exact congrArg₂ (fun a b : EReal => a * val_main_v48 (F := Ideal) _ - b * val_main_v49 (F := Ideal) _)
          (normed_at h w g (by show R.val / 4096 * 4096 + R.val % 4096 = _; omega) (by show C.val / 128 = _; omega)
            (by show C.val % 128 = _; omega))
          (normed_at h w g (by show R.val / 4096 * 4096 + R.val % 4096 = _; omega) (by show C.val / 128 = _; omega)
            (by show 32 + C.val % 128 = D.val + 32; omega))
      · rw [dif_neg c2]
        refine Eq.trans ?_ (Rope.turned_second _ R D hR (by omega) (by omega) ⟨R.val % 4096, by omega⟩ rfl ⟨C.val % 128 - 32, by omega⟩
          (by show C.val % 128 - 32 = _; omega) ⟨D.val - 32, by omega⟩ rfl).symm
        exact congrArg₂ (fun a b : EReal => a * val_main_v48 (F := Ideal) _ + b * val_main_v49 (F := Ideal) _)
          (normed_at h w g (by show R.val / 4096 * 4096 + R.val % 4096 = _; omega) (by show C.val / 128 = _; omega)
            (by show 32 + (C.val % 128 - 32) = _; omega))
          (normed_at h w g (by show R.val / 4096 * 4096 + R.val % 4096 = _; omega) (by show C.val / 128 = _; omega)
            (by show C.val % 128 - 32 = D.val - 32; omega))
    · rw [dif_neg c1]
      by_cases c2 : C.val % 128 - 64 < 32
      · rw [dif_pos c2]
        refine Eq.trans ?_ (Rope.turned_third _ R D hR (by omega) (by omega) ⟨R.val % 4096, by omega⟩ rfl ⟨C.val % 128 - 64, c2⟩
          (by show C.val % 128 - 64 = _; omega) ⟨D.val + 32, by omega⟩ rfl).symm
        exact congrArg₂ (fun a b : EReal => a * val_main_v50 (F := Ideal) _ - b * val_main_v51 (F := Ideal) _)
          (normed_at h w g (by show R.val / 4096 * 4096 + R.val % 4096 = _; omega) (by show C.val / 128 = _; omega)
            (by show 64 + (C.val % 128 - 64) = _; omega))
          (normed_at h w g (by show R.val / 4096 * 4096 + R.val % 4096 = _; omega) (by show C.val / 128 = _; omega)
            (by show 64 + (32 + (C.val % 128 - 64)) = D.val + 32; omega))
      · rw [dif_neg c2]
        refine Eq.trans ?_ (Rope.turned_fourth _ R D hR (by omega) ⟨R.val % 4096, by omega⟩ rfl ⟨C.val % 128 - 64 - 32, by omega⟩
          (by show C.val % 128 - 64 - 32 = _; omega) ⟨D.val - 32, by omega⟩ rfl).symm
        exact congrArg₂ (fun a b : EReal => a * val_main_v50 (F := Ideal) _ + b * val_main_v51 (F := Ideal) _)
          (normed_at h w g (by show R.val / 4096 * 4096 + R.val % 4096 = _; omega) (by show C.val / 128 = _; omega)
            (by show 64 + (32 + (C.val % 128 - 64 - 32)) = _; omega))
          (normed_at h w g (by show R.val / 4096 * 4096 + R.val % 4096 = _; omega) (by show C.val / 128 = _; omega)
            (by show 64 + (C.val % 128 - 64 - 32) = D.val - 32; omega))
  · rw [dif_neg hR, Rope.turned_context _ R D hR]
    exact normed_at h w g (by show 16384 + (R.val - 16384) = _; omega) (by show C.val / 128 = _; omega) (by show C.val % 128 = _; omega)

/-- The second result's element: the row by a column of the values' weights. -/
theorem value_apply (h : FVec Ideal S17408x4096 .bf16) (w : FVec Ideal S1x4096x6144 .f32) (R : Fin 17408) (C : Fin 1024) :
    val_main_v90 (F := Ideal) h w (ix2 R C)
      = (∑ k : Fin 4096, h (ix2 R k) * w (ix3 (0 : Fin 1) k (⟨5120 + C.val, by omega⟩ : Fin 6144)) : EReal) := by
  pointwise [val_main_v90, val_main_v5, val_main_v2, val_main_v1, val_main_v0]

end Cert.Reference12Ideal.AttnKV

namespace Cert.Kernel12Ideal.AttnKV

open Cert.Kernel12Ideal Cert.Kernel12Ideal.Gen TcCoe

/-- One element of a block: the head of column `j` normalised, turned, over the entries of the point's blocks. -/
def element (x : Vec Ideal S1024x4096 .bf16) (w : Vec Ideal S4096x256 .bf16) (g : Vec Ideal S1x128 .f32) (co si : Vec Ideal S1024x128 .f32)
    (i : Fin 1024) (j : Fin 256) : EReal :=
  Rope.turned (Rope.normed (fun e => k0_pay5 (F := Ideal) x w (ix2 i (⟨j.val / 128 * 128 + e.val, by omega⟩ : Fin 256)))
    (fun e => g (ix2 (0 : Fin 1) e))) (fun e => co (ix2 i e)) (fun e => si (ix2 i e)) ⟨j.val % 128, by omega⟩

theorem turn0 (co si xn : FVec Ideal S1024x128 .f32) (i : Fin 1024) (D : Fin 128) :
    k0_pay12 (F := Ideal) co si xn (Scalar.select (Scalar.cmpi .eq 64#32 0#32) 1#32 64#32) k0_pay11 (ix2 i D)
      = Rope.turned (fun e => xn (ix2 i e)) (fun e => co (ix2 i e)) (fun e => si (ix2 i e)) D := by
  pointwise [k0_pay12, k0_pay11]
  exact congrArg (fun z : EReal => xn (ix2 i D) * co (ix2 i D) + z * si (ix2 i D)) (Rope.select_partner D fun e => xn (ix2 i e))

theorem turn1 (co si xn : FVec Ideal S1024x128 .f32) (i : Fin 1024) (D : Fin 128) :
    k0_pay1 (F := Ideal) co si xn (Scalar.select (Scalar.cmpi .eq 64#32 0#32) 1#32 64#32) k0_pay14 k0_pay15 k0_pay16 (ix2 i D)
      = Rope.turned (fun e => xn (ix2 i e)) (fun e => co (ix2 i e)) (fun e => si (ix2 i e)) D := by
  pointwise [k0_pay1, k0_pay14, k0_pay15, k0_pay16]
  exact congrArg (fun z : EReal => xn (ix2 i D) * co (ix2 i D) + z * si (ix2 i D)) (Rope.select_partner D fun e => xn (ix2 i e))

theorem normed0 (x : Vec Ideal S1024x4096 .bf16) (w : Vec Ideal S4096x256 .bf16) (g : Vec Ideal S1x128 .f32) (i : Fin 1024) (D : Fin 128) :
    k0_pay10 (F := Ideal) x w g (ix2 i D)
      = Rope.normed (fun e => k0_pay5 (F := Ideal) x w (ix2 i (⟨0 + e.val, by omega⟩ : Fin 256))) (fun e => g (ix2 (0 : Fin 1) e)) D := by
  have e0 : ∀ e : Fin 128, (⟨0 + e.val, by omega⟩ : Fin 256) = ⟨e.val, by omega⟩ := fun e => Fin.ext (Nat.zero_add _)
  rw [funext fun e => congrArg (fun f => k0_pay5 (F := Ideal) x w (ix2 i f)) (e0 e)]
  pointwise [k0_pay10, k0_pay9]
  rfl

theorem normed1 (y : FVec Ideal S1024x256 .f32) (g : Vec Ideal S1x128 .f32) (i : Fin 1024) (D : Fin 128) :
    k0_pay13 (F := Ideal) y (k0_pay9 (F := Ideal) g) (ix2 i D)
      = Rope.normed (fun e => y (ix2 i (⟨128 + e.val, by omega⟩ : Fin 256))) (fun e => g (ix2 (0 : Fin 1) e)) D := by
  pointwise [k0_pay13, k0_pay9]
  rfl

/-- A turned head is the block's element at column `j`, when the head starts at column `o` of the block. -/
theorem element_of (x : Vec Ideal S1024x4096 .bf16) (w : Vec Ideal S4096x256 .bf16) (g : Vec Ideal S1x128 .f32) (co si : Vec Ideal S1024x128 .f32)
    (i i' : Fin 1024) (j : Fin 256) (o : Nat) (D : Fin 128) (hi : i.val = i'.val) (hj : j.val = o + D.val) (ho : o % 128 = 0)
    (hlt : ∀ e : Fin 128, o + e.val < 256) (xn : FVec Ideal S1024x128 .f32)
    (hxn : ∀ D : Fin 128, xn (ix2 i' D)
      = Rope.normed (fun e => k0_pay5 (F := Ideal) x w (ix2 i' (⟨o + e.val, hlt e⟩ : Fin 256))) (fun e => g (ix2 (0 : Fin 1) e)) D) :
    Rope.turned (fun e => xn (ix2 i' e)) (fun e => k0_pay7 (F := Ideal) co (ix2 i' e)) (fun e => k0_pay8 (F := Ideal) si (ix2 i' e)) D
      = element x w g co si i j := by
  obtain rfl : i = i' := Fin.ext hi
  have hlt' := D.isLt
  have ec : ∀ e : Fin 128, k0_pay7 (F := Ideal) co (ix2 i e) = co (ix2 i e) := fun e => by pointwise [k0_pay7]
  have es : ∀ e : Fin 128, k0_pay8 (F := Ideal) si (ix2 i e) = si (ix2 i e) := fun e => by pointwise [k0_pay8]
  have eD : (⟨j.val % 128, by omega⟩ : Fin 128) = D := Fin.ext (show j.val % 128 = D.val by omega)
  have eo : ∀ e : Fin 128, (⟨j.val / 128 * 128 + e.val, by omega⟩ : Fin 256) = ⟨o + e.val, hlt e⟩ := fun e =>
    Fin.ext (show j.val / 128 * 128 + e.val = o + e.val by omega)
  unfold element
  rw [funext ec, funext es, funext hxn, eD, funext fun e => congrArg (fun f => k0_pay5 (F := Ideal) x w (ix2 i f)) (eo e)]

/-- Head 0 of a block. -/
theorem head0 (x : Vec Ideal S1024x4096 .bf16) (w : Vec Ideal S4096x256 .bf16) (g : Vec Ideal S1x128 .f32) (co si : Vec Ideal S1024x128 .f32)
    (i' : Fin 1024) (D : Fin 128) (i : Fin 1024) (j : Fin 256) (hi : i.val = i'.val) (hj : j.val = D.val) :
    k0_pay12 (F := Ideal) (k0_pay7 (F := Ideal) co) (k0_pay8 (F := Ideal) si) (k0_pay10 (F := Ideal) x w g)
      (Scalar.select (Scalar.cmpi .eq 64#32 0#32) 1#32 64#32) k0_pay11 (ix2 i' D) = element x w g co si i j :=
  (turn0 _ _ _ i' D).trans (element_of x w g co si i i' j 0 D hi (by omega) (by decide) (fun e => by omega) _ fun e => normed0 _ _ _ _ _)

/-- Head 1 of a block. -/
theorem head1 (x : Vec Ideal S1024x4096 .bf16) (w : Vec Ideal S4096x256 .bf16) (g : Vec Ideal S1x128 .f32) (co si : Vec Ideal S1024x128 .f32)
    (i' : Fin 1024) (D : Fin 128) (i : Fin 1024) (j : Fin 256) (hi : i.val = i'.val) (hj : j.val = 128 + D.val) :
    k0_pay1 (F := Ideal) (k0_pay7 (F := Ideal) co) (k0_pay8 (F := Ideal) si)
      (k0_pay13 (F := Ideal) (k0_pay5 (F := Ideal) x w) (k0_pay9 (F := Ideal) g))
      (Scalar.select (Scalar.cmpi .eq 64#32 0#32) 1#32 64#32) k0_pay14 k0_pay15 k0_pay16 (ix2 i' D) = element x w g co si i j :=
  (turn1 _ _ _ i' D).trans (element_of x w g co si i i' j 128 D hi (by omega) (by decide) (fun e => by omega) _ fun e => normed1 _ _ _ _)

variable (m : (ℓ : Loc nD τ sig) → Buf (Elt Ideal) ℓ)

/-- The blocks of point `t`: rows `t % 17`, columns `t / 17`, of the keys' and the values' weights 16 and 20 blocks further; the
    tables' rows are the latent rows' places in their sequence, or the ones behind the sequence for the last rows, which are the
    context's. -/
theorem idx : ∀ t : Fin cfg0.N, win0_0.index t = ![t.val % 17, 0] ∧ win0_1.index t = ![0, 0, t.val / 17 + 16]
    ∧ win0_2.index t = ![0, 0, t.val / 17 + 20] ∧ win0_3.index t = ![0, 0]
    ∧ win0_4.index t = ![if t.val % 17 < 16 then t.val % 17 % 4 else 4, 0]
    ∧ win0_5.index t = ![if t.val % 17 < 16 then t.val % 17 % 4 else 4, 0] ∧ win0_6.index t = ![t.val % 17, t.val / 17]
    ∧ win0_7.index t = ![t.val % 17, t.val / 17] :=
  (by decide +kernel : ∀ t : Fin grid0.N, _)

/-- What point `t` stores to the two results, over the weights' two blocks of its run's first point. -/
theorem stored (c : Dev nD) (t : Fin cfg0.N) :
    ((outsAt0 m c t.val t.isLt).1, (outsAt0 m c t.val t.isLt).2.1)
      = ((fun y => element (iblk m c 0 t) (k0_pay3 (F := Ideal) (iblk m c 1 ⟨17 * (t.val / 17), Pipeline.run_start_lt t⟩)) (iblk m c 3 t)
            (iblk m c 4 t) (iblk m c 5 t) (y 0) (y 1) : Vec Ideal S1024x256 .bf16),
        k0_pay2 (F := Ideal) (k0_pay6 (F := Ideal) (iblk m c 0 t)
          (k0_pay4 (F := Ideal) (iblk m c 2 ⟨17 * (t.val / 17), Pipeline.run_start_lt t⟩)))) :=
  Resident.stored (fun n h => (((outsAt0 m c n h).1, (outsAt0 m c n h).2.1), (outsAt0 m c n h).2.2)) 17
    (fun t w => ((fun y => element (iblk m c 0 t) w.1 (iblk m c 3 t) (iblk m c 4 t) (iblk m c 5 t) (y 0) (y 1) : Vec Ideal S1024x256 .bf16),
      k0_pay2 (F := Ideal) (k0_pay6 (F := Ideal) (iblk m c 0 t) w.2)))
    (fun t => (k0_pay3 (F := Ideal) (iblk m c 1 t), k0_pay4 (F := Ideal) (iblk m c 2 t)))
    (fun t h => by
      rw [outsAt0_A m c t h]
      refine Prod.ext (Prod.ext (funext fun y => ?_) (funext fun y => ?_)) (Prod.ext (funext fun y => ?_) (funext fun y => ?_))
      · frame_out
        canon_tiles x h
        · rw [eq_ix2 x]
          exact head1 _ _ _ _ _ (x 0) (x 1) (y 0) (y 1) h0 h1
        · rw [eq_ix2 x]
          exact head0 _ _ _ _ _ (x 0) (x 1) (y 0) (y 1) h0 (by omega)
      · frame_out
      · frame_out
      · frame_out)
    (fun t h => by
      rw [outsAt0_B m c t h]
      refine Prod.ext (Prod.ext (funext fun y => ?_) (funext fun y => ?_)) (Prod.ext (funext fun y => ?_) (funext fun y => ?_))
      · frame_out
        rw [read_unread_whole]
        canon_tiles x h
        · rw [eq_ix2 x]
          exact head1 _ _ _ _ _ (x 0) (x 1) (y 0) (y 1) h0 h1
        · rw [eq_ix2 x]
          exact head0 _ _ _ _ _ (x 0) (x 1) (y 0) (y 1) h0 (by omega)
      · frame_out
        rw [read_unread_whole]
      · rfl
      · rfl)
    t

/-- The cosines' table the kernel reads, built by the host before the call. -/
theorem V_cos (c : Dev nD) : V m c main_v35
    = concatenate S5120x128 0
      [⟨S4096x128, concatenate S4096x128 1 [⟨S4096x32, Cert.Reference11Ideal.Read.val_main_v48 (F := Ideal)⟩, ⟨S4096x32, Cert.Reference11Ideal.Read.val_main_v48 (F := Ideal)⟩,
        ⟨S4096x32, Cert.Reference11Ideal.Read.val_main_v50 (F := Ideal)⟩, ⟨S4096x32, Cert.Reference11Ideal.Read.val_main_v50 (F := Ideal)⟩] concatenates_S4096x32_S4096x32_S4096x32_S4096x32_S4096x128_d1⟩,
      ⟨S1024x128, broadcastInDim S1024x128 ![] bcast_S_S1024x128 (constant (F := Ideal) S_ .f32 0x3F800000#32)⟩] concatenates_S4096x128_S1024x128_S5120x128_d0 := by
  unfold V hostOps0
  after_results
  rfl

/-- The sines' table. -/
theorem V_sin (c : Dev nD) : V m c main_v37
    = concatenate S5120x128 0
      [⟨S4096x128, concatenate S4096x128 1 [⟨S4096x32, Host.negf (Cert.Reference11Ideal.Read.val_main_v49 (F := Ideal))⟩, ⟨S4096x32, Cert.Reference11Ideal.Read.val_main_v49 (F := Ideal)⟩,
        ⟨S4096x32, Host.negf (Cert.Reference11Ideal.Read.val_main_v51 (F := Ideal))⟩, ⟨S4096x32, Cert.Reference11Ideal.Read.val_main_v51 (F := Ideal)⟩] concatenates_S4096x32_S4096x32_S4096x32_S4096x32_S4096x128_d1⟩,
      ⟨S1024x128, broadcastInDim S1024x128 ![] bcast_S_S1024x128 (constant (F := Ideal) S_ .f32 0x00000000#32)⟩] concatenates_S4096x128_S1024x128_S5120x128_d0 := by
  unfold V hostOps0
  after_results
  rfl

/-- The gain, as one row. -/
theorem V_gain (c : Dev nD) : V m c main_v38
    = shapeCast S1x128 (m ((c : Thread nD τ).loc main_arg2)) shapeCasts_S128_S1x128 := by
  unfold V hostOps0
  after_results
  rfl

/-- The entries of the cosines' block at a point: the row's cosines. -/
theorem cos_entry (c : Dev nD) (t : Fin cfg0.N) (i : Fin 1024) (R : Fin 17408) (hR : R.val = t.val % 17 * 1024 + i.val) (e : Fin 128) :
    (show Vec Ideal S1024x128 .f32 from iblk m c 4 t) (ix2 i e) = Rope.cosRow R e := by
  have hp : (if t.val % 17 < 16 then t.val % 17 % 4 else 4) * 1024 + i.val < 5120 := by split <;> omega
  have hb : (show Vec Ideal S1024x128 .f32 from iblk m c 4 t) (ix2 i e)
      = (V m c main_v35 : FVec Ideal S5120x128 .f32) (ix2 (⟨(if t.val % 17 < 16 then t.val % 17 % 4 else 4) * 1024 + i.val, hp⟩ : Fin 5120) e) := by
    show iblk m c 4 t (ix2 i e) = _
    blk_ext [iblk, idx t]
  rw [hb, V_cos, ← Rope.cosRow_table R e ⟨(if t.val % 17 < 16 then t.val % 17 % 4 else 4) * 1024 + i.val, hp⟩
    (fun h => by show (if t.val % 17 < 16 then t.val % 17 % 4 else 4) * 1024 + i.val = _; rw [if_pos (by omega)]; omega)
    (fun h => by show 4096 ≤ (if t.val % 17 < 16 then t.val % 17 % 4 else 4) * 1024 + i.val; rw [if_neg (by omega)]; omega)]
  pointwise []

/-- The entries of the sines' block at a point: the row's sines. -/
theorem sin_entry (c : Dev nD) (t : Fin cfg0.N) (i : Fin 1024) (R : Fin 17408) (hR : R.val = t.val % 17 * 1024 + i.val) (e : Fin 128) :
    (show Vec Ideal S1024x128 .f32 from iblk m c 5 t) (ix2 i e) = Rope.sinRow R e := by
  have hp : (if t.val % 17 < 16 then t.val % 17 % 4 else 4) * 1024 + i.val < 5120 := by split <;> omega
  have hb : (show Vec Ideal S1024x128 .f32 from iblk m c 5 t) (ix2 i e)
      = (V m c main_v37 : FVec Ideal S5120x128 .f32) (ix2 (⟨(if t.val % 17 < 16 then t.val % 17 % 4 else 4) * 1024 + i.val, hp⟩ : Fin 5120) e) := by
    show iblk m c 5 t (ix2 i e) = _
    blk_ext [iblk, idx t]
  rw [hb, V_sin, ← Rope.sinRow_table R e ⟨(if t.val % 17 < 16 then t.val % 17 % 4 else 4) * 1024 + i.val, hp⟩
    (fun h => by show (if t.val % 17 < 16 then t.val % 17 % 4 else 4) * 1024 + i.val = _; rw [if_pos (by omega)]; omega)
    (fun h => by show 4096 ≤ (if t.val % 17 < 16 then t.val % 17 % 4 else 4) * 1024 + i.val; rw [if_neg (by omega)]; omega)]
  pointwise []

/-- The entries of the gain's block. -/
theorem gain_entry (c : Dev nD) (t : Fin cfg0.N) (e : Fin 128) :
    (show Vec Ideal S1x128 .f32 from iblk m c 3 t) (ix2 (0 : Fin 1) e) = m ((c : Thread nD τ).loc main_arg2) (ix1 e) := by
  have hb : (show Vec Ideal S1x128 .f32 from iblk m c 3 t) (ix2 (0 : Fin 1) e)
      = (V m c main_v38 : FVec Ideal S1x128 .f32) (ix2 (0 : Fin 1) e) := by
    show iblk m c 3 t (ix2 0 e) = _
    blk_ext [iblk, idx t]
  rw [hb, V_gain]
  pointwise []

/-- An element of a block, over the entries of the arrays. -/
theorem element_eq (x : Vec Ideal S1024x4096 .bf16) (w : Vec Ideal S1x4096x256 .f32) (g : Vec Ideal S1x128 .f32)
    (co si : Vec Ideal S1024x128 .f32) (i : Fin 1024) (j : Fin 256) (row : Fin 4096 → EReal) (col : Fin 128 → Fin 4096 → EReal)
    (gain cos sin : Fin 128 → EReal) (D : Fin 128) (hx : ∀ k, x (ix2 i k) = row k)
    (hw : ∀ e k, w (ix3 (0 : Fin 1) k (⟨j.val / 128 * 128 + e.val, by omega⟩ : Fin 256)) = col e k)
    (hg : ∀ e, g (ix2 (0 : Fin 1) e) = gain e) (hco : ∀ e, co (ix2 i e) = cos e) (hsi : ∀ e, si (ix2 i e) = sin e)
    (hD : j.val % 128 = D.val) :
    element x (k0_pay3 (F := Ideal) w) g co si i j
      = Rope.turned (Rope.normed (fun e => ∑ k : Fin 4096, row k * col e k) gain) cos sin D := by
  have hp : ∀ e : Fin 128, k0_pay5 (F := Ideal) x (k0_pay3 (F := Ideal) w) (ix2 i (⟨j.val / 128 * 128 + e.val, by omega⟩ : Fin 256))
      = ∑ k : Fin 4096, row k * col e k := fun e => by
    have e1 : k0_pay5 (F := Ideal) x (k0_pay3 (F := Ideal) w) (ix2 i (⟨j.val / 128 * 128 + e.val, by omega⟩ : Fin 256))
        = (∑ k : Fin 4096, x (ix2 i k) * w (ix3 (0 : Fin 1) k (⟨j.val / 128 * 128 + e.val, by omega⟩ : Fin 256)) : EReal) := by
      pointwise [k0_pay5, k0_pay3]
    rw [e1]
    exact Finset.sum_congr rfl fun k _ => by rw [hx k, hw e k]
  unfold element
  rw [funext hp, funext hg, funext hco, funext hsi, show (⟨j.val % 128, by omega⟩ : Fin 128) = D from Fin.ext hD]

/-- An element of the second result's block, over the entries of the arrays. -/
theorem value_element (x : Vec Ideal S1024x4096 .bf16) (w : Vec Ideal S1x4096x256 .f32) (i : Fin 1024) (j : Fin 256)
    (row col : Fin 4096 → EReal) (hx : ∀ k, x (ix2 i k) = row k) (hw : ∀ k, w (ix3 (0 : Fin 1) k j) = col k) :
    k0_pay2 (F := Ideal) (k0_pay6 (F := Ideal) x (k0_pay4 (F := Ideal) w)) (ix2 i j) = ∑ k : Fin 4096, row k * col k := by
  have e : k0_pay2 (F := Ideal) (k0_pay6 (F := Ideal) x (k0_pay4 (F := Ideal) w)) (ix2 i j)
      = (∑ k : Fin 4096, x (ix2 i k) * w (ix3 (0 : Fin 1) k j) : EReal) := by
    pointwise [k0_pay2, k0_pay6, k0_pay4]
  rw [e]
  exact Finset.sum_congr rfl fun k _ => by rw [hx k, hw k]

/-- What point `t` stores to the first result at row `i` and column `j` of its block is the reference's element there. -/
theorem key_point (c : Dev nD) (t : Fin cfg0.N) (i : Fin 1024) (j : Fin 256) (R : Fin 17408) (C : Fin 1024)
    (hR : R.val = t.val % 17 * 1024 + i.val) (hC : C.val = t.val / 17 * 256 + j.val) :
    (outsAt0 m c t.val t.isLt).1 (ix2 i j)
      = Cert.Reference12Ideal.Read.val_main_v89 (F := Ideal) (m ((c : Thread nD τ).loc main_arg0)) (m ((c : Thread nD τ).loc main_arg1))
          (m ((c : Thread nD τ).loc main_arg2)) (ix2 R C) := by
  have hw : 17 * (t.val / 17) / 17 = t.val / 17 := by omega
  rw [Cert.Reference12Ideal.AttnKV.result_apply _ _ _ R C ⟨C.val / 128, by omega⟩ ⟨C.val % 128, by omega⟩
    (by show C.val = C.val / 128 * 128 + C.val % 128; omega)]
  refine (congrFun (congrArg Prod.fst (stored m c t)) (ix2 i j)).trans ?_
  refine element_eq _ _ _ _ _ i j _ _ _ _ _ _ (fun k => ?_) (fun e k => ?_) (fun e => gain_entry m c t e)
    (fun e => cos_entry m c t i R hR e) (fun e => sin_entry m c t i R hR e) (by show j.val % 128 = C.val % 128; omega)
  · show iblk m c 0 t (ix2 i k) = _
    blk_ext [iblk, V, idx t]
  · show iblk m c 1 ⟨17 * (t.val / 17), _⟩ (ix3 0 k ⟨j.val / 128 * 128 + e.val, _⟩) = _
    blk_ext [iblk, V, idx ⟨17 * (t.val / 17), Pipeline.run_start_lt t⟩]

/-- What point `t` stores to the second result at row `i` and column `j` of its block is the reference's element there. -/
theorem value_point (c : Dev nD) (t : Fin cfg0.N) (i : Fin 1024) (j : Fin 256) (R : Fin 17408) (C : Fin 1024)
    (hR : R.val = t.val % 17 * 1024 + i.val) (hC : C.val = t.val / 17 * 256 + j.val) :
    (outsAt0 m c t.val t.isLt).2.1 (ix2 i j)
      = Cert.Reference12Ideal.Read.val_main_v90 (F := Ideal) (m ((c : Thread nD τ).loc main_arg0)) (m ((c : Thread nD τ).loc main_arg1)) (ix2 R C) := by
  have hw : 17 * (t.val / 17) / 17 = t.val / 17 := by omega
  rw [Cert.Reference12Ideal.AttnKV.value_apply]
  refine (congrFun (congrArg Prod.snd (stored m c t)) (ix2 i j)).trans ?_
  refine value_element _ _ i j _ _ (fun k => ?_) (fun k => ?_)
  · show iblk m c 0 t (ix2 i k) = _
    blk_ext [iblk, V, idx t]
  · show iblk m c 2 ⟨17 * (t.val / 17), _⟩ (ix3 0 k j) = _
    blk_ext [iblk, V, idx ⟨17 * (t.val / 17), Pipeline.run_start_lt t⟩]

/-- THE FIRST RESULT ARRAY: after the run it is the reference's value of the arguments. -/
theorem key_final (c : Dev nD) :
    (dats m 0 c).arrAt 6 cfg0.N
      = Cert.Reference12Ideal.Read.val_main_v89 (F := Ideal) (m ((c : Thread nD τ).loc main_arg0)) (m ((c : Thread nD τ).loc main_arg1))
          (m ((c : Thread nD τ).loc main_arg2)) := by
  refine (dats m 0 c).arrAt_eq_of_covers 6 _ (by decide +kernel) fun t hf y => ?_
  have ht : t.val < 68 := t.isLt
  have h0 : (y 0).val < 1024 := (y 0).isLt
  have h1 : (y 1).val < 256 := (y 1).isLt
  blk_simp
  rw [after0_6, eq_ix2 y]
  refine (key_point m c t _ _ ⟨t.val % 17 * 1024 + (y 0).val, ?_⟩ ⟨t.val / 17 * 256 + (y 1).val, ?_⟩ rfl rfl).trans (congrArg _ ?_)
  · omega
  · omega
  · blk_ext [idx t]

/-- THE SECOND RESULT ARRAY: after the run it is the reference's value of the arguments. -/
theorem value_final (c : Dev nD) :
    (dats m 0 c).arrAt 7 cfg0.N
      = Cert.Reference12Ideal.Read.val_main_v90 (F := Ideal) (m ((c : Thread nD τ).loc main_arg0)) (m ((c : Thread nD τ).loc main_arg1)) := by
  refine (dats m 0 c).arrAt_eq_of_covers 7 _ (by decide +kernel) fun t hf y => ?_
  have ht : t.val < 68 := t.isLt
  have h0 : (y 0).val < 1024 := (y 0).isLt
  have h1 : (y 1).val < 256 := (y 1).isLt
  blk_simp
  rw [after0_7, eq_ix2 y]
  refine (value_point m c t _ _ ⟨t.val % 17 * 1024 + (y 0).val, ?_⟩ ⟨t.val / 17 * 256 + (y 1).val, ?_⟩ rfl rfl).trans (congrArg _ ?_)
  · omega
  · omega
  · blk_ext [idx t]

end Cert.Kernel12Ideal.AttnKV

namespace Cert.AttnKV

/-- The printed kernel runs, keeps its arguments and ends quiescent. -/
theorem frame_kernel : Cert.quiescent_Kernel12 := fun m ρ _ => Cert.Kernel12.Gen.frame m ρ

/-- So does the idealized kernel. -/
theorem frame_ideal : Cert.quiescent_Kernel12Ideal := fun m ρ _ => Cert.Kernel12Ideal.Gen.frame m ρ

/-- So does the reference, a host program without semaphores. -/
theorem frame_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- THE VALUE: over the extended reals the kernel and the reference leave the same two arrays, for every memory. -/
theorem algebraic : Cert.algebraic_Kernel12Ideal_Reference12Ideal := by
  intro m ρ m' ρ' _ hagree
  refine ⟨fun c => Cert.Reference12Ideal.Read.val_main_v89 (F := Ideal)
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2)),
    fun c => Cert.Reference12Ideal.Read.val_main_v90 (F := Ideal)
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1)), ?_, ?_⟩
  · exact (θ_run Cert.Kernel12Ideal.defs _ _).mono
      (fun r h c => ⟨((h.1 c).1 6).trans (Cert.Kernel12Ideal.AttnKV.key_final m c),
        ((h.1 c).1 7).trans (Cert.Kernel12Ideal.AttnKV.value_final m c), h.2 c⟩)
      (θ_run_and (Cert.Kernel12Ideal.Gen.run_main m ρ) (Cert.Kernel12Ideal.Gen.unchanged m ρ))
  · refine (θ_run Cert.Reference12Ideal.defs _ _).mono (fun r h c => ⟨?_, ?_, (h c).2.2⟩)
      (Cert.Reference12Ideal.Value.run (F := Ideal) m' ρ')
    · rw [(h c).1, Cert.Reference12Ideal.Read.val_main_v89_eq, (hagree c).1, (hagree c).2.1, (hagree c).2.2]
    · rw [(h c).2.1, Cert.Reference12Ideal.Read.val_main_v90_eq, (hagree c).1, (hagree c).2.1]

end Cert.AttnKV

end
-- ==== Proof.NormMod.lean ====
/-
  The modulated norm (`Kernel13` / `Kernel13Ideal` against `Reference13Ideal`): each row is divided by the root of its mean
  square, scaled by the gain, then scaled and shifted by its row of the modulation table, which is the reference's value; then
  the claims.
-/
module

public import proofs.«01_k».proof.Defs
public import proofs.«01_k».proof.Proof.Gated
public import proofs.«01_k».proof.Proof.Gen.Kernel13.Frame
public import proofs.«01_k».proof.Proof.Gen.Kernel13Ideal.Frame
public import proofs.«01_k».proof.Proof.Gen.Reference13Ideal.Read
public import Idealize.ShloMosaic.Lib.Claim
public import Idealize.ShloMosaic.Lib.Pointwise
public import Idealize.ShloMosaic.Lib.IdealHost
public import Idealize.ShloMosaic.Lib.Pipeline.ValueKit

@[expose] public section

noncomputable section

open Idealize.ShloMosaic Idealize.SL.Sem

namespace NormRows

/-- One element of a normed and modulated row `u`: its entry over the root of the row's mean square, times the gain, times one
    plus the scale, plus the shift. -/
def value (u : Fin 4096 → EReal) (k : Fin 4096) (gain scale shift : EReal) : EReal :=
  u k * Ideal.rsqrt (Ideal.div (∑ i : Fin 4096, u i * u i) (Ideal.ofBits .f32 0x45800000#32) + Ideal.ofBits .f32 0x358637BD#32) * gain
    * (1 + scale) + shift

end NormRows

namespace Cert.Reference13Ideal.NormMod

open Cert.Reference13Ideal Cert.Reference13Ideal.Gen Cert.Reference13Ideal.Read

/-- The reference's scale at row `R` and column `C`. -/
theorem scale_apply (mod : FVec Ideal S6x8x1x4096 .f32) (R : Fin 17408) (C : Fin 4096) :
    val_main_v21 (F := Ideal) mod (ix2 R C) = mod (ix4 (4 : Fin 6) (Gated.gateRow R) (0 : Fin 1) C) := by
  pointwise [val_main_v21, val_main_v20, val_main_v19, val_main_v18, val_main_v17, val_main_v16, val_main_v15, val_main_v14, val_main_v13]
  split
  · rfl
  · exact congrArg (fun b => mod (ix4 (4 : Fin 6) b (0 : Fin 1) C)) (Fin.ext (show 4 = R.val / 4096 by omega))

/-- The reference's shift at row `R` and column `C`. -/
theorem shift_apply (mod : FVec Ideal S6x8x1x4096 .f32) (R : Fin 17408) (C : Fin 4096) :
    val_main_v33 (F := Ideal) mod (ix2 R C) = mod (ix4 (3 : Fin 6) (Gated.gateRow R) (0 : Fin 1) C) := by
  pointwise [val_main_v33, val_main_v32, val_main_v31, val_main_v30, val_main_v29, val_main_v28, val_main_v27, val_main_v26, val_main_v25]
  split
  · rfl
  · exact congrArg (fun b => mod (ix4 (3 : Fin 6) b (0 : Fin 1) C)) (Fin.ext (show 4 = R.val / 4096 by omega))

/-- The reference's element. -/
theorem result_apply (x : FVec Ideal S17408x4096 .f32) (g : FVec Ideal S4096 .f32) (mod : FVec Ideal S6x8x1x4096 .f32)
    (R : Fin 17408) (C : Fin 4096) :
    val_main_v35 (F := Ideal) x g mod (ix2 R C)
      = NormRows.value (fun k => x (ix2 R k)) C (g (ix1 C)) (mod (ix4 (4 : Fin 6) (Gated.gateRow R) (0 : Fin 1) C))
          (mod (ix4 (3 : Fin 6) (Gated.gateRow R) (0 : Fin 1) C)) := by
  rw [← scale_apply mod R C, ← shift_apply mod R C]
  unfold NormRows.value
  pointwise [val_main_v35, val_main_v34, val_main_v24, val_main_v23, val_main_v22, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

end Cert.Reference13Ideal.NormMod

namespace Cert.Kernel13Ideal.NormMod

open Cert.Kernel13Ideal Cert.Kernel13Ideal.Gen TcCoe

/-- One element of what a point stores, over the entries of its blocks. -/
theorem element (x : Vec Ideal S512x4096 .f32) (g : Vec Ideal S1x4096 .f32) (s b : Vec Ideal S1x1x1x4096 .f32) (i : Fin 512)
    (j : Fin 4096) (row : Fin 4096 → EReal) (gain scale shift : EReal) (hx : ∀ k, x (ix2 i k) = row k)
    (hg : g (ix2 (0 : Fin 1) j) = gain) (hs : s (ix4 (0 : Fin 1) (0 : Fin 1) (0 : Fin 1) j) = scale)
    (hb : b (ix4 (0 : Fin 1) (0 : Fin 1) (0 : Fin 1) j) = shift) :
    k0_pay1 (F := Ideal) x g s b (ix2 i j) = NormRows.value row j gain scale shift := by
  rw [← hg, ← hs, ← hb, ← show (fun k => x (ix2 i k)) = row from funext hx]
  unfold NormRows.value
  pointwise [k0_pay1]

variable (m : (ℓ : Loc nD τ sig) → Buf (Elt Ideal) ℓ)

/-- The blocks of point `t`: 512 rows; of the modulation table rows 3 and 4 at the rows' batch element. -/
theorem idx : ∀ t : Fin cfg0.N, win0_0.index t = ![t.val, 0] ∧ win0_1.index t = ![0, 0]
    ∧ win0_2.index t = ![3, t.val / 8, 0, 0] ∧ win0_3.index t = ![4, t.val / 8, 0, 0] ∧ win0_4.index t = ![t.val, 0] :=
  (by decide +kernel : ∀ t : Fin grid0.N, _)

/-- The gain the kernel reads, as a row. -/
theorem V_gain (c : Dev nD) (C : Fin 4096) :
    (V m c main_v0 : FVec Ideal S1x4096 .f32) (ix2 (0 : Fin 1) C) = m ((c : Thread nD τ).loc main_arg1) (ix1 C) := by
  unfold V hostOps0
  after_results
  pointwise []

/-- What point `t` stores at row `i` and column `j` of its block is the reference's element there. -/
theorem point (c : Dev nD) (t : Fin cfg0.N) (i : Fin 512) (j : Fin 4096) (R : Fin 17408) (hR : R.val = t.val * 512 + i.val) :
    out0_4 (F := Ideal) (iblk m c 0 t) (iblk m c 1 t) (iblk m c 2 t) (iblk m c 3 t) (ix2 i j)
      = Cert.Reference13Ideal.Read.val_main_v35 (F := Ideal) (m ((c : Thread nD τ).loc main_arg0)) (m ((c : Thread nD τ).loc main_arg1))
          (m ((c : Thread nD τ).loc main_arg2)) (ix2 R j) := by
  have ht : t.val < 34 := t.isLt
  have hi := i.isLt
  rw [Cert.Reference13Ideal.NormMod.result_apply]
  unfold out0_4
  frame_out
  refine element _ _ _ _ i j _ _ _ _ (fun k => ?_) ?_ ?_ ?_
  · show iblk m c 0 t (ix2 i k) = _
    blk_ext [iblk, V, idx t]
  · rw [← V_gain m c j]
    show iblk m c 1 t (ix2 0 j) = _
    blk_ext [iblk, idx t]
  · show iblk m c 3 t (ix4 0 0 0 j) = _
    blk_ext [iblk, V, idx t]
  · show iblk m c 2 t (ix4 0 0 0 j) = _
    blk_ext [iblk, V, idx t]

/-- THE RESULT ARRAY: after the run it is the reference's value of the arguments. -/
theorem final (c : Dev nD) :
    (dats m 0 c).arrAt 4 cfg0.N
      = Cert.Reference13Ideal.Read.val_main_v35 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  have ht : t.val < 34 := t.isLt
  have h0 : (y 0).val < 512 := (y 0).isLt
  blk_simp
  rw [after0_4, eq_ix2 y]
  refine (point m c t _ _ ⟨t.val * 512 + (y 0).val, ?_⟩ rfl).trans (congrArg _ ?_)
  · omega
  · blk_ext [idx t]

end Cert.Kernel13Ideal.NormMod

namespace Cert.NormMod

/-- The printed kernel runs, keeps its arguments and ends quiescent. -/
theorem frame_kernel : Cert.quiescent_Kernel13 := fun m ρ _ => Cert.Kernel13.Gen.frame m ρ

/-- So does the idealized kernel. -/
theorem frame_ideal : Cert.quiescent_Kernel13Ideal := fun m ρ _ => Cert.Kernel13Ideal.Gen.frame m ρ

/-- So does the reference, a host program without semaphores. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- THE VALUE: over the extended reals the kernel and the reference leave the same array, for every memory. -/
theorem algebraic : Cert.algebraic_Kernel13Ideal_Reference13Ideal := by
  intro m ρ m' ρ' _ hagree
  refine ⟨fun c => Cert.Reference13Ideal.Read.val_main_v35 (F := Ideal)
    (m ((c.tc : Thread Cert.Kernel13Ideal.nD Cert.Kernel13Ideal.τ).loc Cert.Kernel13Ideal.main_arg0))
    (m ((c.tc : Thread Cert.Kernel13Ideal.nD Cert.Kernel13Ideal.τ).loc Cert.Kernel13Ideal.main_arg1))
    (m ((c.tc : Thread Cert.Kernel13Ideal.nD Cert.Kernel13Ideal.τ).loc Cert.Kernel13Ideal.main_arg2)), ?_, ?_⟩
  · exact (θ_run Cert.Kernel13Ideal.defs _ _).mono
      (fun r h c => ⟨((h.1 c).1 4).trans (Cert.Kernel13Ideal.NormMod.final m c), h.2 c⟩)
      (θ_run_and (Cert.Kernel13Ideal.Gen.run_main m ρ) (Cert.Kernel13Ideal.Gen.unchanged m ρ))
  · refine (θ_run Cert.Reference13Ideal.defs _ _).mono (fun r h c => ⟨?_, (h c).2⟩)
      (Cert.Reference13Ideal.Value.run (F := Ideal) m' ρ')
    rw [(h c).1, Cert.Reference13Ideal.Read.val_main_v35_eq, (hagree c).1, (hagree c).2.1, (hagree c).2.2]

end Cert.NormMod

end
-- ==== Proof.Ada.lean ====
/-
  The modulation tables (`Kernel14` / `Kernel14Ideal` against `Reference14Ideal`): of each layer the conditioning's SiLU times
  the first weights, times the second weights, plus the bias, which is the reference's value; then the claims.
-/
module

public import proofs.«01_k».proof.Defs
public import proofs.«01_k».proof.Proof.Resident
public import proofs.«01_k».proof.Proof.Gen.Kernel14.Frame
public import proofs.«01_k».proof.Proof.Gen.Kernel14Ideal.Frame
public import proofs.«01_k».proof.Proof.Gen.Reference14Ideal.Read
public import Idealize.ShloMosaic.Lib.Claim
public import Idealize.ShloMosaic.Lib.Pointwise
public import Idealize.ShloMosaic.Lib.IdealHost
public import Idealize.ShloMosaic.Lib.Pipeline.ValueKit

@[expose] public section

noncomputable section

open Idealize.ShloMosaic Idealize.SL.Sem

namespace Cert.Reference14Ideal.Ada

open Cert.Reference14Ideal Cert.Reference14Ideal.Gen Cert.Reference14Ideal.Read

/-- The reference's SiLU. -/
theorem silu_apply (x : FVec Ideal S8x4096 .f32) (b : Fin 8) (k : Fin 4096) :
    val_main_v0 (F := Ideal) x (ix2 b k) = x (ix2 b k) * Ideal.logistic (x (ix2 b k)) := by
  pointwise [val_main_v0, val_main_call0_v5, val_main_call0_v4, val_main_call0_cst_0, val_main_call0_v3, val_main_call0_v2, val_main_call0_cst, val_main_call0_v1, val_main_call0_v0]
  rfl

/-- The reference's first product. -/
theorem low_apply (x : FVec Ideal S8x4096 .f32) (d : FVec Ideal S4x4096x512 .f32) (l : Fin 4) (b : Fin 8) (q : Fin 512) :
    val_main_v2 (F := Ideal) x d (ix3 l b q)
      = ∑ k : Fin 4096, x (ix2 b k) * Ideal.logistic (x (ix2 b k)) * d (ix3 l k q) := by
  have e : val_main_v2 (F := Ideal) x d (ix3 l b q) = ∑ k : Fin 4096, d (ix3 l k q) * val_main_v0 (F := Ideal) x (ix2 b k) := by
    pointwise [val_main_v2, val_main_v1]
  rw [e]
  exact Finset.sum_congr rfl fun k _ => by rw [silu_apply, mul_comm]

/-- The reference's element. -/
theorem result_apply (x : FVec Ideal S8x4096 .f32) (d : FVec Ideal S4x4096x512 .f32) (u : FVec Ideal S4x512x24576 .f32)
    (bias : FVec Ideal S4x24576 .f32) (l : Fin 4) (b : Fin 8) (C : Fin 24576) :
    val_main_v6 (F := Ideal) x d u bias (ix3 l b C)
      = (∑ q : Fin 512, (∑ k : Fin 4096, x (ix2 b k) * Ideal.logistic (x (ix2 b k)) * d (ix3 l k q)) * u (ix3 l q C))
          + bias (ix2 l C) := by
  have e : val_main_v6 (F := Ideal) x d u bias (ix3 l b C)
      = (∑ q : Fin 512, val_main_v2 (F := Ideal) x d (ix3 l b q) * u (ix3 l q C)) + bias (ix2 l C) := by
    pointwise [val_main_v6, val_main_v5, val_main_v4, val_main_v3]
  rw [e]
  exact congrArg (fun z : EReal => z + bias (ix2 l C)) (Finset.sum_congr rfl fun q _ => by rw [low_apply])

end Cert.Reference14Ideal.Ada

namespace Cert.Kernel14Ideal.Ada

open Cert.Kernel14Ideal Cert.Kernel14Ideal.Gen TcCoe

/-- One element of the first product, over the entries of its blocks. -/
theorem low_element (x : Vec Ideal S8x4096 .f32) (d : Vec Ideal S1x4096x512 .f32) (b : Fin 8) (q : Fin 512) (row col : Fin 4096 → EReal)
    (hx : ∀ k, x (ix2 b k) = row k) (hd : ∀ k, d (ix3 (0 : Fin 1) k q) = col k) :
    k0_pay1 (F := Ideal) x d (ix2 b q) = ∑ k : Fin 4096, row k * Ideal.logistic (row k) * col k := by
  rw [← show (fun k => x (ix2 b k)) = row from funext hx, ← show (fun k => d (ix3 (0 : Fin 1) k q)) = col from funext hd]
  pointwise [k0_pay1]

/-- One element of what a point stores, over the entries of its blocks. -/
theorem element (w : Vec Ideal S8x512 .f32) (u : Vec Ideal S1x512x2048 .f32) (bias : Vec Ideal S1x1x2048 .f32) (b : Fin 8)
    (j : Fin 2048) (row col : Fin 512 → EReal) (z : EReal)
    (hw : ∀ q, w (ix2 b q) = row q) (hu : ∀ q, u (ix3 (0 : Fin 1) q j) = col q) (hb : bias (ix3 (0 : Fin 1) (0 : Fin 1) j) = z) :
    k0_pay2 (F := Ideal) w u bias (ix3 (0 : Fin 1) b j) = (∑ q : Fin 512, row q * col q) + z := by
  rw [← hb, ← show (fun q => w (ix2 b q)) = row from funext hw, ← show (fun q => u (ix3 (0 : Fin 1) q j)) = col from funext hu]
  pointwise [k0_pay2]

variable (m : (ℓ : Loc nD τ sig) → Buf (Elt Ideal) ℓ)

/-- The blocks of point `t`: layer `t / 12`, columns `t % 12`. -/
theorem idx : ∀ t : Fin cfg0.N, win0_0.index t = ![0, 0] ∧ win0_1.index t = ![t.val / 12, 0, 0]
    ∧ win0_2.index t = ![t.val / 12, 0, t.val % 12] ∧ win0_3.index t = ![t.val / 12, 0, t.val % 12]
    ∧ win0_4.index t = ![t.val / 12, 0, t.val % 12] :=
  (by decide +kernel : ∀ t : Fin grid0.N, _)

/-- The bias the kernel reads. -/
theorem V_bias (c : Dev nD) (l : Fin 4) (C : Fin 24576) :
    (V m c main_v0 : FVec Ideal S4x1x24576 .f32) (ix3 l (0 : Fin 1) C) = m ((c : Thread nD τ).loc main_arg3) (ix2 l C) := by
  unfold V hostOps0
  after_results
  pointwise []

/-- What point `t` stores, over the first product of its run's first point. -/
theorem stored (c : Dev nD) (t : Fin cfg0.N) :
    (outsAt0 m c t.val t.isLt).1 = k0_pay2 (F := Ideal)
      (k0_pay1 (F := Ideal) (iblk m c 0 ⟨12 * (t.val / 12), Pipeline.run_start_lt t⟩) (iblk m c 1 ⟨12 * (t.val / 12), Pipeline.run_start_lt t⟩))
      (iblk m c 2 t) (iblk m c 3 t) :=
  Resident.stored (fun n h => outsAt0 m c n h) 12
    (fun t w => k0_pay2 (F := Ideal) w (iblk m c 2 t) (iblk m c 3 t))
    (fun t => k0_pay1 (F := Ideal) (iblk m c 0 t) (iblk m c 1 t))
    (fun t h => by
      rw [outsAt0_A m c t h]
      refine Prod.ext (funext fun y => ?_) (funext fun y => ?_) <;> frame_out)
    (fun t h => by
      rw [outsAt0_B m c t h]
      refine Prod.ext (funext fun y => ?_) (funext fun y => ?_)
      · frame_out
        rw [read_unread_whole]
      · rfl)
    t

/-- What point `t` stores at row `b` and column `j` of its block is the reference's element there. -/
theorem point (c : Dev nD) (t : Fin cfg0.N) (b : Fin 8) (j : Fin 2048) (l : Fin 4) (C : Fin 24576)
    (hl : l.val = t.val / 12) (hC : C.val = t.val % 12 * 2048 + j.val) :
    (outsAt0 m c t.val t.isLt).1 (ix3 (0 : Fin 1) b j)
      = Cert.Reference14Ideal.Read.val_main_v6 (F := Ideal) (m ((c : Thread nD τ).loc main_arg0)) (m ((c : Thread nD τ).loc main_arg1))
          (m ((c : Thread nD τ).loc main_arg2)) (m ((c : Thread nD τ).loc main_arg3)) (ix3 l b C) := by
  have hw : 12 * (t.val / 12) / 12 = t.val / 12 := by omega
  rw [stored, Cert.Reference14Ideal.Ada.result_apply]
  refine element _ _ _ b j _ _ _ (fun q => low_element _ _ b q _ _ (fun k => ?_) (fun k => ?_)) (fun q => ?_) ?_
  · show iblk m c 0 ⟨12 * (t.val / 12), _⟩ (ix2 b k) = _
    blk_ext [iblk, V, idx ⟨12 * (t.val / 12), Pipeline.run_start_lt t⟩]
  · show iblk m c 1 ⟨12 * (t.val / 12), _⟩ (ix3 0 k q) = _
    blk_ext [iblk, V, idx ⟨12 * (t.val / 12), Pipeline.run_start_lt t⟩]
  · show iblk m c 2 t (ix3 0 q j) = _
    blk_ext [iblk, V, idx t]
  · rw [← V_bias m c l C]
    show iblk m c 3 t (ix3 0 0 j) = _
    blk_ext [iblk, idx t]

/-- THE RESULT ARRAY: after the run it is the reference's value of the arguments. -/
theorem final (c : Dev nD) :
    (dats m 0 c).arrAt 4 cfg0.N
      = Cert.Reference14Ideal.Read.val_main_v6 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  have ht : t.val < 48 := t.isLt
  have h0 : (y 0).val < 1 := (y 0).isLt
  have h2 : (y 2).val < 2048 := (y 2).isLt
  have e0 : y 0 = (0 : Fin 1) := Fin.ext (by show (y 0).val = 0; omega)
  blk_simp
  rw [after0_4, eq_ix3 y, e0]
  refine (point m c t _ _ ⟨t.val / 12, ?_⟩ ⟨t.val % 12 * 2048 + (y 2).val, ?_⟩ rfl rfl).trans (congrArg _ ?_)
  · omega
  · omega
  · blk_ext [idx t]

end Cert.Kernel14Ideal.Ada

namespace Cert.Ada

/-- The printed kernel runs, keeps its arguments and ends quiescent. -/
theorem frame_kernel : Cert.quiescent_Kernel14 := fun m ρ _ => Cert.Kernel14.Gen.frame m ρ

/-- So does the idealized kernel. -/
theorem frame_ideal : Cert.quiescent_Kernel14Ideal := fun m ρ _ => Cert.Kernel14Ideal.Gen.frame m ρ

/-- So does the reference, a host program without semaphores. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- THE VALUE: over the extended reals the kernel and the reference leave the same array, for every memory. -/
theorem algebraic : Cert.algebraic_Kernel14Ideal_Reference14Ideal := by
  intro m ρ m' ρ' _ hagree
  refine ⟨fun c => Cert.Reference14Ideal.Read.val_main_v6 (F := Ideal)
    (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1))
    (m ((c.tc : Thread Cert.Kernel14Ideal.nD Cert.Kernel14Ideal.τ).loc Cert.Kernel14Ideal.main_arg2))
    (m ((c.tc : Thread Cert.Kernel14Ideal.nD Cert.Kernel14Ideal.τ).loc Cert.Kernel14Ideal.main_arg3)), ?_, ?_⟩
  · exact (θ_run Cert.Kernel14Ideal.defs _ _).mono
      (fun r h c => ⟨((h.1 c).1 4).trans (Cert.Kernel14Ideal.Ada.final m c), h.2 c⟩)
      (θ_run_and (Cert.Kernel14Ideal.Gen.run_main m ρ) (Cert.Kernel14Ideal.Gen.unchanged m ρ))
  · refine (θ_run Cert.Reference14Ideal.defs _ _).mono (fun r h c => ⟨?_, (h c).2⟩)
      (Cert.Reference14Ideal.Value.run (F := Ideal) m' ρ')
    rw [(h c).1, Cert.Reference14Ideal.Read.val_main_v6_eq, (hagree c).1, (hagree c).2.1, (hagree c).2.2.1, (hagree c).2.2.2]

end Cert.Ada

end
-- ==== Proof.AttnContext.lean ====
/-
  The context rows' attention (`Kernel15` / `Kernel15Ideal` against `Reference15Ideal`): a context row is the softmax of its
  scores against the context keys of its batch element, summed over the values, and the latent rows keep the array given, which
  is the reference's value; then the claims.
-/
module

public import proofs.«01_k».proof.Defs
public import proofs.«01_k».proof.Proof.AttnClaims
public import proofs.«01_k».proof.Proof.SoftmaxMath
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Pre_finite_context_qk
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384

noncomputable section

open Idealize.ShloMosaic Idealize.SL.Sem

namespace Cert.Reference15Ideal.AttnContext

open Cert.Reference15Ideal Cert.Reference15Ideal.Gen Cert.Reference15Ideal.Read

/-- Context row `s` of batch element `b`'s keys or values, column `d` of key head `h`. -/
def entry (k : FVec Ideal S17408x1024 .bf16) (b : Fin 4) (h : Fin 8) (d : Fin 128) (s : Fin 256) : EReal :=
  k (ix2 ⟨16384 + (b.val * 256 + s.val), by omega⟩ ⟨h.val * 128 + d.val, by omega⟩)

/-- The score of context row `n`, query head `g` of key head `h`, against context key `s`. -/
def score (q : FVec Ideal S17408x4096 .bf16) (k : FVec Ideal S17408x1024 .bf16) (b : Fin 4) (h : Fin 8) (g : Fin 4) (n : Fin 256)
    (s : Fin 256) : EReal :=
  ∑ d : Fin 128, entry k b h d s * q (ix2 ⟨16384 + (b.val * 256 + n.val), by omega⟩ ⟨h.val * 512 + g.val * 128 + d.val, by omega⟩)

/-- The reference's scores. -/
theorem scores_apply (q : FVec Ideal S17408x4096 .bf16) (k : FVec Ideal S17408x1024 .bf16) (b : Fin 4) (h : Fin 8) (g : Fin 4)
    (n : Fin 256) (s : Fin 256) : val_main_v10 (F := Ideal) q k (ix5 b h g n s) = score q k b h g n s := by
  pointwise [val_main_v10, val_main_v9, val_main_v6, val_main_v5, val_main_v4, val_main_v3, val_main_v1, val_main_v0]
  rfl

/-- The reference's values. -/
theorem values_apply (v : FVec Ideal S17408x1024 .bf16) (b : Fin 4) (h : Fin 8) (s : Fin 256) (d : Fin 128) :
    val_main_v8 (F := Ideal) v (ix4 b s h d) = entry v b h d s := by
  pointwise [val_main_v8, val_main_v7, val_main_v2]
  rfl

/-- The reference's row maximum. -/
theorem rowMax_apply (q : FVec Ideal S17408x4096 .bf16) (k : FVec Ideal S17408x1024 .bf16) (b : Fin 4) (h : Fin 8) (g : Fin 4)
    (n : Fin 256) : val_main_v11 (F := Ideal) q k (ix4 b h g n) = Finset.fold max ⊥ (score q k b h g n) Finset.univ := by
  pointwise [val_main_v11, val_main_cst]
  rw [SoftmaxMath.ofBits_negInf]
  exact congrArg (fun f => Finset.fold max ⊥ f Finset.univ) (funext fun s => scores_apply q k b h g n s)

/-- The exponential of a score less the row maximum. -/
theorem exp_apply (q : FVec Ideal S17408x4096 .bf16) (k : FVec Ideal S17408x1024 .bf16) (b : Fin 4) (h : Fin 8) (g : Fin 4)
    (n : Fin 256) (s : Fin 256) : val_main_v17 (F := Ideal) q k (ix5 b h g n s)
      = Ideal.exp (score q k b h g n s - Finset.fold max ⊥ (score q k b h g n) Finset.univ) := by
  have hm : val_main_v13 (F := Ideal) q k (ix4 b h g n) = Finset.fold max ⊥ (score q k b h g n) Finset.univ := by
    rw [val_main_v13_apply, val_main_v12_apply, val_main_cst_0_apply, rowMax_apply]
    show max (Ideal.ofBits .f32 0xFF800000#32) _ = _
    rw [SoftmaxMath.ofBits_negInf, max_eq_right bot_le]
  rw [val_main_v17_apply, val_main_v16_apply, val_main_v15_apply, val_main_v14_apply, scores_apply]
  refine (congrArg (fun M : EReal => Ideal.exp (score q k b h g n s - M)) ?_)
  refine (congrArg (val_main_v13 (F := Ideal) q k) ?_).trans hm
  funext a
  match a with
  | ⟨0, _⟩ => rfl
  | ⟨1, _⟩ => rfl
  | ⟨2, _⟩ => rfl
  | ⟨3, _⟩ => rfl

/-- The exponentials' sum over the row. -/
theorem rowSum_apply (q : FVec Ideal S17408x4096 .bf16) (k : FVec Ideal S17408x1024 .bf16) (b : Fin 4) (h : Fin 8) (g : Fin 4)
    (n : Fin 256) : val_main_v18 (F := Ideal) q k (ix4 b h g n)
      = ∑ s, Ideal.exp (score q k b h g n s - Finset.fold max ⊥ (score q k b h g n) Finset.univ) := by
  pointwise [val_main_v18_apply, val_main_cst_1]
  refine Finset.sum_congr rfl fun s _ => (congrArg (val_main_v17 (F := Ideal) q k) ?_).trans (exp_apply q k b h g n s)
  funext a
  match a with
  | ⟨0, _⟩ => rfl
  | ⟨1, _⟩ => rfl
  | ⟨2, _⟩ => rfl
  | ⟨3, _⟩ => rfl
  | ⟨4, _⟩ => rfl

/-- The reference's weights. -/
theorem weight_apply (q : FVec Ideal S17408x4096 .bf16) (k : FVec Ideal S17408x1024 .bf16) (b : Fin 4) (h : Fin 8) (g : Fin 4)
    (n : Fin 256) (s : Fin 256) : val_main_v21 (F := Ideal) q k (ix5 b h g n s)
      = Ideal.div (Ideal.exp (score q k b h g n s - Finset.fold max ⊥ (score q k b h g n) Finset.univ))
          (∑ j, Ideal.exp (score q k b h g n j - Finset.fold max ⊥ (score q k b h g n) Finset.univ)) := by
  pointwise [val_main_v21, val_main_v20, val_main_v19]
  exact congrArg₂ Ideal.div (exp_apply q k b h g n s) (rowSum_apply q k b h g n)

/-- The reference's result at a context row: row `n` of batch element `b`, column `d` of query head `g` of key head `h`. -/
theorem result_apply (q : FVec Ideal S17408x4096 .bf16) (k v : FVec Ideal S17408x1024 .bf16) (o : FVec Ideal S17408x4096 .bf16)
    (b : Fin 4) (h : Fin 8) (g : Fin 4) (n : Fin 256) (d : Fin 128) (r : Fin 17408) (c : Fin 4096)
    (hr : r.val = 16384 + (b.val * 256 + n.val)) (hc : c.val = h.val * 512 + g.val * 128 + d.val) :
    val_main_v27 (F := Ideal) q k v o (ix2 r c) = SoftmaxMath.softmaxSum (score q k b h g n) (entry v b h d) := by
  have hr' : ¬r.val < 16384 := by omega
  pointwise [val_main_v27, val_main_v25]
  rw [dif_neg hr', val_main_v24_apply, val_main_v23_apply, val_main_v22_apply]
  unfold SoftmaxMath.softmaxSum
  refine Finset.sum_congr rfl fun s _ => congrArg₂ (· * ·) ?_ ?_
  · refine (congrArg (val_main_v8 (F := Ideal) v) ?_).trans (values_apply v b h s d)
    funext a
    apply Fin.ext
    match a with
    | ⟨0, _⟩ => show ((r.val - 16384) * 4096 + c.val) / 1048576 = b.val; omega
    | ⟨1, _⟩ => rfl
    | ⟨2, _⟩ => show ((r.val - 16384) * 4096 + c.val) / 512 % 8 = h.val; omega
    | ⟨3, _⟩ => show ((r.val - 16384) * 4096 + c.val) % 128 = d.val; omega
  · refine (congrArg (val_main_v21 (F := Ideal) q k) ?_).trans (weight_apply q k b h g n s)
    funext a
    apply Fin.ext
    match a with
    | ⟨0, _⟩ => show ((r.val - 16384) * 4096 + c.val) / 1048576 = b.val; omega
    | ⟨1, _⟩ => show ((r.val - 16384) * 4096 + c.val) / 512 % 8 = h.val; omega
    | ⟨2, _⟩ => show ((r.val - 16384) * 4096 + c.val) / 128 % 4 = g.val; omega
    | ⟨3, _⟩ => show ((r.val - 16384) * 4096 + c.val) / 4096 % 256 = n.val; omega
    | ⟨4, _⟩ => rfl

/-- The reference's result at a latent row: the array given. -/
theorem result_latent (q : FVec Ideal S17408x4096 .bf16) (k v : FVec Ideal S17408x1024 .bf16) (o : FVec Ideal S17408x4096 .bf16)
    (i : S17408x4096.Idx) (hi : (i 0).val < 16384) : val_main_v27 (F := Ideal) q k v o i = o i := by
  have e : ∀ (r : Fin 17408) (c : Fin 4096), r.val < 16384 → val_main_v27 (F := Ideal) q k v o (ix2 r c) = o (ix2 r c) := fun r c hr => by
    pointwise [val_main_v27, val_main_v26]
    rw [dif_pos hr]
  exact (congrArg (val_main_v27 (F := Ideal) q k v o) (eq_ix2 i)).trans ((e (i 0) (i 1) hi).trans (congrArg o (eq_ix2 i)).symm)

end Cert.Reference15Ideal.AttnContext

namespace Cert.Kernel15Ideal.AttnContext

open Cert.Kernel15Ideal Cert.Kernel15Ideal.Gen TcCoe

/-- The first head's payload at row `r` and value column `d`: the scores' exponentials weigh the values, and the division comes
    last. -/
theorem pay_head (q k v : Vec Ideal S256x128 .bf16) (r : Fin 256) (d : Fin 128) (s col : Fin 256 → EReal)
    (hs : ∀ x, ∑ e : Fin 128, q (ix2 r e) * k (ix2 x e) = s x) (hv : ∀ x, v (ix2 x d) = col x)
    (fs : ∀ x, ∃ a : ℝ, s x = (a : EReal)) :
    k0_pay1 (F := Ideal) q k v (ix2 r d) = SoftmaxMath.softmaxSum s col := by
  rw [← SoftmaxMath.div_eq_softmaxSum (by decide) s col fs, ← show (fun x => ∑ e : Fin 128, q (ix2 r e) * k (ix2 x e)) = s from funext hs,
    ← show (fun x => v (ix2 x d)) = col from funext hv]
  pointwise [k0_pay1]
  rw [SoftmaxMath.ofBits_negInf]

/-- The other heads' payloads are the first's text. -/
theorem pay2_eq (q k v : Vec Ideal S256x128 .bf16) : k0_pay2 (F := Ideal) q k v = k0_pay1 q k v := rfl

theorem pay3_eq (q k v : Vec Ideal S256x128 .bf16) : k0_pay3 (F := Ideal) q k v = k0_pay1 q k v := rfl

theorem pay4_eq (q k v : Vec Ideal S256x128 .bf16) : k0_pay4 (F := Ideal) q k v = k0_pay1 q k v := rfl

variable (m : (ℓ : Loc nD τ sig) → Buf (Elt Ideal) ℓ)

/-- The blocks of point `t`: the context rows of batch element `t / 8`, the columns of key head `t % 8`. -/
theorem idx : ∀ t : Fin cfg0.N, win0_0.index t = ![64 + t.val / 8, t.val % 8] ∧ win0_1.index t = ![64 + t.val / 8, t.val % 8]
    ∧ win0_2.index t = ![64 + t.val / 8, t.val % 8] ∧ win0_3.index t = ![64 + t.val / 8, t.val % 8] :=
  (by decide +kernel : ∀ t : Fin grid0.N, _)

/-- The result window writes exactly the context rows' blocks. -/
theorem covers : (cfg0.win 3).CoversWhere (fun β => 64 ≤ β 0) := by decide +kernel

/-- Entry of the queries' block: column `o` of the key head's four query heads. -/
theorem queries (c : Dev nD) (t : Fin cfg0.N) (r : Fin 256) (o : Fin 512) (i : S17408x4096.Idx)
    (h0 : (i 0).val = 16384 + (t.val / 8 * 256 + r.val)) (h1 : (i 1).val = t.val % 8 * 512 + o.val) :
    (show Vec Ideal S256x512 .bf16 from iblk m c 0 t) (ix2 r o) = m ((c : Thread nD τ).loc main_arg0) i := by
  show iblk m c 0 t (ix2 r o) = _
  blk_ext [iblk, V, idx t]

/-- Entry of the keys' block. -/
theorem keys (c : Dev nD) (t : Fin cfg0.N) (x : Fin 256) (e : Fin 128) (i : S17408x1024.Idx)
    (h0 : (i 0).val = 16384 + (t.val / 8 * 256 + x.val)) (h1 : (i 1).val = t.val % 8 * 128 + e.val) :
    (show Vec Ideal S256x128 .bf16 from iblk m c 1 t) (ix2 x e) = m ((c : Thread nD τ).loc main_arg1) i := by
  show iblk m c 1 t (ix2 x e) = _
  blk_ext [iblk, V, idx t]

/-- The same of the values' block. -/
theorem values (c : Dev nD) (t : Fin cfg0.N) (x : Fin 256) (e : Fin 128) (i : S17408x1024.Idx)
    (h0 : (i 0).val = 16384 + (t.val / 8 * 256 + x.val)) (h1 : (i 1).val = t.val % 8 * 128 + e.val) :
    (show Vec Ideal S256x128 .bf16 from iblk m c 2 t) (ix2 x e) = m ((c : Thread nD τ).loc main_arg2) i := by
  show iblk m c 2 t (ix2 x e) = _
  blk_ext [iblk, V, idx t]

/-- The reference's value. -/
def target (q : FVec Ideal S17408x4096 .bf16) (k v : FVec Ideal S17408x1024 .bf16) (o : FVec Ideal S17408x4096 .bf16) :
    FVec Ideal S17408x4096 .bf16 :=
  Cert.Reference15Ideal.Read.val_main_v27 (F := Ideal) q k v o

/-- ONE HEAD: over the query columns of head `g`, the payload at row `r` and column `d` is the reference's element there. -/
theorem head (c : Dev nD) (hq : ∀ i, ∃ a : ℝ, m ((c : Thread nD τ).loc main_arg0) i = (a : EReal))
    (hk : ∀ i, ∃ a : ℝ, m ((c : Thread nD τ).loc main_arg1) i = (a : EReal)) (t : Fin cfg0.N) (g : Fin 4)
    (qh : Vec Ideal S256x128 .bf16)
    (hqh : ∀ (r : Fin 256) (e : Fin 128), qh (ix2 r e) = (show Vec Ideal S256x512 .bf16 from iblk m c 0 t) (ix2 r ⟨g.val * 128 + e.val, by omega⟩))
    (r : Fin 256) (d : Fin 128) (i : S17408x4096.Idx) (h0 : (i 0).val = 16384 + (t.val / 8 * 256 + r.val))
    (h1 : (i 1).val = t.val % 8 * 512 + g.val * 128 + d.val) :
    k0_pay1 (F := Ideal) qh (iblk m c 1 t) (iblk m c 2 t) (ix2 r d)
      = target (m ((c : Thread nD τ).loc main_arg0)) (m ((c : Thread nD τ).loc main_arg1)) (m ((c : Thread nD τ).loc main_arg2))
          (m ((c : Thread nD τ).loc main_arg3)) i := by
  have ht : t.val < 32 := t.isLt
  have hi : i = ix2 (⟨16384 + (t.val / 8 * 256 + r.val), by omega⟩ : Fin 17408)
      (⟨t.val % 8 * 512 + g.val * 128 + d.val, by omega⟩ : Fin 4096) := by
    funext a
    match a with
    | ⟨0, _⟩ => exact Fin.ext h0
    | ⟨1, _⟩ => exact Fin.ext h1
  unfold target
  rw [hi, Cert.Reference15Ideal.AttnContext.result_apply _ _ _ _ ⟨t.val / 8, by omega⟩ ⟨t.val % 8, by omega⟩ g r d _ _ rfl rfl]
  refine pay_head _ _ _ r d _ _ (fun x => ?_) (fun x => values m c t x d _ rfl rfl) (fun x => ?_)
  · unfold Cert.Reference15Ideal.AttnContext.score Cert.Reference15Ideal.AttnContext.entry
    refine Finset.sum_congr rfl fun e _ => ?_
    rw [hqh, mul_comm]
    exact congrArg₂ (· * ·) (keys m c t x e _ rfl rfl) (queries m c t r _ _ rfl (by show t.val % 8 * 512 + g.val * 128 + e.val = t.val % 8 * 512 + (g.val * 128 + e.val); omega))
  · exact SoftmaxMath.dot_finite _ _ (fun e => hk _) (fun e => hq _)

/-- What the body leaves in the result's block at point `t` is the reference there. -/
theorem point (c : Dev nD) (hq : ∀ i, ∃ a : ℝ, m ((c : Thread nD τ).loc main_arg0) i = (a : EReal))
    (hk : ∀ i, ∃ a : ℝ, m ((c : Thread nD τ).loc main_arg1) i = (a : EReal)) (t : Fin cfg0.N) (y : S256x512.Idx)
    (i : S17408x4096.Idx) (hi0 : (i 0).val = 16384 + (t.val / 8 * 256 + (y 0).val))
    (hi1 : (i 1).val = t.val % 8 * 512 + (y 1).val) :
    outsAt0 m c t y
      = target (m ((c : Thread nD τ).loc main_arg0)) (m ((c : Thread nD τ).loc main_arg1)) (m ((c : Thread nD τ).loc main_arg2))
          (m ((c : Thread nD τ).loc main_arg3)) i := by
  unfold outsAt0
  frame_out
  canon_tiles x h
  · rw [pay4_eq, eq_ix2 x]
    refine head m c hq hk t 3 _ (fun r e => ?_) (x 0) (x 1) i (by omega) ?_
    · pointwise; blk_ext
    · show _ = t.val % 8 * 512 + 3 * 128 + (x 1).val; omega
  · rw [pay3_eq, eq_ix2 x]
    refine head m c hq hk t 2 _ (fun r e => ?_) (x 0) (x 1) i (by omega) ?_
    · pointwise; blk_ext
    · show _ = t.val % 8 * 512 + 2 * 128 + (x 1).val; omega
  · rw [pay2_eq, eq_ix2 x]
    refine head m c hq hk t 1 _ (fun r e => ?_) (x 0) (x 1) i (by omega) ?_
    · pointwise; blk_ext
    · show _ = t.val % 8 * 512 + 1 * 128 + (x 1).val; omega
  · rw [eq_ix2 x]
    refine head m c hq hk t 0 _ (fun r e => ?_) (x 0) (x 1) i (by omega) ?_
    · pointwise; blk_ext
    · show _ = t.val % 8 * 512 + 0 * 128 + (x 1).val; omega

/-- The result array as the kernel finds it: the array given. -/
theorem V_given (c : Dev nD) : V m c main_v0 = m ((c : Thread nD τ).loc main_arg3) := by
  unfold V hostOps0
  after_results
  rfl

/-- THE RESULT ARRAY: after the run it is the reference's value of the arguments, on every row. -/
theorem final (c : Dev nD) (hq : ∀ i, ∃ a : ℝ, m ((c : Thread nD τ).loc main_arg0) i = (a : EReal))
    (hk : ∀ i, ∃ a : ℝ, m ((c : Thread nD τ).loc main_arg1) i = (a : EReal)) :
    (dats m 0 c).arrAt 3 cfg0.N
      = target (m ((c : Thread nD τ).loc main_arg0)) (m ((c : Thread nD τ).loc main_arg1)) (m ((c : Thread nD τ).loc main_arg2))
          (m ((c : Thread nD τ).loc main_arg3)) := by
  refine (dats m 0 c).arrAt_eq_of_coversWhere_of_agree 3 _ (fun β => 64 ≤ β 0) covers (fun t hf y => ?_) (fun j hj => ?_)
  · blk_simp
    rw [after0_3]
    exact point m c hq hk t y _ (by blk_simp [idx t]; try omega) (by blk_simp [idx t]; try omega)
  · rw [A_eq]
    refine (congrFun (V_given m c) _).trans (Cert.Reference15Ideal.AttnContext.result_latent _ _ _ _ _ ?_).symm
    blk_simp [Pipeline.Window.cell_apply] at hj ⊢
    omega

end Cert.Kernel15Ideal.AttnContext

namespace Cert.AttnContext

variable (m : (ℓ : Loc Cert.Kernel15Ideal.nD Cert.Kernel15Ideal.τ Cert.Kernel15Ideal.sig) → Buf (Elt Ideal) ℓ)

/-- Under the precondition every query is a real number. -/
theorem real_q (h : Cert.Pre_Kernel15Ideal_finite_context_qk m) (c : Dev Cert.Kernel15Ideal.nD) (i : Cert.Kernel15Ideal.S17408x4096.Idx) :
    ∃ a : ℝ, m ((c.tc : Thread Cert.Kernel15Ideal.nD Cert.Kernel15Ideal.τ).loc Cert.Kernel15Ideal.main_arg0) i = (a : EReal) :=
  Cert.Attn.real_of_abs_lt _ (congrFun (h c).1 i)

/-- Under the precondition every key is a real number. -/
theorem real_k (h : Cert.Pre_Kernel15Ideal_finite_context_qk m) (c : Dev Cert.Kernel15Ideal.nD) (i : Cert.Kernel15Ideal.S17408x1024.Idx) :
    ∃ a : ℝ, m ((c.tc : Thread Cert.Kernel15Ideal.nD Cert.Kernel15Ideal.τ).loc Cert.Kernel15Ideal.main_arg1) i = (a : EReal) :=
  Cert.Attn.real_of_abs_lt _ (congrFun (h c).2 i)

/-- The printed kernel runs, keeps its arguments and ends quiescent. -/
theorem frame_kernel : Cert.quiescent_Kernel15 := fun m ρ _ => Cert.Kernel15.Gen.frame m ρ

/-- So does the idealized kernel. -/
theorem frame_ideal : Cert.quiescent_Kernel15Ideal := fun m ρ _ => Cert.Kernel15Ideal.Gen.frame m ρ

/-- The same under the precondition. -/
theorem frame_ideal_pre : Cert.quiescent_Kernel15Ideal_pre_finite_context_qk := fun m ρ _ => Cert.Kernel15Ideal.Gen.frame m ρ

/-- So does the reference, a host program without semaphores. -/
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The same under the precondition. -/
theorem frame_reference_pre : Cert.quiescent_Reference15Ideal_pre_finite_context_qk := fun m ρ _ => frame_reference m ρ trivial

/-- THE VALUE: over the extended reals, with finite queries and keys, the kernel and the reference leave the same array. -/
theorem algebraic : Cert.algebraic_Kernel15Ideal_Reference15Ideal_pre_finite_context_qk := by
  intro m ρ m' ρ' hpre hagree
  refine ⟨fun c => Cert.Kernel15Ideal.AttnContext.target
    (m ((c.tc : Thread Cert.Kernel15Ideal.nD Cert.Kernel15Ideal.τ).loc Cert.Kernel15Ideal.main_arg0))
    (m ((c.tc : Thread Cert.Kernel15Ideal.nD Cert.Kernel15Ideal.τ).loc Cert.Kernel15Ideal.main_arg1))
    (m ((c.tc : Thread Cert.Kernel15Ideal.nD Cert.Kernel15Ideal.τ).loc Cert.Kernel15Ideal.main_arg2))
    (m ((c.tc : Thread Cert.Kernel15Ideal.nD Cert.Kernel15Ideal.τ).loc Cert.Kernel15Ideal.main_arg3)), ?_, ?_⟩
  · exact (θ_run Cert.Kernel15Ideal.defs _ _).mono
      (fun r h c => ⟨((h.1 c).1 3).trans (Cert.Kernel15Ideal.AttnContext.final m c (real_q m hpre c) (real_k m hpre c)), h.2 c⟩)
      (θ_run_and (Cert.Kernel15Ideal.Gen.run_main m ρ) (Cert.Kernel15Ideal.Gen.unchanged m ρ))
  · refine (θ_run Cert.Reference15Ideal.defs _ _).mono (fun r h c => ⟨?_, (h c).2⟩)
      (Cert.Reference15Ideal.Value.run (F := Ideal) m' ρ')
    rw [(h c).1, Cert.Reference15Ideal.Read.val_main_v27_eq, (hagree c).1, (hagree c).2.1, (hagree c).2.2.1, (hagree c).2.2.2]
    rfl

end Cert.AttnContext

end
-- ==== Proof.NormFloat.lean ====
/-
  The modulated norm with a float32 result (`Kernel17` / `Kernel17Ideal` against `Reference17Ideal`): the row of `NormMod` at the
  modulation table's rows 1 and 0, not rounded; then the claims.
-/
module

public import proofs.«01_k».proof.Defs
public import proofs.«01_k».proof.Proof.NormMod
public import proofs.«01_k».proof.Proof.Gen.Kernel17.Frame
public import proofs.«01_k».proof.Proof.Gen.Kernel17Ideal.Frame
public import proofs.«01_k».proof.Proof.Gen.Reference17Ideal.Read
public import Idealize.ShloMosaic.Lib.Claim
public import Idealize.ShloMosaic.Lib.Pointwise
public import Idealize.ShloMosaic.Lib.IdealHost
public import Idealize.ShloMosaic.Lib.Pipeline.ValueKit

@[expose] public section

noncomputable section

open Idealize.ShloMosaic Idealize.SL.Sem

namespace Cert.Reference17Ideal.NormFloat

open Cert.Reference17Ideal Cert.Reference17Ideal.Gen Cert.Reference17Ideal.Read

/-- The reference's scale at row `R` and column `C`. -/
theorem scale_apply (mod : FVec Ideal S6x8x1x4096 .f32) (R : Fin 17408) (C : Fin 4096) :
    val_main_v21 (F := Ideal) mod (ix2 R C) = mod (ix4 (1 : Fin 6) (Gated.gateRow R) (0 : Fin 1) C) := by
  pointwise [val_main_v21, val_main_v20, val_main_v19, val_main_v18, val_main_v17, val_main_v16, val_main_v15, val_main_v14, val_main_v13]
  split
  · rfl
  · exact congrArg (fun b => mod (ix4 (1 : Fin 6) b (0 : Fin 1) C)) (Fin.ext (show 4 = R.val / 4096 by omega))

/-- The reference's shift at row `R` and column `C`. -/
theorem shift_apply (mod : FVec Ideal S6x8x1x4096 .f32) (R : Fin 17408) (C : Fin 4096) :
    val_main_v33 (F := Ideal) mod (ix2 R C) = mod (ix4 (0 : Fin 6) (Gated.gateRow R) (0 : Fin 1) C) := by
  pointwise [val_main_v33, val_main_v32, val_main_v31, val_main_v30, val_main_v29, val_main_v28, val_main_v27, val_main_v26, val_main_v25]
  split
  · rfl
  · exact congrArg (fun b => mod (ix4 (0 : Fin 6) b (0 : Fin 1) C)) (Fin.ext (show 4 = R.val / 4096 by omega))

/-- The reference's element. -/
theorem result_apply (x : FVec Ideal S17408x4096 .f32) (g : FVec Ideal S4096 .f32) (mod : FVec Ideal S6x8x1x4096 .f32)
    (R : Fin 17408) (C : Fin 4096) :
    val_main_v34 (F := Ideal) x g mod (ix2 R C)
      = NormRows.value (fun k => x (ix2 R k)) C (g (ix1 C)) (mod (ix4 (1 : Fin 6) (Gated.gateRow R) (0 : Fin 1) C))
          (mod (ix4 (0 : Fin 6) (Gated.gateRow R) (0 : Fin 1) C)) := by
  rw [← scale_apply mod R C, ← shift_apply mod R C]
  unfold NormRows.value
  pointwise [val_main_v34, val_main_v24, val_main_v23, val_main_v22, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

end Cert.Reference17Ideal.NormFloat

namespace Cert.Kernel17Ideal.NormFloat

open Cert.Kernel17Ideal Cert.Kernel17Ideal.Gen TcCoe

/-- One element of what a point stores, over the entries of its blocks. -/
theorem element (x : Vec Ideal S512x4096 .f32) (g : Vec Ideal S1x4096 .f32) (s b : Vec Ideal S1x1x1x4096 .f32) (i : Fin 512)
    (j : Fin 4096) (row : Fin 4096 → EReal) (gain scale shift : EReal) (hx : ∀ k, x (ix2 i k) = row k)
    (hg : g (ix2 (0 : Fin 1) j) = gain) (hs : s (ix4 (0 : Fin 1) (0 : Fin 1) (0 : Fin 1) j) = scale)
    (hb : b (ix4 (0 : Fin 1) (0 : Fin 1) (0 : Fin 1) j) = shift) :
    k0_pay1 (F := Ideal) x g s b (ix2 i j) = NormRows.value row j gain scale shift := by
  rw [← hg, ← hs, ← hb, ← show (fun k => x (ix2 i k)) = row from funext hx]
  unfold NormRows.value
  pointwise [k0_pay1]

variable (m : (ℓ : Loc nD τ sig) → Buf (Elt Ideal) ℓ)

/-- The blocks of point `t`: 512 rows; of the modulation table rows 0 and 1 at the rows' batch element. -/
theorem idx : ∀ t : Fin cfg0.N, win0_0.index t = ![t.val, 0] ∧ win0_1.index t = ![0, 0]
    ∧ win0_2.index t = ![0, t.val / 8, 0, 0] ∧ win0_3.index t = ![1, t.val / 8, 0, 0] ∧ win0_4.index t = ![t.val, 0] :=
  (by decide +kernel : ∀ t : Fin grid0.N, _)

/-- The gain the kernel reads, as a row. -/
theorem V_gain (c : Dev nD) (C : Fin 4096) :
    (V m c main_v0 : FVec Ideal S1x4096 .f32) (ix2 (0 : Fin 1) C) = m ((c : Thread nD τ).loc main_arg1) (ix1 C) := by
  unfold V hostOps0
  after_results
  pointwise []

/-- What point `t` stores at row `i` and column `j` of its block is the reference's element there. -/
theorem point (c : Dev nD) (t : Fin cfg0.N) (i : Fin 512) (j : Fin 4096) (R : Fin 17408) (hR : R.val = t.val * 512 + i.val) :
    out0_4 (F := Ideal) (iblk m c 0 t) (iblk m c 1 t) (iblk m c 2 t) (iblk m c 3 t) (ix2 i j)
      = Cert.Reference17Ideal.Read.val_main_v34 (F := Ideal) (m ((c : Thread nD τ).loc main_arg0)) (m ((c : Thread nD τ).loc main_arg1))
          (m ((c : Thread nD τ).loc main_arg2)) (ix2 R j) := by
  have ht : t.val < 34 := t.isLt
  have hi := i.isLt
  rw [Cert.Reference17Ideal.NormFloat.result_apply]
  unfold out0_4
  frame_out
  refine element _ _ _ _ i j _ _ _ _ (fun k => ?_) ?_ ?_ ?_
  · show iblk m c 0 t (ix2 i k) = _
    blk_ext [iblk, V, idx t]
  · rw [← V_gain m c j]
    show iblk m c 1 t (ix2 0 j) = _
    blk_ext [iblk, idx t]
  · show iblk m c 3 t (ix4 0 0 0 j) = _
    blk_ext [iblk, V, idx t]
  · show iblk m c 2 t (ix4 0 0 0 j) = _
    blk_ext [iblk, V, idx t]

/-- THE RESULT ARRAY: after the run it is the reference's value of the arguments. -/
theorem final (c : Dev nD) :
    (dats m 0 c).arrAt 4 cfg0.N
      = Cert.Reference17Ideal.Read.val_main_v34 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  have ht : t.val < 34 := t.isLt
  have h0 : (y 0).val < 512 := (y 0).isLt
  blk_simp
  rw [after0_4, eq_ix2 y]
  refine (point m c t _ _ ⟨t.val * 512 + (y 0).val, ?_⟩ rfl).trans (congrArg _ ?_)
  · omega
  · blk_ext [idx t]

end Cert.Kernel17Ideal.NormFloat

namespace Cert.NormFloat

/-- The printed kernel runs, keeps its arguments and ends quiescent. -/
theorem frame_kernel : Cert.quiescent_Kernel17 := fun m ρ _ => Cert.Kernel17.Gen.frame m ρ

/-- So does the idealized kernel. -/
theorem frame_ideal : Cert.quiescent_Kernel17Ideal := fun m ρ _ => Cert.Kernel17Ideal.Gen.frame m ρ

/-- So does the reference, a host program without semaphores. -/
theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- THE VALUE: over the extended reals the kernel and the reference leave the same array, for every memory. -/
theorem algebraic : Cert.algebraic_Kernel17Ideal_Reference17Ideal := by
  intro m ρ m' ρ' _ hagree
  refine ⟨fun c => Cert.Reference17Ideal.Read.val_main_v34 (F := Ideal)
    (m ((c.tc : Thread Cert.Kernel17Ideal.nD Cert.Kernel17Ideal.τ).loc Cert.Kernel17Ideal.main_arg0))
    (m ((c.tc : Thread Cert.Kernel17Ideal.nD Cert.Kernel17Ideal.τ).loc Cert.Kernel17Ideal.main_arg1))
    (m ((c.tc : Thread Cert.Kernel17Ideal.nD Cert.Kernel17Ideal.τ).loc Cert.Kernel17Ideal.main_arg2)), ?_, ?_⟩
  · exact (θ_run Cert.Kernel17Ideal.defs _ _).mono
      (fun r h c => ⟨((h.1 c).1 4).trans (Cert.Kernel17Ideal.NormFloat.final m c), h.2 c⟩)
      (θ_run_and (Cert.Kernel17Ideal.Gen.run_main m ρ) (Cert.Kernel17Ideal.Gen.unchanged m ρ))
  · refine (θ_run Cert.Reference17Ideal.defs _ _).mono (fun r h c => ⟨?_, (h c).2⟩)
      (Cert.Reference17Ideal.Value.run (F := Ideal) m' ρ')
    rw [(h c).1, Cert.Reference17Ideal.Read.val_main_v34_eq, (hagree c).1, (hagree c).2.1, (hagree c).2.2]

end Cert.NormFloat

end
-- ==== Proof.NormFirst.lean ====
/-
  The modulated norm before the attention and the convolution (`Kernel18` / `Kernel18Ideal` against `Reference18Ideal`): the row
  of `NormMod` at the modulation table's rows 1 and 0; then the claims.
-/
module

public import proofs.«01_k».proof.Defs
public import proofs.«01_k».proof.Proof.NormMod
public import proofs.«01_k».proof.Proof.Gen.Kernel18.Frame
public import proofs.«01_k».proof.Proof.Gen.Kernel18Ideal.Frame
public import proofs.«01_k».proof.Proof.Gen.Reference18Ideal.Read
public import Idealize.ShloMosaic.Lib.Claim
public import Idealize.ShloMosaic.Lib.Pointwise
public import Idealize.ShloMosaic.Lib.IdealHost
public import Idealize.ShloMosaic.Lib.Pipeline.ValueKit

@[expose] public section

noncomputable section

open Idealize.ShloMosaic Idealize.SL.Sem

namespace Cert.Reference18Ideal.NormFirst

open Cert.Reference18Ideal Cert.Reference18Ideal.Gen Cert.Reference18Ideal.Read

/-- The reference's scale at row `R` and column `C`. -/
theorem scale_apply (mod : FVec Ideal S6x8x1x4096 .f32) (R : Fin 17408) (C : Fin 4096) :
    val_main_v21 (F := Ideal) mod (ix2 R C) = mod (ix4 (1 : Fin 6) (Gated.gateRow R) (0 : Fin 1) C) := by
  pointwise [val_main_v21, val_main_v20, val_main_v19, val_main_v18, val_main_v17, val_main_v16, val_main_v15, val_main_v14, val_main_v13]
  split
  · rfl
  · exact congrArg (fun b => mod (ix4 (1 : Fin 6) b (0 : Fin 1) C)) (Fin.ext (show 4 = R.val / 4096 by omega))

/-- The reference's shift at row `R` and column `C`. -/
theorem shift_apply (mod : FVec Ideal S6x8x1x4096 .f32) (R : Fin 17408) (C : Fin 4096) :
    val_main_v33 (F := Ideal) mod (ix2 R C) = mod (ix4 (0 : Fin 6) (Gated.gateRow R) (0 : Fin 1) C) := by
  pointwise [val_main_v33, val_main_v32, val_main_v31, val_main_v30, val_main_v29, val_main_v28, val_main_v27, val_main_v26, val_main_v25]
  split
  · rfl
  · exact congrArg (fun b => mod (ix4 (0 : Fin 6) b (0 : Fin 1) C)) (Fin.ext (show 4 = R.val / 4096 by omega))

/-- The reference's element. -/
theorem result_apply (x : FVec Ideal S17408x4096 .f32) (g : FVec Ideal S4096 .f32) (mod : FVec Ideal S6x8x1x4096 .f32)
    (R : Fin 17408) (C : Fin 4096) :
    val_main_v35 (F := Ideal) x g mod (ix2 R C)
      = NormRows.value (fun k => x (ix2 R k)) C (g (ix1 C)) (mod (ix4 (1 : Fin 6) (Gated.gateRow R) (0 : Fin 1) C))
          (mod (ix4 (0 : Fin 6) (Gated.gateRow R) (0 : Fin 1) C)) := by
  rw [← scale_apply mod R C, ← shift_apply mod R C]
  unfold NormRows.value
  pointwise [val_main_v35, val_main_v34, val_main_v24, val_main_v23, val_main_v22, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

end Cert.Reference18Ideal.NormFirst

namespace Cert.Kernel18Ideal.NormFirst

open Cert.Kernel18Ideal Cert.Kernel18Ideal.Gen TcCoe

/-- One element of what a point stores, over the entries of its blocks. -/
theorem element (x : Vec Ideal S512x4096 .f32) (g : Vec Ideal S1x4096 .f32) (s b : Vec Ideal S1x1x1x4096 .f32) (i : Fin 512)
    (j : Fin 4096) (row : Fin 4096 → EReal) (gain scale shift : EReal) (hx : ∀ k, x (ix2 i k) = row k)
    (hg : g (ix2 (0 : Fin 1) j) = gain) (hs : s (ix4 (0 : Fin 1) (0 : Fin 1) (0 : Fin 1) j) = scale)
    (hb : b (ix4 (0 : Fin 1) (0 : Fin 1) (0 : Fin 1) j) = shift) :
    k0_pay1 (F := Ideal) x g s b (ix2 i j) = NormRows.value row j gain scale shift := by
  rw [← hg, ← hs, ← hb, ← show (fun k => x (ix2 i k)) = row from funext hx]
  unfold NormRows.value
  pointwise [k0_pay1]

variable (m : (ℓ : Loc nD τ sig) → Buf (Elt Ideal) ℓ)

/-- The blocks of point `t`: 512 rows; of the modulation table rows 0 and 1 at the rows' batch element. -/
theorem idx : ∀ t : Fin cfg0.N, win0_0.index t = ![t.val, 0] ∧ win0_1.index t = ![0, 0]
    ∧ win0_2.index t = ![0, t.val / 8, 0, 0] ∧ win0_3.index t = ![1, t.val / 8, 0, 0] ∧ win0_4.index t = ![t.val, 0] :=
  (by decide +kernel : ∀ t : Fin grid0.N, _)

/-- The gain the kernel reads, as a row. -/
theorem V_gain (c : Dev nD) (C : Fin 4096) :
    (V m c main_v0 : FVec Ideal S1x4096 .f32) (ix2 (0 : Fin 1) C) = m ((c : Thread nD τ).loc main_arg1) (ix1 C) := by
  unfold V hostOps0
  after_results
  pointwise []

/-- What point `t` stores at row `i` and column `j` of its block is the reference's element there. -/
theorem point (c : Dev nD) (t : Fin cfg0.N) (i : Fin 512) (j : Fin 4096) (R : Fin 17408) (hR : R.val = t.val * 512 + i.val) :
    out0_4 (F := Ideal) (iblk m c 0 t) (iblk m c 1 t) (iblk m c 2 t) (iblk m c 3 t) (ix2 i j)
      = Cert.Reference18Ideal.Read.val_main_v35 (F := Ideal) (m ((c : Thread nD τ).loc main_arg0)) (m ((c : Thread nD τ).loc main_arg1))
          (m ((c : Thread nD τ).loc main_arg2)) (ix2 R j) := by
  have ht : t.val < 34 := t.isLt
  have hi := i.isLt
  rw [Cert.Reference18Ideal.NormFirst.result_apply]
  unfold out0_4
  frame_out
  refine element _ _ _ _ i j _ _ _ _ (fun k => ?_) ?_ ?_ ?_
  · show iblk m c 0 t (ix2 i k) = _
    blk_ext [iblk, V, idx t]
  · rw [← V_gain m c j]
    show iblk m c 1 t (ix2 0 j) = _
    blk_ext [iblk, idx t]
  · show iblk m c 3 t (ix4 0 0 0 j) = _
    blk_ext [iblk, V, idx t]
  · show iblk m c 2 t (ix4 0 0 0 j) = _
    blk_ext [iblk, V, idx t]

/-- THE RESULT ARRAY: after the run it is the reference's value of the arguments. -/
theorem final (c : Dev nD) :
    (dats m 0 c).arrAt 4 cfg0.N
      = Cert.Reference18Ideal.Read.val_main_v35 (F := Ideal) (m ((c : Thread nD τ).loc main_arg0)) (m ((c : Thread nD τ).loc main_arg1))
          (m ((c : Thread nD τ).loc main_arg2)) := by
  refine (dats m 0 c).arrAt_eq_of_covers 4 _ (by decide +kernel) fun t hf y => ?_
  have ht : t.val < 34 := t.isLt
  have h0 : (y 0).val < 512 := (y 0).isLt
  blk_simp
  rw [after0_4, eq_ix2 y]
  refine (point m c t _ _ ⟨t.val * 512 + (y 0).val, ?_⟩ rfl).trans (congrArg _ ?_)
  · omega
  · blk_ext [idx t]

end Cert.Kernel18Ideal.NormFirst

namespace Cert.NormFirst

/-- The printed kernel runs, keeps its arguments and ends quiescent. -/
theorem frame_kernel : Cert.quiescent_Kernel18 := fun m ρ _ => Cert.Kernel18.Gen.frame m ρ

/-- So does the idealized kernel. -/
theorem frame_ideal : Cert.quiescent_Kernel18Ideal := fun m ρ _ => Cert.Kernel18Ideal.Gen.frame m ρ

/-- So does the reference, a host program without semaphores. -/
theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- THE VALUE: over the extended reals the kernel and the reference leave the same array, for every memory. -/
theorem algebraic : Cert.algebraic_Kernel18Ideal_Reference18Ideal := by
  intro m ρ m' ρ' _ hagree
  refine ⟨fun c => Cert.Reference18Ideal.Read.val_main_v35 (F := Ideal)
    (m ((c.tc : Thread Cert.Kernel18Ideal.nD Cert.Kernel18Ideal.τ).loc Cert.Kernel18Ideal.main_arg0))
    (m ((c.tc : Thread Cert.Kernel18Ideal.nD Cert.Kernel18Ideal.τ).loc Cert.Kernel18Ideal.main_arg1))
    (m ((c.tc : Thread Cert.Kernel18Ideal.nD Cert.Kernel18Ideal.τ).loc Cert.Kernel18Ideal.main_arg2)), ?_, ?_⟩
  · exact (θ_run Cert.Kernel18Ideal.defs _ _).mono
      (fun r h c => ⟨((h.1 c).1 4).trans (Cert.Kernel18Ideal.NormFirst.final m c), h.2 c⟩)
      (θ_run_and (Cert.Kernel18Ideal.Gen.run_main m ρ) (Cert.Kernel18Ideal.Gen.unchanged m ρ))
  · refine (θ_run Cert.Reference18Ideal.defs _ _).mono (fun r h c => ⟨?_, (h c).2⟩)
      (Cert.Reference18Ideal.Value.run (F := Ideal) m' ρ')
    rw [(h c).1, Cert.Reference18Ideal.Read.val_main_v35_eq, (hagree c).1, (hagree c).2.1, (hagree c).2.2]

end Cert.NormFirst

end
-- ==== Proof.LatentIdeal.lean ====
/-
  The first region of the whole attention (`Kernel19Ideal`): the latent rows' pipeline, its body run at a point and its proof data,
  over any contents of the buffers at the region's entry.
-/
module

public import proofs.«01_k».proof.Proof.Gen.Kernel19Ideal.Launch
public import proofs.«01_k».proof.Proof.Gen.Kernel19Ideal.Skeleton
public import proofs.«01_k».proof.Proof.Gen.Kernel19Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel19Ideal.Latent

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- A core's buffers as the region finds them. -/
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- A default for the part of a staging buffer that no transfer fills: there is none. -/
def dflt0_1 : (cfg0.win 1).block.Idx → Elt F (cfg0.win 1).elt := fun _ => Classical.choice inferInstance
/-- What the window's staging buffer holds when the body runs: its block. -/
def X0_1 (c : Dev nD) (t : Fin cfg0.N) : (cfg0.win 1).block.Idx → Elt F (cfg0.win 1).elt :=
  (cfg0.win 1).fill (cfg0.grid.coords t) dflt0_1 (iblk V c 1 t)
/-- No block the grid reaches is cut. -/
theorem xsize0_1 : ∀ t : Fin cfg0.N, ∀ a, (cfg0.win 1).xsize (cfg0.grid.coords t) a = (cfg0.win 1).size a := by decide +kernel
/-- Every index of the block is moved. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill covers the whole buffer, whatever it held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- The input's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = X0_1 V c t) (t : Fin cfg0.N) (d) : dat.before 1 t d = X0_1 V c t :=
  (dat.before_in_eq_fetched 1 rfl (fun _ => rfl)
      (fun t t' h => funext fun a => congrArg (fun n => Pipeline.Clip.of n ((cfg0.win 1).size a) (S17408x1024.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- The input's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- A default for the part of a staging buffer that no transfer fills: there is none. -/
def dflt0_3 : (cfg0.win 3).block.Idx → Elt F (cfg0.win 3).elt := fun _ => Classical.choice inferInstance
/-- What the window's staging buffer holds when the body runs: its block. -/
def X0_3 (c : Dev nD) (t : Fin cfg0.N) : (cfg0.win 3).block.Idx → Elt F (cfg0.win 3).elt :=
  (cfg0.win 3).fill (cfg0.grid.coords t) dflt0_3 (iblk V c 3 t)
/-- No block the grid reaches is cut. -/
theorem xsize0_3 : ∀ t : Fin cfg0.N, ∀ a, (cfg0.win 3).xsize (cfg0.grid.coords t) a = (cfg0.win 3).size a := by decide +kernel
/-- Every index of the block is moved. -/
theorem moved0_3 (t : Fin cfg0.N) (j : (cfg0.win 3).block.Idx) : (cfg0.win 3).moved (cfg0.grid.coords t) j = true :=
  ((cfg0.win 3).moved_iff _ j).mpr fun a => by rw [xsize0_3 t a]; exact (j a).isLt
/-- A fill covers the whole buffer, whatever it held. -/
theorem fill0_3 (t : Fin cfg0.N) (d d' : (cfg0.win 3).block.Idx → Elt F (cfg0.win 3).elt) (g) :
    (cfg0.win 3).fill (cfg0.grid.coords t) d g = (cfg0.win 3).fill (cfg0.grid.coords t) d' g := by
  funext j; unfold Pipeline.Window.fill; rw [dif_pos (moved0_3 t j), dif_pos (moved0_3 t j)]
/-- The input's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = X0_3 V c t) (t : Fin cfg0.N) (d) : dat.before 3 t d = X0_3 V c t :=
  (dat.before_in_eq_fetched 3 rfl (fun _ => rfl)
      (fun t t' h => funext fun a => congrArg (fun n => Pipeline.Clip.of n ((cfg0.win 3).size a) (S17408x1024.size a)) (congrFun h a))
      (fun t => by rw [hafter]; unfold X0_3; rw [Pipeline.Window.cut_fill]; unfold Dat.blockOf iblk; rw [hA]; try rfl) t d).trans
    (by unfold Dat.fetched X0_3; rw [fill0_3 t d dflt0_3]; unfold Dat.blockOf iblk; rw [hA]; try rfl)
/-- The input's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A staging buffer of the result, through which its contents are stated. -/
abbrev VO0_5 : View sig .tc .vmem S256x512 .bf16 := (Memref.whole cc0_stg5_0 : Memref sig .tc .vmem S256x512 .bf16).view
/-- The staging memref of a window at point `t`, and its wholeness. -/
abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)

set_option maxHeartbeats 1000000 in
/-- The body on any whole staging memrefs: run to its end, it leaves the inputs as they were and the result's buffer with
    the pieces its stores write, which the run finds. -/
noncomputable def kernelRun0_A (c : Dev nD) (i : grid0.Coords) (arg3 : Memref sig .tc .vmem S256x512 .bf16) (harg3 : arg3.IsWhole) (arg4 : Memref sig .tc .vmem S4096x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x512 .bf16) (harg8 : arg8.IsWhole)
    (x0 : Vec F S256x512 .bf16) (x1 : Vec F S4096x128 .bf16) (x2 : Vec F S256x128 .bf16) (x3 : Vec F S4096x128 .bf16) (x4 : Vec F S256x128 .bf16) :
    { L5 : List (View.Piece (Elt F) S256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc0_attn_latent i arg3 harg3 arg4 harg4 arg5 harg5 arg6 harg6 arg7 harg7 arg8 harg8) K } := by
  refine ⟨?_, fun E K => ?run⟩
  case run =>
    simp only [cc0_attn_latent_eq_skeleton]; unfold cc0_attn_latent_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

/-- The pieces tile the result's block, so they cover it. -/
theorem cover0_A_5 (c : Dev nD) (i : grid0.Coords) (arg3 : Memref sig .tc .vmem S256x512 .bf16) (harg3 : arg3.IsWhole) (arg4 : Memref sig .tc .vmem S4096x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x512 .bf16) (harg8 : arg8.IsWhole)
    (x0 : Vec F S256x512 .bf16) (x1 : Vec F S4096x128 .bf16) (x2 : Vec F S256x128 .bf16) (x3 : Vec F S4096x128 .bf16) (x4 : Vec F S256x128 .bf16) (y : S256x512.Idx) :
    ∃ pc ∈ (kernelRun0_A c i arg3 harg3 arg4 harg4 arg5 harg5 arg6 harg6 arg7 harg7 arg8 harg8 x0 x1 x2 x3 x4).1, y ∈ pc.1.set :=
  View.cover_of_tiledL (kernelRun0_A c i arg3 harg3 arg4 harg4 arg5 harg5 arg6 harg6 arg7 harg7 arg8 harg8 x0 x1 x2 x3 x4).1 S256x128.size (by sl_kernel_rfl) y

/-- What the run leaves in the result's staging buffer. -/
def out0_A_5 (c : Dev nD) (i : grid0.Coords) (arg3 : Memref sig .tc .vmem S256x512 .bf16) (harg3 : arg3.IsWhole) (arg4 : Memref sig .tc .vmem S4096x128 .bf16) (harg4 : arg4.IsWhole) (arg5 : Memref sig .tc .vmem S256x128 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x512 .bf16) (harg8 : arg8.IsWhole)
    (x0 : Vec F S256x512 .bf16) (x1 : Vec F S4096x128 .bf16) (x2 : Vec F S256x128 .bf16) (x3 : Vec F S4096x128 .bf16) (x4 : Vec F S256x128 .bf16) : Vec F S256x512 .bf16 :=
  VO0_5.read (Elt F) (VO0_5.writes (Elt F) VO0_5.junk (kernelRun0_A c i arg3 harg3 arg4 harg4 arg5 harg5 arg6 harg6 arg7 harg7 arg8 harg8 x0 x1 x2 x3 x4).1)

/-- The same at point `t`, over the point's blocks. -/
def outsAt0 (c : Dev nD) (t : Fin cfg0.N) : Vec F S256x512 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (X0_1 V c t) (iblk V c 2 t) (X0_3 V c t) (iblk V c 4 t)

/-- The pipeline's proof data: the arrays as the region finds them; after the body each input's buffer at its block and the
    result's at the run's contents; the scoped rest and the generator register ride along; nothing is owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => X0_1 V c t
    | ⟨2, _⟩ => iblk V c 2 t
    | ⟨3, _⟩ => X0_3 V c t
    | ⟨4, _⟩ => iblk V c 4 t
    | ⟨5, _⟩ => (outsAt0 V c t)
  Φ _ := Pipeline.ΦA spec0 c
  q w := Pipeline.shareOf spec0 w
  owed _ := 0

/-- The proof data's arrays are the contents at the region's entry. -/
theorem A_eq (c : Dev nD) (w : Fin cfg0.W) : (dat V c).A w = V c (Pipeline.arrRef spec0 w) := by
  dsimp only [dat]

/-- What the body leaves in a window's buffer. -/
theorem after0_0 (c : Dev nD) (t : Fin cfg0.N) : (dat V c).after 0 t = iblk V c 0 t := by dsimp only [dat]
theorem after0_1 (c : Dev nD) (t : Fin cfg0.N) : (dat V c).after 1 t = X0_1 V c t := by dsimp only [dat]
theorem after0_2 (c : Dev nD) (t : Fin cfg0.N) : (dat V c).after 2 t = iblk V c 2 t := by dsimp only [dat]
theorem after0_3 (c : Dev nD) (t : Fin cfg0.N) : (dat V c).after 3 t = X0_3 V c t := by dsimp only [dat]
theorem after0_4 (c : Dev nD) (t : Fin cfg0.N) : (dat V c).after 4 t = iblk V c 4 t := by dsimp only [dat]
theorem after0_5 (c : Dev nD) (t : Fin cfg0.N) : (dat V c).after 5 t = (outsAt0 V c t) := by dsimp only [dat]

/-- The input's staging buffer holds its block at every point, fetched there or not. -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = X0_1 V c t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = X0_3 V c t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- What it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4]
  rw [show (dat V c).Φ t.succ = (dat V c).Φ t.castSucc from rfl,
    show (dat V c).owesAt () t.succ = (dat V c).owesAt () t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk V c 0 t) (X0_1 V c t) (iblk V c 2 t) (X0_3 V c t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _)

/-- The body table's row at the point's slots is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel19Ideal.Latent

end
-- ==== Proof.ContextIdeal.lean ====
/-
  The second region of the whole attention (`Kernel19Ideal`): the context rows' pipeline, its body run at a point and its proof data,
  over any contents of the buffers at the region's entry.
-/
module

public import proofs.«01_k».proof.Proof.Gen.Kernel19Ideal.Launch
public import proofs.«01_k».proof.Proof.Gen.Kernel19Ideal.Skeleton
public import proofs.«01_k».proof.Proof.Gen.Kernel19Ideal.Points
public import proofs.«01_k».proof.Proof.LatentIdeal
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel19Ideal.Context

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- A core's buffers as the region finds them. -/
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The input's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The input's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A staging buffer of the result, through which its contents are stated. -/
abbrev VO1_3 : View sig .tc .vmem S256x512 .bf16 := (Memref.whole cc1_stg3_0 : Memref sig .tc .vmem S256x512 .bf16).view
/-- The staging memref of a window at point `t`, and its wholeness. -/
abbrev ms1_0 (t : Fin cfg1.N) : Memref sig .tc .vmem S256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .bf16 := win1_3.stage (cfg1.slots t 3)
abbrev hs1_3 (t : Fin cfg1.N) : (ms1_3 t).IsWhole := hstage1_3 ((cfg1.slots t 3).cast nbuf1_3)

set_option maxHeartbeats 1000000 in
/-- The body on any whole staging memrefs: run to its end, it leaves the inputs as they were and the result's buffer with
    the pieces its stores write, which the run finds. -/
noncomputable def kernelRun1_A (c : Dev nD) (i : grid1.Coords) (arg2 : Memref sig .tc .vmem S256x512 .bf16) (harg2 : arg2.IsWhole) (arg3 : Memref sig .tc .vmem S256x128 .bf16) (harg3 : arg3.IsWhole) (arg4 : Memref sig .tc .vmem S256x128 .bf16) (harg4 : arg4.IsWhole) (arg6 : Memref sig .tc .vmem S256x512 .bf16) (harg6 : arg6.IsWhole)
    (x0 : Vec F S256x512 .bf16) (x1 : Vec F S256x128 .bf16) (x2 : Vec F S256x128 .bf16) :
    { L3 : List (View.Piece (Elt F) S256x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc1_attn_context i arg2 harg2 arg3 harg3 arg4 harg4 (Memref.whole main_v0) (Memref.isWhole_whole _) arg6 harg6) K } := by
  refine ⟨?_, fun E K => ?run⟩
  case run =>
    simp only [cc1_attn_context_eq_skeleton]; unfold cc1_attn_context_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The pieces tile the result's block, so they cover it. -/
theorem cover1_A_3 (c : Dev nD) (i : grid1.Coords) (arg2 : Memref sig .tc .vmem S256x512 .bf16) (harg2 : arg2.IsWhole) (arg3 : Memref sig .tc .vmem S256x128 .bf16) (harg3 : arg3.IsWhole) (arg4 : Memref sig .tc .vmem S256x128 .bf16) (harg4 : arg4.IsWhole) (arg6 : Memref sig .tc .vmem S256x512 .bf16) (harg6 : arg6.IsWhole)
    (x0 : Vec F S256x512 .bf16) (x1 : Vec F S256x128 .bf16) (x2 : Vec F S256x128 .bf16) (y : S256x512.Idx) :
    ∃ pc ∈ (kernelRun1_A c i arg2 harg2 arg3 harg3 arg4 harg4 arg6 harg6 x0 x1 x2).1, y ∈ pc.1.set :=
  View.cover_of_tiledL (kernelRun1_A c i arg2 harg2 arg3 harg3 arg4 harg4 arg6 harg6 x0 x1 x2).1 S256x128.size (by sl_kernel_rfl) y

/-- What the run leaves in the result's staging buffer. -/
def out1_A_3 (c : Dev nD) (i : grid1.Coords) (arg2 : Memref sig .tc .vmem S256x512 .bf16) (harg2 : arg2.IsWhole) (arg3 : Memref sig .tc .vmem S256x128 .bf16) (harg3 : arg3.IsWhole) (arg4 : Memref sig .tc .vmem S256x128 .bf16) (harg4 : arg4.IsWhole) (arg6 : Memref sig .tc .vmem S256x512 .bf16) (harg6 : arg6.IsWhole)
    (x0 : Vec F S256x512 .bf16) (x1 : Vec F S256x128 .bf16) (x2 : Vec F S256x128 .bf16) : Vec F S256x512 .bf16 :=
  VO1_3.read (Elt F) (VO1_3.writes (Elt F) VO1_3.junk (kernelRun1_A c i arg2 harg2 arg3 harg3 arg4 harg4 arg6 harg6 x0 x1 x2).1)

/-- The same at point `t`, over the point's blocks. -/
def outsAt1 (c : Dev nD) (t : Fin cfg1.N) : Vec F S256x512 .bf16 :=
  out1_A_3 c (grid1.coords t) (ms1_0 t) (hs1_0 t) (ms1_1 t) (hs1_1 t) (ms1_2 t) (hs1_2 t) (ms1_3 t) (hs1_3 t) (iblk V c 0 t) (iblk V c 1 t) (iblk V c 2 t)

/-- The pipeline's proof data: the arrays as the region finds them; after the body each input's buffer at its block and the
    result's at the run's contents; the scoped rest and the generator register ride along; nothing is owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 V c t)
  Φ _ := Pipeline.ΦA spec1 c
  q _ := fullShare
  owed _ := 0

/-- The proof data's arrays are the contents at the region's entry. -/
theorem A_eq (c : Dev nD) (w : Fin cfg1.W) : (dat V c).A w = V c (Pipeline.arrRef spec1 w) := by
  dsimp only [dat]

/-- What the body leaves in a window's buffer. -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = (outsAt1 V c t) := by dsimp only [dat]

/-- The input's staging buffer holds its block at every point, fetched there or not. -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d)))

/-- What it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat V c).Φ t.succ = (dat V c).Φ t.castSucc from rfl,
    show (dat V c).owesAt () t.succ = (dat V c).owesAt () t.castSucc from rfl,
    after1_0, after1_1, after1_2, after1_3]
  unfold outsAt1
  unfold out1_A_3
  iintro ⟨HΦ, Ho, ⟨%d0, H0⟩, ⟨%d1, H1⟩, ⟨%d2, H2⟩, ⟨%d3, H3⟩⟩
  iapply ((kernelRun1_A c (grid1.coords t) _ _ _ _ _ _ _ _ (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _)

/-- The body table's row at the point's slots is the body. -/
theorem defs₀_row (t : Fin cfg1.N) :
    defs₀ (F := F) .tc cfg1.body (cfg1.bodyArgs t (cfg1.slots t)) = bodyAt1 t := by
  unfold defs₀; rw [Defs.onTc_tc]

/-- The body obligation of the pipeline, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel19Ideal.Context

end
-- ==== Proof.WholeIdeal.lean ====
/-
  The whole attention (`Kernel19Ideal`) run from its launch: the region of the latent rows, the copy of its result, the region of the context
  rows. Between the items a core holds its unscoped buffers at the contents the items before left, beside its generator register,
  and owes nothing. The run ends with the arguments kept and the result at what the context region's pipeline leaves.
-/
module

public import proofs.«01_k».proof.Proof.ContextIdeal
public import proofs.«01_k».proof.Proof.Gen.Kernel19Ideal.Regions
public import Idealize.ShloMosaic.Lib.Pipeline.RegionArraysS
public import Idealize.ShloMosaic.Lib.Pipeline.RegionArraysD

@[expose] public section

set_option maxRecDepth 16384

noncomputable section

namespace Cert.Kernel19Ideal.Whole

open Cert.Kernel19Ideal Cert.Kernel19Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the first region finds them. -/
abbrev Va (c : Dev nD) (b : Ref sig .tc) : Buf (Elt F) ((c : Thread nD τ).loc b) := m ((c : Thread nD τ).loc b)

/-- What the first region leaves in the array it writes. -/
def latentOut (c : Dev nD) : Buf (Elt F) ((c : Thread nD τ).loc main_v0) := (Latent.dat (Va m) c).arrAt 5 cfg0.N

/-- The contents after the first region, as a valuation. -/
abbrev W1 (c : Dev nD) : Valuation τ sig (Elt F) := Function.update (V0 m c) main_v0 (latentOut m c)

/-- The contents after the copy. -/
abbrev W2 (c : Dev nD) : Valuation τ sig (Elt F) := StableHlo.after hostOps1 (W1 m c)

/-- The buffers as the second region finds them. -/
abbrev Vb (c : Dev nD) (b : Ref sig .tc) : Buf (Elt F) ((c : Thread nD τ).loc b) := W2 m c b

/-- What the second region leaves in the array it writes: the program's result. -/
def contextOut (c : Dev nD) : Buf (Elt F) ((c : Thread nD τ).loc main_v1) := (Context.dat (Vb m) c).arrAt 3 cfg1.N

/-- The contents the regions leave. -/
def outs : Outs (F := F) := fun j r c =>
  if j = 1 then W1 m c r else Function.update (W2 m c) main_v1 (contextOut m c) r

theorem outs_one (c : Dev nD) : outs m 1 main_v0 c = latentOut m c := by
  unfold outs
  rw [if_pos rfl]
  exact Function.update_self ..

theorem V1_eq (c : Dev nD) : V1 m (outs m) c = W1 m c := by
  unfold V1 W1
  rw [outs_one]

theorem V2_eq (c : Dev nD) : V2 m (outs m) c = W2 m c := by
  unfold V2 W2
  rw [V1_eq]

theorem outs_result (c : Dev nD) : outs m 3 main_v1 c = contextOut m c := by
  unfold outs
  rw [if_neg (by decide)]
  exact Function.update_self ..

theorem outs_kept (c : Dev nD) : outs m 3 main_v0 c = W2 m c main_v0 := by
  unfold outs
  rw [if_neg (by decide)]
  exact Function.update_of_ne (StableHlo.devRef_ne_of_ne (by decide)) ..

/-- The proof data of the two pipelines. -/
abbrev pdats (p : Fin 2) (c : Dev nD) : Dat τ (Elt F) Unit ℕ (UR sig nD τ) ℕ (cfgs p) c :=
  match p with
  | ⟨0, _⟩ => Latent.dat (Va m) c
  | ⟨1, _⟩ => Context.dat (Vb m) c

/-- The waits' indices: one at every cell of a TensorCore. -/
abbrev L (g : GSem nD τ sig) : Finset Unit := if g.1.2 = .tc then {()} else ∅

/-- One level. -/
abbrev lv (_ : GSem nD τ sig) (_ : Unit) : ℕ := 0

/-- Nothing is owed, so every staging wait is allowed. -/
theorem cut (p : Fin 2) : Pipeline.LevelCut (nD := nD) (τ := τ) (pcfgs (F := F)) adm () L lv p (fun _ => 0) (fun _ => 0) where
  hι := fun c w s => by unfold L; rw [if_pos rfl]; exact Finset.mem_singleton_self _
  hιb := fun c w s => le_rfl
  hD := fun c g i h => absurd h (by simp)

/-- What rides beside the buffers. -/
abbrev X (c : Dev nD) : sProp 𝕄 := iprop(∃ r, prngReg c r)

/-- What the core holds beside its buffers between two items. -/
abbrev E (_ : Fin 3) (c : Dev nD) : sProp 𝕄 := iprop((∃ W, owes (c : Thread nD τ) (0 : CellTallies nD τ sig Unit) W) ∗ X c)

/-- The class's layout of the first region, in the kit's form. -/
theorem kit0 : Pipeline.PLaunchFacts₀ (nD := nD) (τ := τ) (pcfgs (F := F)) 0 := launch₀0.toP

theorem kit1 : Pipeline.PLaunchFacts (nD := nD) (τ := τ) (pcfgs (F := F)) 1 := launch1.toP

/-- The unscoped buffers at a valuation are the first region's arrays, at contents the valuation has, and the rest. -/
theorem split0 (c : Dev nD) (W : Valuation τ sig (Elt F))
    (A : (w : Fin cfg0.W) → Buf (Elt F) ((cfg0.win w).arr.view.loc (c.tc : Thread nD τ)))
    (hA : ∀ w, A w = W (Proc.devRef .tc (Pipeline.arrRef spec0 w))) :
    (StableHlo.held (c : Thread nD τ) (Pipeline.ucRefs τ sig) W : sProp 𝕄)
      = iprop((Latent.dat (Va m) c).arrays A ∗ Pipeline.unscopedRest (Ix := Unit) (Name := ℕ) (U := UR sig nD τ) (Lvl := ℕ) spec0 c (fun b => W b)) := by
  rw [← Pipeline.unscopedBufs_held (Ix := Unit) (Name := ℕ) (U := UR sig nD τ) (Lvl := ℕ) c W]
  rw [Pipeline.unscopedBufs_split₀ cfgs 0 winFacts₀0.arr_unscoped c]
  rw [show (Pipeline.arrBufs (cfgs 0).spec c (fun b => W (Proc.devRef .tc b)) : sProp 𝕄) = (Latent.dat (Va m) c).arrays A from
    (Latent.dat (Va m) c).arrBufs_eq_arrays sharedIn0 arr_whole0 (fun _ _ => rfl) _ A hA]
  rfl

/-- The first region's record. -/
def R0 : RegionSeg (pcfgs (F := F)) adm (pdats m) () defs₀ Variants.none L lv 0 :=
  RegionSeg.ofArrays (pcfgs (F := F)) adm (pdats m) () defs₀ Variants.none L lv 0 (fun _ => 0) X X kit0 rfl
    (fun c => (Latent.body_obligation (Va m) c).loose) (fun _ _ => rfl) (fun _ => rfl)
    (fun c => .rfl) (fun c => .rfl) (fun _ => 0) (cut 0)
    (fun c => Pipeline.unscopedRest (Ix := Unit) (Name := ℕ) (U := UR sig nD τ) (Lvl := ℕ) spec0 c (Va m c))

theorem pre0 (c : Dev nD) : iprop(StableHlo.held (c : Thread nD τ) (Pipeline.ucRefs τ sig) (V0 m c) ∗ E 0 c) ⊢ (R0 m).pre c := by
  show _ ⊢ iprop((Latent.dat (Va m) c).arrays ((Latent.dat (Va m) c).arrAt · 0) ∗ X c
    ∗ Pipeline.unscopedRest (Ix := Unit) (Name := ℕ) (U := UR sig nD τ) (Lvl := ℕ) spec0 c (Va m c)
    ∗ ∃ W, owes (c : Thread nD τ) (0 : CellTallies nD τ sig Unit) W)
  rw [split0 m c (V0 m c) ((Latent.dat (Va m) c).arrAt · 0) (fun w => Latent.A_eq (Va m) c w)]
  iintro ⟨⟨Ha, Hu⟩, HO, HX⟩
  isplitl [Ha]; · iexact Ha
  isplitl [HX]; · iexact HX
  isplitl [Hu]; · iexact Hu
  iexact HO

/-- The first region's arrays at its exit: the inputs as they were, the output at what it leaves. -/
theorem exit0 (c : Dev nD) (w : Fin cfg0.W) :
    (Latent.dat (Va m) c).arrAt w cfg0.N = W1 m c (Proc.devRef .tc (Pipeline.arrRef spec0 w)) := by
  have hin : ∀ w : Fin cfg0.W, (cfg0.win w).isOut = false → Pipeline.arrRef spec0 w ≠ main_v0 →
      (Latent.dat (Va m) c).arrAt w cfg0.N = W1 m c (Proc.devRef .tc (Pipeline.arrRef spec0 w)) := fun w h hne =>
    ((Latent.dat (Va m) c).arrAt_in w h _).trans ((Latent.A_eq (Va m) c w).trans
      (show V0 m c (Proc.devRef .tc (Pipeline.arrRef spec0 w)) = _ from
        (Function.update_of_ne (StableHlo.devRef_ne_of_ne hne) (latentOut m c) (V0 m c)).symm))
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact (Function.update_self (Proc.devRef .tc main_v0) (latentOut m c) (V0 m c)).symm

theorem post0 (c : Dev nD) : (R0 m).post c ⊢ iprop(StableHlo.held (c : Thread nD τ) (Pipeline.ucRefs τ sig) (V1 m (outs m) c) ∗ E 1 c) := by
  show iprop((Latent.dat (Va m) c).arrays ((Latent.dat (Va m) c).arrAt · cfg0.N) ∗ X c
    ∗ Pipeline.unscopedRest (Ix := Unit) (Name := ℕ) (U := UR sig nD τ) (Lvl := ℕ) spec0 c (Va m c)
    ∗ ∃ W, owes (c : Thread nD τ) (0 : CellTallies nD τ sig Unit) W) ⊢ _
  rw [V1_eq, split0 m c (W1 m c) ((Latent.dat (Va m) c).arrAt · cfg0.N) (exit0 m c), unscopedRest0_eq, unscopedRest0_eq]
  rw [show W1 m c (Proc.devRef .tc main_v1) = Va m c main_v1 from Function.update_of_ne (StableHlo.devRef_ne_of_ne (by decide)) _ _]
  iintro ⟨Ha, HX, Hu, HO⟩
  isplitl [Ha Hu]
  · isplitl [Ha]; · iexact Ha
    iexact Hu
  isplitl [HO]; · iexact HO
  iexact HX

/-- The second region's record. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) X X kit1 rfl
    (fun c => (Context.body_obligation (Vb m) c).loose) (fun _ _ => rfl) (fun _ => rfl)
    (fun c => (Context.dat (Vb m) c).share_full fun _ => rfl)
    (fun c => .rfl) (fun c => .rfl) (fun _ => 0) (cut 1) (fun _ => BI.emp) (W2 m) (fun c w => Context.A_eq (Vb m) c w)

/-- The second region's arrays are unscoped buffers. -/
theorem sub1 : Pipeline.arrRefs (τ := τ) (pcfgs (F := F) 1).spec ⊆ Pipeline.ucRefs τ sig :=
  Pipeline.arrRefs_sub_ucRefs (pcfgs (F := F) 1).spec winFacts1.arr_unscoped

theorem pre1 (c : Dev nD) : iprop(StableHlo.held (c : Thread nD τ) (Pipeline.ucRefs τ sig) (V2 m (outs m) c) ∗ E 1 c) ⊢ (R1 m).pre c := by
  rw [V2_eq]
  unfold R1
  refine BIBase.Entails.trans ?_ (RegionSeg.ofHeldIn_pre (sub1 (F := F)) c)
  iintro ⟨Hh, HO, HX⟩
  isplitl [Hh]; · iexact Hh
  isplitl [HO]; · iexact HO
  isplitl [HX]; · iexact HX
  iempintro

/-- The buffers after the second region. -/
theorem exit1 (c : Dev nD) (b : Ref sig .tc) :
    Pipeline.afterRegion (Context.dat (Vb m) c) (W2 m c) (Proc.devRef .tc b) = V3 m (outs m) c (Proc.devRef .tc b) := by
  unfold V3
  rw [outs_result, outs_kept, V2_eq]
  by_cases h1 : b = main_v1
  · subst h1
    rw [Function.update_of_ne (StableHlo.devRef_ne_of_ne (by decide)), Function.update_self]
    exact Pipeline.afterRegion_arr (Context.dat (Vb m) c) (W2 m c) winFacts1.arr_inj 3
  · rw [Pipeline.afterRegion_keeps (Context.dat (Vb m) c) (W2 m c) winFacts1.arr_inj (fun w => Context.A_eq (Vb m) c w) b (fun w hw => by
      match w with
      | ⟨0, _⟩ => rfl
      | ⟨1, _⟩ => rfl
      | ⟨2, _⟩ => rfl
      | ⟨3, _⟩ => exact absurd hw.symm h1)]
    by_cases h0 : b = main_v0
    · subst h0
      rw [Function.update_self]
    · rw [Function.update_of_ne (StableHlo.devRef_ne_of_ne h0), Function.update_of_ne (StableHlo.devRef_ne_of_ne h1)]

theorem post1 (c : Dev nD) : (R1 m).post c ⊢ iprop(StableHlo.held (c : Thread nD τ) (Pipeline.ucRefs τ sig) (V3 m (outs m) c) ∗ E 2 c) := by
  unfold R1
  refine BIBase.Entails.trans (RegionSeg.ofHeldIn_post (sub1 (F := F)) c) ?_
  rw [show (StableHlo.held (c.tc : Thread nD τ) (Pipeline.ucRefs τ sig) (Pipeline.afterRegion (pdats m 1 c) (W2 m c)) : sProp 𝕄)
      = StableHlo.held (c : Thread nD τ) (Pipeline.ucRefs τ sig) (V3 m (outs m) c) from
    StableHlo.held_congr (c.tc : Thread nD τ) fun b hb => by
      obtain ⟨r, -, rfl⟩ := Finset.mem_map.mp (Finset.mem_filter.mp hb).1
      exact exit1 m c r]
  iintro ⟨Hh, HO, HX, -⟩
  isplitl [Hh]; · iexact Hh
  isplitl [HO]; · iexact HO
  iexact HX

/-- The result at the end. -/
theorem V3_result (c : Dev nD) : V3 m (outs m) c main_v1 = contextOut m c := by
  show Function.update _ _ _ _ = _
  rw [Function.update_of_ne (StableHlo.devRef_ne_of_ne (by decide)), Function.update_self, outs_result]

/-- The launch's resources of a core make its first state. -/
theorem start (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(StableHlo.held (c : Thread nD τ) (Pipeline.ucRefs τ sig) (V0 m c) ∗ E 0 c) := by
  rw [← Pipeline.unscopedBufs_held (Ix := Unit) (Name := ℕ) (U := UR sig nD τ) (Lvl := ℕ) c (V0 m c)]
  iintro ⟨Hb, -, HO, -, Hp, -⟩
  isplitl [Hb]; · iexact Hb
  isplitl [HO]; · iexists _; iexact HO
  iexists _; iexact Hp

set_option backward.isDefEq.respectTransparency.types false in
/-- THE RUN: every weakly fair execution ends with the result at what the second region leaves, the arguments as launched and
    every semaphore counter at zero. -/
theorem run : θ_run defs (onTc (τ := τ) (main (F := F))) ⟨m, fun _ => 0, ρ⟩ (fun r => (∀ c : Dev nD,
      r.2.mem ((c.tc : Thread nD τ).loc main_v1) = contextOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (R0 m) (R1 m))
    (fun c Q => by
      rewrite [main_chain c, Seg.run_eq_chain,
        show (segs m (outs m) Variants.none L lv E () (pdats m) (R0 m) (R1 m) c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => BI.emp) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨pre0 m c, post0 m c, pre1 m c, (post1 m c).trans (sep_mono .rfl (by iintro ⟨HO, -⟩; iexact HO))⟩)
    (hinit := ?_) (QY := fun c s => s.mem ((c.tc : Thread nD τ).loc main_v1) = contextOut m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ E 0 c) : sProp 𝕄) :=
      bigSep_mono fun c _ => start m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v1) (Finset.mem_filter.mpr ⟨StableHlo.devRef_mem_tcRefs main_v1, by decide⟩)).trans (V3_result m c),
        (h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c)⟩
    · iexact HSI

end Cert.Kernel19Ideal.Whole

end
-- ==== Proof.WholeRef.lean ====
/-
  The whole attention's reference (`Reference19Ideal`): its latent rows are the latent call's reference's and its context rows the
  context call's, which compute them by the same operations.
-/
module

public import proofs.«01_k».proof.Proof.AttnRef
public import proofs.«01_k».proof.Proof.AttnContext
public import proofs.«01_k».proof.Proof.Gen.Reference19Ideal.Read

@[expose] public section

set_option maxRecDepth 16384

noncomputable section

open Idealize.ShloMosaic Idealize.ShloMosaic.TcCoe Idealize.SL.Sem

namespace Cert.Reference19Ideal.Whole

open Cert.Reference19Ideal Cert.Reference19Ideal.Gen Cert.Reference19Ideal.Read

/-- The latent rows' part is the latent call's reference's. -/
theorem latent_eq (q : FVec Ideal S17408x4096 .bf16) (k v : FVec Ideal S17408x1024 .bf16) :
    val_main_v33 (F := Ideal) q k v = Cert.ReferenceIdeal.Read.val_main_v31 (F := Ideal) q k v := rfl

/-- The context rows' part is the context call's reference's. -/
theorem context_eq (q : FVec Ideal S17408x4096 .bf16) (k v : FVec Ideal S17408x1024 .bf16) :
    val_main_v50 (F := Ideal) q k v = Cert.Reference15Ideal.Read.val_main_v25 (F := Ideal) q k v := rfl

/-- Over any array that agrees with the latent call's reference on the latent rows, the context call's reference is the whole's. -/
theorem result_eq (q : FVec Ideal S17408x4096 .bf16) (k v : FVec Ideal S17408x1024 .bf16) (o : FVec Ideal S17408x4096 .bf16)
    (ho : ∀ i : S17408x4096.Idx, (i 0).val < 16384 → o i = Cert.ReferenceIdeal.Read.val_main_v33 (F := Ideal) q k v i) :
    Cert.Reference15Ideal.Read.val_main_v27 (F := Ideal) q k v o = val_main_v51 (F := Ideal) q k v := by
  have e : ∀ (r : Fin 17408) (c : Fin 4096),
      Cert.Reference15Ideal.Read.val_main_v27 (F := Ideal) q k v o (ix2 r c) = val_main_v51 (F := Ideal) q k v (ix2 r c) := fun r c => by
    by_cases hr : r.val < 16384
    · refine (Cert.Reference15Ideal.AttnContext.result_latent q k v o (ix2 r c) hr).trans ((ho _ hr).trans ?_)
      unfold Cert.ReferenceIdeal.Read.val_main_v33 val_main_v51
      rw [latent_eq]
      generalize Cert.ReferenceIdeal.Read.val_main_v31 (F := Ideal) q k v = a
      pointwise
      rw [dif_pos hr, dif_pos hr]
    · unfold Cert.Reference15Ideal.Read.val_main_v27 val_main_v51
      rw [context_eq]
      generalize Cert.Reference15Ideal.Read.val_main_v25 (F := Ideal) q k v = a
      pointwise
      rw [dif_neg hr, dif_neg hr]
  funext i
  rw [eq_ix2 i]
  exact e _ _

end Cert.Reference19Ideal.Whole

end
-- ==== Proof.WholeValue.lean ====
/-
  The whole attention's two regions (`Kernel19Ideal`), each over any contents at its entry: the latent region leaves the latent call's
  reference on the latent rows, the context region the context call's reference of the array it finds.
-/
module

public import proofs.«01_k».proof.Proof.ContextIdeal
public import proofs.«01_k».proof.Proof.AttnValue
public import proofs.«01_k».proof.Proof.AttnContext
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel19Ideal.Latent
open Cert.Kernel19Ideal Cert.Kernel19Ideal.Gen

/-- The first head's payload is the latent call's. -/
theorem latent_pay (q : Vec Ideal S256x128 .bf16) (kc : Vec Ideal S256x128 .bf16) (kl : Vec Ideal S4096x128 .bf16)
    (vc : Vec Ideal S256x128 .bf16) (vl : Vec Ideal S4096x128 .bf16) (r : Fin 256) (d : Fin 128) :
    k0_pay2 (F := Ideal) q kc kl vc vl (ix2 r d)
      = SoftmaxMath.tile (fun x : Fin 4096 => ∑ e : Fin 128, q (ix2 r e) * kl (ix2 x e))
          (fun x : Fin 256 => ∑ e : Fin 128, q (ix2 r e) * kc (ix2 x e)) (fun x => vl (ix2 x d)) (fun x => vc (ix2 x d)) :=
  Cert.KernelIdeal.Attn.pay_head q kc kl vc vl r d

/-- The other heads' payloads are the first's text. -/
theorem pay3_eq (q : Vec Ideal S256x128 .bf16) (kc : Vec Ideal S256x128 .bf16) (kl : Vec Ideal S4096x128 .bf16)
    (vc : Vec Ideal S256x128 .bf16) (vl : Vec Ideal S4096x128 .bf16) :
    k0_pay3 (F := Ideal) q kc kl vc vl = k0_pay2 q kc kl vc vl := rfl

theorem pay6_eq (q : Vec Ideal S256x128 .bf16) (kc : Vec Ideal S256x128 .bf16) (kl : Vec Ideal S4096x128 .bf16)
    (vc : Vec Ideal S256x128 .bf16) (vl : Vec Ideal S4096x128 .bf16) :
    k0_pay6 (F := Ideal) q (k0_pay4 q kc) (k0_pay5 q kc) kl vc vl = k0_pay2 q kc kl vc vl := rfl

theorem pay1_eq (q : Vec Ideal S256x128 .bf16) (kc : Vec Ideal S256x128 .bf16) (kl : Vec Ideal S4096x128 .bf16)
    (vc : Vec Ideal S256x128 .bf16) (vl : Vec Ideal S4096x128 .bf16) :
    k0_pay1 (F := Ideal) (k0_pay7 q kc) (k0_pay8 q kc) (k0_pay9 q kl) (k0_pay10 q kl) vc vl = k0_pay2 q kc kl vc vl := rfl

variable (V : (c : Dev nD) → (b : Ref sig .tc) → Buf (Elt Ideal) ((c : Thread nD τ).loc b))

/-- The block indices of every window at grid point `t`: the grid is (batch element, key head, query tile), 4 by 8 by 16. -/
theorem idx : ∀ t : Fin cfg0.N, win0_0.index t = ![t.val / 128 * 16 + t.val % 16, t.val / 16 % 8]
    ∧ win0_1.index t = ![t.val / 128, t.val / 16 % 8] ∧ win0_2.index t = ![64 + t.val / 128, t.val / 16 % 8]
    ∧ win0_3.index t = ![t.val / 128, t.val / 16 % 8] ∧ win0_4.index t = ![64 + t.val / 128, t.val / 16 % 8]
    ∧ win0_5.index t = ![t.val / 128 * 16 + t.val % 16, t.val / 16 % 8] :=
  (by decide +kernel : ∀ t : Fin grid0.N, _)

/-- The result window writes exactly the latent rows' blocks. -/
theorem covers : (cfg0.win 5).CoversWhere (fun β => β 0 < 64) := by decide +kernel

/-- Entry of the latent keys' block at point `t`: row `x` of batch element `t / 128`, column `e` of key head `t / 16 % 8`. -/
theorem latentKeys (c : Dev nD) (t : Fin cfg0.N) (x : Fin 4096) (e : Fin 128) (i : S17408x1024.Idx)
    (h0 : (i 0).val = t.val / 128 * 4096 + x.val) (h1 : (i 1).val = t.val / 16 % 8 * 128 + e.val) :
    (show Vec Ideal S4096x128 .bf16 from X0_1 V c t) (ix2 x e) = V c main_arg1 i := by
  show X0_1 V c t (ix2 x e) = _
  unfold X0_1 Pipeline.Window.fill
  rw [dif_pos (moved0_1 t _)]
  blk_ext [iblk, idx t]

/-- The same of the latent values' block. -/
theorem latentValues (c : Dev nD) (t : Fin cfg0.N) (x : Fin 4096) (e : Fin 128) (i : S17408x1024.Idx)
    (h0 : (i 0).val = t.val / 128 * 4096 + x.val) (h1 : (i 1).val = t.val / 16 % 8 * 128 + e.val) :
    (show Vec Ideal S4096x128 .bf16 from X0_3 V c t) (ix2 x e) = V c main_arg2 i := by
  show X0_3 V c t (ix2 x e) = _
  unfold X0_3 Pipeline.Window.fill
  rw [dif_pos (moved0_3 t _)]
  blk_ext [iblk, idx t]

/-- Entry of the context keys' block at point `t`: context row `x` of the batch element. -/
theorem contextKeys (c : Dev nD) (t : Fin cfg0.N) (x : Fin 256) (e : Fin 128) (i : S17408x1024.Idx)
    (h0 : (i 0).val = 16384 + t.val / 128 * 256 + x.val) (h1 : (i 1).val = t.val / 16 % 8 * 128 + e.val) :
    (show Vec Ideal S256x128 .bf16 from iblk V c 2 t) (ix2 x e) = V c main_arg1 i := by
  show iblk V c 2 t (ix2 x e) = _
  blk_ext [iblk, idx t]

/-- The same of the context values' block. -/
theorem contextValues (c : Dev nD) (t : Fin cfg0.N) (x : Fin 256) (e : Fin 128) (i : S17408x1024.Idx)
    (h0 : (i 0).val = 16384 + t.val / 128 * 256 + x.val) (h1 : (i 1).val = t.val / 16 % 8 * 128 + e.val) :
    (show Vec Ideal S256x128 .bf16 from iblk V c 4 t) (ix2 x e) = V c main_arg2 i := by
  show iblk V c 4 t (ix2 x e) = _
  blk_ext [iblk, idx t]

/-- Entry of the queries' block at point `t`: row `r` of query tile `t % 16` of the batch element, column `o` of the key head's
    four query heads. -/
theorem queries (c : Dev nD) (t : Fin cfg0.N) (r : Fin 256) (o : Fin 512) (i : S17408x4096.Idx)
    (h0 : (i 0).val = t.val / 128 * 4096 + t.val % 16 * 256 + r.val) (h1 : (i 1).val = t.val / 16 % 8 * 512 + o.val) :
    (show Vec Ideal S256x512 .bf16 from iblk V c 0 t) (ix2 r o) = V c main_arg0 i := by
  show iblk V c 0 t (ix2 r o) = _
  blk_ext [iblk, idx t]

/-- The reference's value at element `i` of a latent row: the softmax of row `i 0`'s scores, head by head. -/
def target (q : FVec Ideal S17408x4096 .bf16) (k v : FVec Ideal S17408x1024 .bf16) (i : S17408x4096.Idx) : EReal :=
  Cert.ReferenceIdeal.Read.val_main_v33 (F := Ideal) q k v i

/-- ONE HEAD: over the query columns of head `g`, the payload at row `r` and column `d` is the reference's element there. -/
theorem head (c : Dev nD) (hq : ∀ i, ∃ a : ℝ, V c main_arg0 i = (a : EReal))
    (hk : ∀ i, ∃ a : ℝ, V c main_arg1 i = (a : EReal)) (t : Fin cfg0.N) (g : Fin 4)
    (qh : Vec Ideal S256x128 .bf16)
    (hqh : ∀ (r : Fin 256) (e : Fin 128), qh (ix2 r e) = (show Vec Ideal S256x512 .bf16 from iblk V c 0 t) (ix2 r ⟨g.val * 128 + e.val, by omega⟩))
    (r : Fin 256) (d : Fin 128) (i : S17408x4096.Idx) (h0 : (i 0).val = t.val / 128 * 4096 + t.val % 16 * 256 + r.val)
    (h1 : (i 1).val = t.val / 16 % 8 * 512 + g.val * 128 + d.val) :
    k0_pay2 (F := Ideal) qh (iblk V c 2 t) (X0_1 V c t) (iblk V c 4 t) (X0_3 V c t) (ix2 r d)
      = target (V c main_arg0) (V c main_arg1) (V c main_arg2) i := by
  have ht : t.val < 512 := lt_of_lt_of_eq t.isLt N_0
  have hi : i = ix2 (⟨t.val / 128 * 4096 + t.val % 16 * 256 + r.val, by omega⟩ : Fin 17408)
      (⟨t.val / 16 % 8 * 512 + g.val * 128 + d.val, by omega⟩ : Fin 4096) := by
    funext a
    match a with
    | ⟨0, _⟩ => exact Fin.ext h0
    | ⟨1, _⟩ => exact Fin.ext h1
  unfold target
  rw [hi, latent_pay, Cert.ReferenceIdeal.Attn.result_apply _ _ _ ⟨t.val / 128, by omega⟩ ⟨t.val / 16 % 8, by omega⟩ g
    ⟨t.val % 16 * 256 + r.val, by omega⟩ d _ _ (by (try blk_simp); (try dsimp only); (try omega)) (by (try blk_simp); (try dsimp only); (try omega))]
  refine SoftmaxMath.tile_eq_softmaxSum (a := 4096) (b := 256) rfl (by decide) (by decide) _ _ _ _ _ _ ?_ ?_ ?_ ?_ ?_ ?_
  · intro x
    unfold Cert.ReferenceIdeal.Attn.score Cert.ReferenceIdeal.Attn.joined
    refine Finset.sum_congr rfl fun e _ => ?_
    rw [dif_pos x.isLt, mul_comm, hqh]
    exact congrArg₂ (· * ·) (queries V c t r _ _ (by (try blk_simp); (try dsimp only); (try omega)) (by (try blk_simp); (try dsimp only); (try omega))).symm
      (latentKeys V c t x e _ rfl rfl).symm
  · intro x
    unfold Cert.ReferenceIdeal.Attn.score Cert.ReferenceIdeal.Attn.joined
    refine Finset.sum_congr rfl fun e _ => ?_
    rw [dif_neg (by show ¬ 4096 + x.val < 4096; omega), mul_comm, hqh]
    exact congrArg₂ (· * ·) (queries V c t r _ _ (by (try blk_simp); (try dsimp only); (try omega)) (by (try blk_simp); (try dsimp only); (try omega))).symm
      (contextKeys V c t x e _ (by (try blk_simp); (try dsimp only); (try omega)) rfl).symm
  · intro x
    unfold Cert.ReferenceIdeal.Attn.joined
    rw [dif_pos x.isLt]
    exact (latentValues V c t x d _ rfl rfl).symm
  · intro x
    unfold Cert.ReferenceIdeal.Attn.joined
    rw [dif_neg (by show ¬ 4096 + x.val < 4096; omega)]
    exact (contextValues V c t x d _ (by (try blk_simp); (try dsimp only); (try omega)) rfl).symm
  · intro x
    refine SoftmaxMath.dot_finite _ _ (fun e => ?_) (fun e => ?_)
    · obtain ⟨a, ha⟩ := hq (ix2 (⟨t.val / 128 * 4096 + t.val % 16 * 256 + r.val, by omega⟩ : Fin 17408)
        (⟨t.val / 16 % 8 * 512 + (g.val * 128 + e.val), by omega⟩ : Fin 4096))
      exact ⟨a, (hqh r e).trans ((queries V c t r _ _ rfl rfl).trans ha)⟩
    · obtain ⟨a, ha⟩ := hk (ix2 (⟨t.val / 128 * 4096 + x.val, by omega⟩ : Fin 17408) (⟨t.val / 16 % 8 * 128 + e.val, by omega⟩ : Fin 1024))
      exact ⟨a, (latentKeys V c t x e _ rfl rfl).trans ha⟩
  · intro x
    refine SoftmaxMath.dot_finite _ _ (fun e => ?_) (fun e => ?_)
    · obtain ⟨a, ha⟩ := hq (ix2 (⟨t.val / 128 * 4096 + t.val % 16 * 256 + r.val, by omega⟩ : Fin 17408)
        (⟨t.val / 16 % 8 * 512 + (g.val * 128 + e.val), by omega⟩ : Fin 4096))
      exact ⟨a, (hqh r e).trans ((queries V c t r _ _ rfl rfl).trans ha)⟩
    · obtain ⟨a, ha⟩ := hk (ix2 (⟨16384 + t.val / 128 * 256 + x.val, by omega⟩ : Fin 17408) (⟨t.val / 16 % 8 * 128 + e.val, by omega⟩ : Fin 1024))
      exact ⟨a, (contextKeys V c t x e _ rfl rfl).trans ha⟩

/-- What the body leaves in the result's block at point `t` is the reference there. -/
theorem point (c : Dev nD) (hq : ∀ i, ∃ a : ℝ, V c main_arg0 i = (a : EReal))
    (hk : ∀ i, ∃ a : ℝ, V c main_arg1 i = (a : EReal)) (t : Fin cfg0.N) (y : S256x512.Idx)
    (i : S17408x4096.Idx) (hi0 : (i 0).val = t.val / 128 * 4096 + t.val % 16 * 256 + (y 0).val)
    (hi1 : (i 1).val = t.val / 16 % 8 * 512 + (y 1).val) :
    outsAt0 V c t y
      = target (V c main_arg0) (V c main_arg1) (V c main_arg2) i := by
  unfold outsAt0
  frame_out
  canon_tiles x h
  · rw [pay1_eq, eq_ix2 x]
    refine head V c hq hk t 3 _ (fun r e => ?_) (x 0) (x 1) i (by omega) ?_
    · pointwise; blk_ext
    · show _ = t.val / 16 % 8 * 512 + 3 * 128 + (x 1).val; omega
  · rw [pay6_eq, eq_ix2 x]
    refine head V c hq hk t 2 _ (fun r e => ?_) (x 0) (x 1) i (by omega) ?_
    · pointwise; blk_ext
    · show _ = t.val / 16 % 8 * 512 + 2 * 128 + (x 1).val; omega
  · rw [pay3_eq, eq_ix2 x]
    refine head V c hq hk t 1 _ (fun r e => ?_) (x 0) (x 1) i (by omega) ?_
    · pointwise; blk_ext
    · show _ = t.val / 16 % 8 * 512 + 1 * 128 + (x 1).val; omega
  · rw [eq_ix2 x]
    refine head V c hq hk t 0 _ (fun r e => ?_) (x 0) (x 1) i (by omega) ?_
    · pointwise; blk_ext
    · show _ = t.val / 16 % 8 * 512 + 0 * 128 + (x 1).val; omega

/-- The result array after the run: the reference's value at every latent row. -/
theorem final (c : Dev nD) (hq : ∀ i, ∃ a : ℝ, V c main_arg0 i = (a : EReal))
    (hk : ∀ i, ∃ a : ℝ, V c main_arg1 i = (a : EReal)) (i : S17408x4096.Idx) (hi : (i 0).val < 16384) :
    (dat V c).arrAt 5 cfg0.N i
      = target (V c main_arg0) (V c main_arg1) (V c main_arg2) i := by
  refine ((dat V c).arrAt_apply_of_coversWhere 5
    (target (V c main_arg0) (V c main_arg1) (V c main_arg2))
    (P := fun i => (i 0).val < 16384) (fun β => β 0 < 64) covers (fun t hf y => ?_)
    (fun j => by blk_simp [Pipeline.Window.cell_apply]; omega) i).trans (if_pos hi)
  blk_simp
  rw [after0_5 V]
  exact point V c hq hk t y _ (by blk_simp [idx t]; try omega) (by blk_simp [idx t]; try omega)

end Cert.Kernel19Ideal.Latent

namespace Cert.Kernel19Ideal.Context
open Cert.Kernel19Ideal Cert.Kernel19Ideal.Gen

/-- The first head's payload is the context call's. -/
theorem pay_head (q k v : Vec Ideal S256x128 .bf16) (r : Fin 256) (d : Fin 128) (s col : Fin 256 → EReal)
    (hs : ∀ x, ∑ e : Fin 128, q (ix2 r e) * k (ix2 x e) = s x) (hv : ∀ x, v (ix2 x d) = col x)
    (fs : ∀ x, ∃ a : ℝ, s x = (a : EReal)) :
    k1_pay1 (F := Ideal) q k v (ix2 r d) = SoftmaxMath.softmaxSum s col :=
  Cert.Kernel15Ideal.AttnContext.pay_head q k v r d s col hs hv fs

/-- The other heads' payloads are the first's text. -/
theorem pay2_eq (q k v : Vec Ideal S256x128 .bf16) : k1_pay2 (F := Ideal) q k v = k1_pay1 q k v := rfl

theorem pay3_eq (q k v : Vec Ideal S256x128 .bf16) : k1_pay3 (F := Ideal) q k v = k1_pay1 q k v := rfl

theorem pay4_eq (q k v : Vec Ideal S256x128 .bf16) : k1_pay4 (F := Ideal) q k v = k1_pay1 q k v := rfl

variable (V : (c : Dev nD) → (b : Ref sig .tc) → Buf (Elt Ideal) ((c : Thread nD τ).loc b))

/-- The blocks of point `t`: the context rows of batch element `t / 8`, the columns of key head `t % 8`. -/
theorem idx : ∀ t : Fin cfg1.N, win1_0.index t = ![64 + t.val / 8, t.val % 8] ∧ win1_1.index t = ![64 + t.val / 8, t.val % 8]
    ∧ win1_2.index t = ![64 + t.val / 8, t.val % 8] ∧ win1_3.index t = ![64 + t.val / 8, t.val % 8] :=
  (by decide +kernel : ∀ t : Fin grid1.N, _)

/-- The result window writes exactly the context rows' blocks. -/
theorem covers : (cfg1.win 3).CoversWhere (fun β => 64 ≤ β 0) := by decide +kernel

/-- Entry of the queries' block: column `o` of the key head's four query heads. -/
theorem queries (c : Dev nD) (t : Fin cfg1.N) (r : Fin 256) (o : Fin 512) (i : S17408x4096.Idx)
    (h0 : (i 0).val = 16384 + (t.val / 8 * 256 + r.val)) (h1 : (i 1).val = t.val % 8 * 512 + o.val) :
    (show Vec Ideal S256x512 .bf16 from iblk V c 0 t) (ix2 r o) = V c main_arg0 i := by
  show iblk V c 0 t (ix2 r o) = _
  blk_ext [iblk, idx t]

/-- Entry of the keys' block. -/
theorem keys (c : Dev nD) (t : Fin cfg1.N) (x : Fin 256) (e : Fin 128) (i : S17408x1024.Idx)
    (h0 : (i 0).val = 16384 + (t.val / 8 * 256 + x.val)) (h1 : (i 1).val = t.val % 8 * 128 + e.val) :
    (show Vec Ideal S256x128 .bf16 from iblk V c 1 t) (ix2 x e) = V c main_arg1 i := by
  show iblk V c 1 t (ix2 x e) = _
  blk_ext [iblk, idx t]

/-- The same of the values' block. -/
theorem values (c : Dev nD) (t : Fin cfg1.N) (x : Fin 256) (e : Fin 128) (i : S17408x1024.Idx)
    (h0 : (i 0).val = 16384 + (t.val / 8 * 256 + x.val)) (h1 : (i 1).val = t.val % 8 * 128 + e.val) :
    (show Vec Ideal S256x128 .bf16 from iblk V c 2 t) (ix2 x e) = V c main_arg2 i := by
  show iblk V c 2 t (ix2 x e) = _
  blk_ext [iblk, idx t]

/-- The reference's value. -/
def target (q : FVec Ideal S17408x4096 .bf16) (k v : FVec Ideal S17408x1024 .bf16) (o : FVec Ideal S17408x4096 .bf16) :
    FVec Ideal S17408x4096 .bf16 :=
  Cert.Reference15Ideal.Read.val_main_v27 (F := Ideal) q k v o

/-- ONE HEAD: over the query columns of head `g`, the payload at row `r` and column `d` is the reference's element there. -/
theorem head (c : Dev nD) (hq : ∀ i, ∃ a : ℝ, V c main_arg0 i = (a : EReal))
    (hk : ∀ i, ∃ a : ℝ, V c main_arg1 i = (a : EReal)) (t : Fin cfg1.N) (g : Fin 4)
    (qh : Vec Ideal S256x128 .bf16)
    (hqh : ∀ (r : Fin 256) (e : Fin 128), qh (ix2 r e) = (show Vec Ideal S256x512 .bf16 from iblk V c 0 t) (ix2 r ⟨g.val * 128 + e.val, by omega⟩))
    (r : Fin 256) (d : Fin 128) (i : S17408x4096.Idx) (h0 : (i 0).val = 16384 + (t.val / 8 * 256 + r.val))
    (h1 : (i 1).val = t.val % 8 * 512 + g.val * 128 + d.val) :
    k1_pay1 (F := Ideal) qh (iblk V c 1 t) (iblk V c 2 t) (ix2 r d)
      = target (V c main_arg0) (V c main_arg1) (V c main_arg2)
          (V c main_v1) i := by
  have ht : t.val < 32 := t.isLt
  have hi : i = ix2 (⟨16384 + (t.val / 8 * 256 + r.val), by omega⟩ : Fin 17408)
      (⟨t.val % 8 * 512 + g.val * 128 + d.val, by omega⟩ : Fin 4096) := by
    funext a
    match a with
    | ⟨0, _⟩ => exact Fin.ext h0
    | ⟨1, _⟩ => exact Fin.ext h1
  unfold target
  rw [hi, Cert.Reference15Ideal.AttnContext.result_apply _ _ _ _ ⟨t.val / 8, by omega⟩ ⟨t.val % 8, by omega⟩ g r d _ _ rfl rfl]
  refine pay_head _ _ _ r d _ _ (fun x => ?_) (fun x => values V c t x d _ rfl rfl) (fun x => ?_)
  · unfold Cert.Reference15Ideal.AttnContext.score Cert.Reference15Ideal.AttnContext.entry
    refine Finset.sum_congr rfl fun e _ => ?_
    rw [hqh, mul_comm]
    exact congrArg₂ (· * ·) (keys V c t x e _ rfl rfl) (queries V c t r _ _ rfl (by show t.val % 8 * 512 + g.val * 128 + e.val = t.val % 8 * 512 + (g.val * 128 + e.val); omega))
  · exact SoftmaxMath.dot_finite _ _ (fun e => hk _) (fun e => hq _)

/-- What the body leaves in the result's block at point `t` is the reference there. -/
theorem point (c : Dev nD) (hq : ∀ i, ∃ a : ℝ, V c main_arg0 i = (a : EReal))
    (hk : ∀ i, ∃ a : ℝ, V c main_arg1 i = (a : EReal)) (t : Fin cfg1.N) (y : S256x512.Idx)
    (i : S17408x4096.Idx) (hi0 : (i 0).val = 16384 + (t.val / 8 * 256 + (y 0).val))
    (hi1 : (i 1).val = t.val % 8 * 512 + (y 1).val) :
    outsAt1 V c t y
      = target (V c main_arg0) (V c main_arg1) (V c main_arg2)
          (V c main_v1) i := by
  unfold outsAt1
  frame_out
  canon_tiles x h
  · rw [pay4_eq, eq_ix2 x]
    refine head V c hq hk t 3 _ (fun r e => ?_) (x 0) (x 1) i (by omega) ?_
    · pointwise; blk_ext
    · show _ = t.val % 8 * 512 + 3 * 128 + (x 1).val; omega
  · rw [pay3_eq, eq_ix2 x]
    refine head V c hq hk t 2 _ (fun r e => ?_) (x 0) (x 1) i (by omega) ?_
    · pointwise; blk_ext
    · show _ = t.val % 8 * 512 + 2 * 128 + (x 1).val; omega
  · rw [pay2_eq, eq_ix2 x]
    refine head V c hq hk t 1 _ (fun r e => ?_) (x 0) (x 1) i (by omega) ?_
    · pointwise; blk_ext
    · show _ = t.val % 8 * 512 + 1 * 128 + (x 1).val; omega
  · rw [eq_ix2 x]
    refine head V c hq hk t 0 _ (fun r e => ?_) (x 0) (x 1) i (by omega) ?_
    · pointwise; blk_ext
    · show _ = t.val % 8 * 512 + 0 * 128 + (x 1).val; omega

/-- THE RESULT ARRAY: after the run it is the reference's value of the arguments, on every row. -/
theorem final (c : Dev nD) (hq : ∀ i, ∃ a : ℝ, V c main_arg0 i = (a : EReal))
    (hk : ∀ i, ∃ a : ℝ, V c main_arg1 i = (a : EReal)) :
    (dat V c).arrAt 3 cfg1.N
      = target (V c main_arg0) (V c main_arg1) (V c main_arg2)
          (V c main_v1) := by
  refine (dat V c).arrAt_eq_of_coversWhere_of_agree 3 _ (fun β => 64 ≤ β 0) covers (fun t hf y => ?_) (fun j hj => ?_)
  · blk_simp
    rw [after1_3 V]
    exact point V c hq hk t y _ (by blk_simp [idx t]; try omega) (by blk_simp [idx t]; try omega)
  · rw [A_eq]
    refine (Cert.Reference15Ideal.AttnContext.result_latent _ _ _ _ _ ?_).symm
    blk_simp [Pipeline.Window.cell_apply] at hj ⊢
    omega

end Cert.Kernel19Ideal.Context

end
-- ==== Proof.WholeClaims.lean ====
/-
  The claims about the whole attention (`Kernel19` / `Kernel19Ideal` against `Reference19Ideal`): the context region finds what the
  latent region left, so the two regions' values are the reference's two parts.
-/
module

public import proofs.«01_k».proof.Defs
public import proofs.«01_k».proof.Proof.AttnClaims
public import proofs.«01_k».proof.Proof.Whole
public import proofs.«01_k».proof.Proof.WholeIdeal
public import proofs.«01_k».proof.Proof.WholeRef
public import proofs.«01_k».proof.Proof.WholeValue
public import proofs.«01_k».proof.Proof.Gen.Pre_finite_qk
public import Idealize.ShloMosaic.Lib.Claim

@[expose] public section

set_option maxRecDepth 16384

noncomputable section

open Idealize.ShloMosaic Idealize.SL.Sem

namespace Cert.Kernel19Ideal.Whole

open Cert.Kernel19Ideal Cert.Kernel19Ideal.Gen TcCoe

variable (m : (ℓ : Loc nD τ sig) → Buf (Elt Ideal) ℓ)

/-- An argument as the second region finds it is the one launched. -/
theorem found (c : Dev nD) (r : Ref sig .tc) (h0 : r ≠ main_v0) (h1 : r ∉ hostOps1_W) : Vb m c r = m ((c : Thread nD τ).loc r) :=
  (StableHlo.after_of_writes_sub hostOps1 _ hostOps1_writes h1).trans (Function.update_of_ne (StableHlo.devRef_ne_of_ne h0) _ _)

/-- The second region finds in its result's array what the first left. -/
theorem found_result (c : Dev nD) : Vb m c main_v1 = latentOut m c := by
  show StableHlo.after hostOps1 (W1 m c) main_v1 = _
  unfold hostOps1
  after_results
  exact Function.update_self (Proc.devRef .tc main_v0) (latentOut m c) (V0 m c)

/-- The reference's value. -/
def target (q : FVec Ideal S17408x4096 .bf16) (k v : FVec Ideal S17408x1024 .bf16) : FVec Ideal S17408x4096 .bf16 :=
  Cert.Reference19Ideal.Read.val_main_v51 (F := Ideal) q k v

/-- THE RESULT: with finite queries and keys, the run leaves the reference's value of the arguments, on every row. -/
theorem result (c : Dev nD) (hq : ∀ i, ∃ a : ℝ, m ((c : Thread nD τ).loc main_arg0) i = (a : EReal))
    (hk : ∀ i, ∃ a : ℝ, m ((c : Thread nD τ).loc main_arg1) i = (a : EReal)) :
    contextOut m c
      = target (m ((c : Thread nD τ).loc main_arg0)) (m ((c : Thread nD τ).loc main_arg1)) (m ((c : Thread nD τ).loc main_arg2)) := by
  have e0 := found m c main_arg0 (by decide) (by decide)
  have e1 := found m c main_arg1 (by decide) (by decide)
  have e2 := found m c main_arg2 (by decide) (by decide)
  unfold contextOut
  rw [Context.final (Vb m) c (fun i => by rw [e0]; exact hq i) (fun i => by rw [e1]; exact hk i), e0, e1, e2, found_result]
  exact Cert.Reference19Ideal.Whole.result_eq _ _ _ _ (fun i hi => Latent.final (Va m) c hq hk i hi)

end Cert.Kernel19Ideal.Whole

namespace Cert.WholeAttn

variable (m : (ℓ : Loc Cert.Kernel19Ideal.nD Cert.Kernel19Ideal.τ Cert.Kernel19Ideal.sig) → Buf (Elt Ideal) ℓ)

/-- Under the precondition every query is a real number. -/
theorem real_q (h : Cert.Pre_Kernel19Ideal_finite_qk m) (c : Dev Cert.Kernel19Ideal.nD) (i : Cert.Kernel19Ideal.S17408x4096.Idx) :
    ∃ a : ℝ, m ((c.tc : Thread Cert.Kernel19Ideal.nD Cert.Kernel19Ideal.τ).loc Cert.Kernel19Ideal.main_arg0) i = (a : EReal) :=
  Cert.Attn.real_of_abs_lt _ (congrFun (h c).1 i)

/-- Under the precondition every key is a real number. -/
theorem real_k (h : Cert.Pre_Kernel19Ideal_finite_qk m) (c : Dev Cert.Kernel19Ideal.nD) (i : Cert.Kernel19Ideal.S17408x1024.Idx) :
    ∃ a : ℝ, m ((c.tc : Thread Cert.Kernel19Ideal.nD Cert.Kernel19Ideal.τ).loc Cert.Kernel19Ideal.main_arg1) i = (a : EReal) :=
  Cert.Attn.real_of_abs_lt _ (congrFun (h c).2 i)

/-- The printed kernel runs, keeps its arguments and ends quiescent. -/
theorem frame_kernel : Cert.quiescent_Kernel19 := fun m ρ _ =>
  (θ_run Cert.Kernel19.defs _ _).mono (fun r h => ⟨fun c => (h.1 c).2, h.2⟩) (Cert.Kernel19.Whole.run m ρ)

/-- So does the idealized kernel. -/
theorem frame_ideal : Cert.quiescent_Kernel19Ideal := fun m ρ _ =>
  (θ_run Cert.Kernel19Ideal.defs _ _).mono (fun r h => ⟨fun c => (h.1 c).2, h.2⟩) (Cert.Kernel19Ideal.Whole.run m ρ)

/-- The same under the precondition. -/
theorem frame_ideal_pre : Cert.quiescent_Kernel19Ideal_pre_finite_qk := fun m ρ _ => frame_ideal m ρ trivial

/-- So does the reference, a host program without semaphores. -/
theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- The same under the precondition. -/
theorem frame_reference_pre : Cert.quiescent_Reference19Ideal_pre_finite_qk := fun m ρ _ => frame_reference m ρ trivial

/-- THE VALUE: over the extended reals, with finite queries and keys, the kernel and the reference leave the same array. -/
theorem algebraic : Cert.algebraic_Kernel19Ideal_Reference19Ideal_pre_finite_qk := by
  intro m ρ m' ρ' hpre hagree
  refine ⟨fun c => Cert.Kernel19Ideal.Whole.target
    (m ((c.tc : Thread Cert.Kernel19Ideal.nD Cert.Kernel19Ideal.τ).loc Cert.Kernel19Ideal.main_arg0))
    (m ((c.tc : Thread Cert.Kernel19Ideal.nD Cert.Kernel19Ideal.τ).loc Cert.Kernel19Ideal.main_arg1))
    (m ((c.tc : Thread Cert.Kernel19Ideal.nD Cert.Kernel19Ideal.τ).loc Cert.Kernel19Ideal.main_arg2)), ?_, ?_⟩
  · exact (θ_run Cert.Kernel19Ideal.defs _ _).mono
      (fun r h c => ⟨(h.1 c).1.trans (Cert.Kernel19Ideal.Whole.result m c (real_q m hpre c) (real_k m hpre c)), (h.1 c).2⟩)
      (Cert.Kernel19Ideal.Whole.run m ρ)
  · refine (θ_run Cert.Reference19Ideal.defs _ _).mono (fun r h c => ⟨?_, (h c).2⟩)
      (Cert.Reference19Ideal.Value.run (F := Ideal) m' ρ')
    rw [(h c).1, Cert.Reference19Ideal.Read.val_main_v51_eq, (hagree c).1, (hagree c).2.1, (hagree c).2.2]
    rfl

end Cert.WholeAttn

end
-- ==== Proof.S5Ideal.lean ====
/-
  The frame of the chunked state-space mixer's call from its prepared matrices: from any memory it runs to its end, leaves
  its arguments as they were and every semaphore at zero. Nothing is said of what it computes, so every window is taken
  from the pipeline at any contents and given back at any contents, and so are the two scratch buffers; the body is run
  once, its two counted loops by their printed invariants.
-/
module

public import proofs.«01_k».proof.Defs
public import proofs.«01_k».proof.Proof.Gen.Kernel16Ideal.Frame
public import proofs.«01_k».proof.Proof.Gen.Kernel16Ideal.Loops
public import Idealize.ShloMosaic.Lib.Pipeline.Frame
public import Idealize.ShloMosaic.Lib.Tactic

@[expose] public section

set_option maxRecDepth 16384

noncomputable section

namespace Cert.S5.Idealized

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run once -/

/-- A memref's buffer held whole at some contents. -/
abbrev some_ (c : Dev nD) {sp : Space} {S : Shape} {e : EltTy} (M : Memref sig .tc sp S e) : sProp 𝕄 :=
  iprop(∃ d, owns (c : Thread nD τ) M fullShare d)

set_option maxHeartbeats 4000000 in
/-- From every staging buffer and both scratch buffers at any contents, the body runs to its end and gives them back at
    some contents. -/
theorem kernelRun (c : Dev nD) (i : grid0.Coords) (arg2 : Memref sig .tc .vmem S1x2048x2048 .bf16) (harg2 : arg2.IsWhole) (arg3 : Memref sig .tc .vmem S1x2048x2048 .bf16) (harg3 : arg3.IsWhole) (arg4 : Memref sig .tc .vmem S1x2048x2048 .bf16) (harg4 : arg4.IsWhole) (arg5 : Memref sig .tc .vmem S4096x128 .f32) (harg5 : arg5.IsWhole) (arg6 : Memref sig .tc .vmem S256x128 .f32) (harg6 : arg6.IsWhole) (arg7 : Memref sig .tc .vmem S1x48x512 .f32) (harg7 : arg7.IsWhole) (arg8 : Memref sig .tc .vmem S4096x128 .f32) (harg8 : arg8.IsWhole) (arg9 : Memref sig .tc .vmem S256x128 .f32) (harg9 : arg9.IsWhole) (arg10 : Memref sig .tc .vmem S272x2048 .bf16) (harg10 : arg10.IsWhole) (arg11 : Memref sig .tc .vmem S272x2048 .f32) (harg11 : arg11.IsWhole) (K : PUnit → sProp 𝕄) :
    iprop(some_ c arg2 ∗ some_ c arg3 ∗ some_ c arg4 ∗ some_ c arg5 ∗ some_ c arg6 ∗ some_ c arg7 ∗ some_ c arg8 ∗ some_ c arg9 ∗ some_ c arg10 ∗ some_ c arg11
        ∗ (iprop(some_ c arg2 ∗ some_ c arg3 ∗ some_ c arg4 ∗ some_ c arg5 ∗ some_ c arg6 ∗ some_ c arg7 ∗ some_ c arg8 ∗ some_ c arg9 ∗ some_ c arg10 ∗ some_ c arg11) -∗ K ⟨⟩))
      ⊢ wp frame (wpE (defs₀ (F := F)) Variants.none c none) Set.univ (cc0_s5_chunked i arg2 harg2 arg3 harg3 arg4 harg4 arg5 harg5 arg6 harg6 arg7 harg7 arg8 harg8 arg9 harg9 arg10 harg10 arg11 harg11) K := by
  simp only [cc0_s5_chunked_eq_skeleton]; unfold cc0_s5_chunked_skel
  unfold some_ owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec_parts
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-! ## The proof data and the body obligation -/

/-- The scratch buffers, whole. -/
abbrev scM0 : Memref sig .tc .vmem S272x2048 .bf16 := Memref.whole cc0_scratch0
abbrev scM1 : Memref sig .tc .vmem S272x2048 .f32 := Memref.whole cc0_scratch1

/-- What holds between two points: both scratch buffers at some contents and the generator register at some state. -/
theorem PhiA_eq (c : Dev nD) :
    (Pipeline.ΦA spec0 c : sProp 𝕄) = iprop(iprop(some_ c scM0 ∗ some_ c scM1) ∗ (∃ r, prngReg c r)) := by
  unfold Pipeline.ΦA some_; rw [scopedRest0_eq]; simp only [scM0, scM1, owns_whole]; try rfl

/-- Every window is forgotten. -/
def forgets : Fin 8 → Bool := fun _ => true

/-- The proof data: the arrays as the region finds them, nothing named of what the body leaves, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at a point, and what it returns. -/
def bodyRes (c : Dev nD) (t : Fin cfg0.N) : sProp 𝕄 :=
  iprop(Pipeline.ΦA spec0 c ∗ (dats m 0 c).owesAt () t.castSucc
    ∗ some_ c (st0_0 t) ∗ some_ c (st0_1 t) ∗ some_ c (st0_2 t) ∗ some_ c (st0_3 t) ∗ some_ c (st0_4 t)
    ∗ some_ c (st0_5 t) ∗ some_ c (st0_6 t) ∗ some_ c (st0_7 t))

set_option maxHeartbeats 1000000 in
/-- The body at a point. -/
theorem sound_body (c : Dev nD) (t : Fin cfg0.N) :
    bodyRes m c t ⊢ wp frame (wpE (defs₀ (F := F)) Variants.none c none) Set.univ (bodyAt0 t) (fun _ => bodyRes m c t) := by
  unfold bodyRes bodyAt0
  rw [PhiA_eq]
  iintro ⟨⟨⟨HS0, HS1⟩, Hg⟩, Ho, H0, H1, H2, H3, H4, H5, H6, H7⟩
  iapply (kernelRun c (grid0.coords t) _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at the point is the body at the point's staging buffers. -/
theorem defs₀_row (t : Fin cfg0.N) : defs₀ (F := F) .tc cfg0.body (cfg0.bodyArgs t (cfg0.slots t)) = bodyAt0 t := by
  unfold defs₀; rw [Defs.onTc_tc]

/-- What the pipeline asks of the body, every window forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The launch -/

/-- The buffers the lines after the region write. -/
def T : Finset (Ref sig .tc) := {main_v1, main_v2}

theorem writes_T : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  subst hops
  simp only [hostOps1, List.mem_cons, List.mem_nil_iff, or_false] at hop
  rcases hop with rfl | rfl
  · rw [StableHlo.binary_writes, Finset.mem_singleton] at hb
    rw [Proc.devRef_injective (τ := τ) _ hb]; decide
  · rw [StableHlo.unary_writes, Finset.mem_singleton] at hb
    rw [Proc.devRef_injective (τ := τ) _ hb]; decide

set_option backward.isDefEq.respectTransparency.types false in
/-- Every execution ends; the staged arrays are as the pipeline's data say and every semaphore is at zero. -/
theorem run_main :
    θ_run defs (onTc (τ := τ) (main (F := F))) (s₀ m ρ)
      (fun r => Pipeline.RDat.FramePostR (cfgs 0) (fun c => (dats m 0 c).toRForget forgets) T (V m) r ∧ r.2.sem = fun _ => 0) :=
  Pipeline.θ_run_frame_around_T_forget_shared (Q' := _) cfgs (dats m) (0 : Fin 1) launch₀0 defs₀ Variants.none forgets T m ρ main
    (hbody := fun c => (body_obligation m c).loose) (hq := fun _ _ _ => rfl) (howed := fun _ _ => rfl)
    (V₀ := V0 m) (opss := [hostOps1]) (hsub := sfx_sub) (hfresh := sfx_fresh) (hkeep := sfx_keeps) (hT := writes_T)
    (hmain := hmain m Variants.none) (hA := A_eq m) (hΦ := fun _ _ => rfl) (hQ' := fun _ h => h)

/-- The frame: the arguments end as they began and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1.arr_in c 4 rfl).trans (V_main_arg0 m c), (h.1.arr_in c 1 rfl).trans (V_main_arg1 m c),
      (h.1.arr_in c 0 rfl).trans (V_main_arg2 m c), (h.1.arr_in c 2 rfl).trans (V_main_arg3 m c),
      (h.1.arr_in c 5 rfl).trans (V_main_arg4 m c)⟩, h.2⟩) (run_main m ρ)

end Cert.S5.Idealized

namespace Cert.S5

/-- The idealized kernel runs, keeps its arguments and ends quiescent. -/
theorem frame_ideal : Cert.quiescent_Kernel16Ideal := fun m ρ _ => Idealized.frame m ρ

end Cert.S5

end
-- ==== Proof.lean ====
/-
  The proof of `Cert.Claim` (proofs.«01_k».proof.Defs): the witnesses of the programs' stated facts, then the claims of each
  call, proved in the modules under Proof/.
-/
module

public import proofs.«01_k».proof.Defs
public import proofs.«01_k».proof.Proof.Gen.Pre_finite_qk
public import proofs.«01_k».proof.Proof.Gen.Pre_finite_context_qk
public import proofs.«01_k».proof.Proof.Gen.On_latent_rows
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Read
public import proofs.«01_k».proof.Proof.AttnClaims
public import proofs.«01_k».proof.Proof.Up
public import proofs.«01_k».proof.Proof.Down0
public import proofs.«01_k».proof.Proof.Down1
public import proofs.«01_k».proof.Proof.Down2
public import proofs.«01_k».proof.Proof.Down3
public import proofs.«01_k».proof.Proof.Glu
public import proofs.«01_k».proof.Proof.OutProj
public import proofs.«01_k».proof.Proof.ConvIn
public import proofs.«01_k».proof.Proof.ShortConv
public import proofs.«01_k».proof.Proof.AttnQ
public import proofs.«01_k».proof.Proof.AttnKV
public import proofs.«01_k».proof.Proof.NormMod
public import proofs.«01_k».proof.Proof.Ada
public import proofs.«01_k».proof.Proof.AttnContext
public import proofs.«01_k».proof.Proof.S5
public import proofs.«01_k».proof.Proof.NormFloat
public import proofs.«01_k».proof.Proof.NormFirst
public import proofs.«01_k».proof.Proof.WholeClaims
public import proofs.«01_k».proof.Proof.S5Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16.Loops
public import proofs.«01_k».proof.Proof.Gen.Kernel16Ideal.Loops
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Regions
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Regions
public import proofs.«01_k».proof.Proof.Gen.Reference19Ideal
public import proofs.«01_k».proof.Proof.Gen.Reference19Ideal.Read
public import Idealize.ShloMosaic.Adequacy
public import Idealize.ShloMosaic.Init

@[expose] public section

noncomputable section

namespace Cert.Proof

/-- Everything the certificate claims: of each call its frames, its idealization and its value. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_finite_qk.Gen.facts, Cert.Pre_finite_context_qk.Gen.facts, Cert.On_latent_rows.Gen.facts,
  Cert.Attn.frame_kernel, Cert.Attn.frame_ideal, Cert.Attn.frame_ideal_pre, Cert.Attn.frame_reference, Cert.Attn.frame_reference_pre,
  Cert.Up.frame_kernel, Cert.Up.frame_ideal, Cert.Up.frame_reference,
  Cert.Down0.frame_kernel, Cert.Down0.frame_ideal, Cert.Down0.frame_reference,
  Cert.Down1.frame_kernel, Cert.Down1.frame_ideal, Cert.Down1.frame_reference,
  Cert.Down2.frame_kernel, Cert.Down2.frame_ideal, Cert.Down2.frame_reference,
  Cert.Down3.frame_kernel, Cert.Down3.frame_ideal, Cert.Down3.frame_reference,
  Cert.Glu.frame_kernel, Cert.Glu.frame_ideal, Cert.Glu.frame_reference,
  Cert.OutProj.frame_kernel, Cert.OutProj.frame_ideal, Cert.OutProj.frame_reference,
  Cert.ConvIn.frame_kernel, Cert.ConvIn.frame_ideal, Cert.ConvIn.frame_reference,
  Cert.ShortConv.frame_kernel, Cert.ShortConv.frame_ideal, Cert.ShortConv.frame_reference,
  Cert.AttnQ.frame_kernel, Cert.AttnQ.frame_ideal, Cert.AttnQ.frame_reference,
  Cert.AttnKV.frame_kernel, Cert.AttnKV.frame_ideal, Cert.AttnKV.frame_reference,
  Cert.NormMod.frame_kernel, Cert.NormMod.frame_ideal, Cert.NormMod.frame_reference,
  Cert.Ada.frame_kernel, Cert.Ada.frame_ideal, Cert.Ada.frame_reference,
  Cert.AttnContext.frame_kernel, Cert.AttnContext.frame_ideal, Cert.AttnContext.frame_ideal_pre, Cert.AttnContext.frame_reference, Cert.AttnContext.frame_reference_pre,
  Cert.S5.frame_kernel, Cert.S5.frame_ideal,
  Cert.NormFloat.frame_kernel, Cert.NormFloat.frame_ideal, Cert.NormFloat.frame_reference,
  Cert.NormFirst.frame_kernel, Cert.NormFirst.frame_ideal, Cert.NormFirst.frame_reference,
  Cert.WholeAttn.frame_kernel, Cert.WholeAttn.frame_ideal, Cert.WholeAttn.frame_ideal_pre, Cert.WholeAttn.frame_reference, Cert.WholeAttn.frame_reference_pre,
  trivial, Cert.Attn.algebraic,
  trivial, Cert.Up.algebraic,
  trivial, Cert.Down0.algebraic,
  trivial, Cert.Down1.algebraic,
  trivial, Cert.Down2.algebraic,
  trivial, Cert.Down3.algebraic,
  trivial, Cert.Glu.algebraic,
  trivial, Cert.OutProj.algebraic,
  trivial, Cert.ConvIn.algebraic,
  trivial, Cert.ShortConv.algebraic,
  trivial, Cert.AttnQ.algebraic,
  trivial, Cert.AttnKV.algebraic,
  trivial, Cert.NormMod.algebraic,
  trivial, Cert.Ada.algebraic,
  trivial, Cert.AttnContext.algebraic,
  trivial,
  trivial, Cert.NormFloat.algebraic,
  trivial, Cert.NormFirst.algebraic,
  trivial, Cert.WholeAttn.algebraic⟩

end Cert.Proof

end
